-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_sorted_finite [hPre_sorted_finite : Cert.Pre_sorted_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_finite [hPre_sorted_finite : Cert.Pre_sorted_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_sorted_finite [hKernelIdeal : Cert.KernelIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_sorted_finite [hReferenceIdeal : Cert.ReferenceIdeal.Facts] [hPre_sorted_finite : Cert.Pre_sorted_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_sorted_finite [hKernelIdeal : Cert.KernelIdeal.Facts] [hReferenceIdeal : Cert.ReferenceIdeal.Facts] [hPre_sorted_finite : Cert.Pre_sorted_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10_3)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10_3) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts) (hPre_sorted_finite : Cert.Pre_sorted_finite.Facts),
    quiescent_Kernel (hKernel := hKernel) (hPre_in_range := hPre_in_range)
    ∧ quiescent_KernelIdeal (hKernelIdeal := hKernelIdeal) (hPre_in_range := hPre_in_range)
    ∧ quiescent_KernelIdeal_pre_sorted_finite (hKernelIdeal := hKernelIdeal) (hPre_sorted_finite := hPre_sorted_finite)
    ∧ quiescent_ReferenceIdeal (hReferenceIdeal := hReferenceIdeal)
    ∧ quiescent_ReferenceIdeal_pre_sorted_finite (hReferenceIdeal := hReferenceIdeal) (hPre_sorted_finite := hPre_sorted_finite)
    ∧ preserves_Kernel_KernelIdeal
    ∧ algebraic_KernelIdeal_ReferenceIdeal_pre_sorted_finite (hKernelIdeal := hKernelIdeal) (hReferenceIdeal := hReferenceIdeal) (hPre_sorted_finite := hPre_sorted_finite)
-- ==== Pre_in_range.lean ====
abbrev S100000x128 : Shape := ⟨2, ![100000, 128]⟩
abbrev S256x128 : Shape := ⟨2, ![256, 128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S100000 : Shape := ⟨1, ![100000]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x128 .f32) (main_arg1 : FVec F S256x128 .f32) (main_arg2 : FVec F S256x64 .f32) (main_arg3 : FVec F S64 .f32) (main_arg4 : FVec F S64x1 .f32) (main_arg5 : FVec F S1 .f32) (main_arg6 : IVec S100000 32) : IVec S_ 1 :=
  let main_c : IVec S_ 32 := constantI S_ 32 0#32
  let main_v0 : IVec S100000 32 := broadcastInDim S100000 ![] bcast_S_S100000 main_c
  let main_v1 : IVec S100000 1 := cmpi .sge main_arg6 main_v0
  let main_c_0 : IVec S_ 32 := constantI S_ 32 256#32
  let main_v2 : IVec S100000 32 := broadcastInDim S100000 ![] bcast_S_S100000 main_c_0
  let main_v3 : IVec S100000 1 := cmpi .slt main_arg6 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Pre_sorted_finite.lean ====
abbrev S100000x128 : Shape := ⟨2, ![100000, 128]⟩
abbrev S256x128 : Shape := ⟨2, ![256, 128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S100000 : Shape := ⟨1, ![100000]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_0 : S100000.Slices ![0] S99999
  slices_S100000_S99999_1 : S100000.Slices ![1] S99999
  reducesTo_S99999_S_d0 : S99999.ReducesTo [0] S_
  bcast_S_S100000x128 : S_.BroadcastsInDim S100000x128 (![] : Fin 0 → Fin S100000x128.rank)
  reducesTo_S100000x128_S_d0_1 : S100000x128.ReducesTo [0, 1] S_
  bcast_S_S256x128 : S_.BroadcastsInDim S256x128 (![] : Fin 0 → Fin S256x128.rank)
  reducesTo_S256x128_S_d0_1 : S256x128.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg5 : FVec F S1 .f32) (main_v30 : IVec S_ 1) (main_v33 : IVec S64x1 1) (main_c_11 : IVec S_ 1) : IVec S_ 1 :=
  let main_v34 : IVec S_ 1 := (fun x v => Host.reduce IntOp.andi x v reducesTo_S64x1_S_d0_1 h_S_) main_v33 main_c_11
  let main_v35 : IVec S_ 1 := andi main_v30 main_v34
  let main_v36 : FVec F S1 .f32 := Host.absf main_arg5
  let main_cst_12 : FVec F S_ .f32 := constant S_ .f32 0x7F800000#32
  let main_v37 : FVec F S1 .f32 := broadcastInDim S1 ![] bcast_S_S1 main_cst_12
  let main_v38 : IVec S1 1 := cmpf .olt main_v36 main_v37
  let main_c_13 : IVec S_ 1 := constantI S_ 1 1#1
  let main_v39 : IVec S_ 1 := (fun x v => Host.reduce IntOp.andi x v reducesTo_S1_S_d0 h_S_) main_v38 main_c_13
  let main_v40 : IVec S_ 1 := andi main_v35 main_v39
  main_v40

def fn_part1 {F : FTy → Type} [FloatOps F] (main_arg2 : FVec F S256x64 .f32) (main_arg3 : FVec F S64 .f32) (main_arg4 : FVec F S64x1 .f32) (main_arg5 : FVec F S1 .f32) (main_v15 : IVec S_ 1) (main_v16 : FVec F S256x128 .f32) (main_cst_4 : FVec F S_ .f32) : IVec S_ 1 :=
  let main_v17 : FVec F S256x128 .f32 := broadcastInDim S256x128 ![] bcast_S_S256x128 main_cst_4
  let main_v18 : IVec S256x128 1 := cmpf .olt main_v16 main_v17
  let main_c_5 : IVec S_ 1 := constantI S_ 1 1#1
  let main_v19 : IVec S_ 1 := (fun x v => Host.reduce IntOp.andi x v reducesTo_S256x128_S_d0_1 h_S_) main_v18 main_c_5
  let main_v20 : IVec S_ 1 := andi main_v15 main_v19
  let main_v21 : FVec F S256x64 .f32 := Host.absf main_arg2
  let main_cst_6 : FVec F S_ .f32 := constant S_ .f32 0x7F800000#32
  let main_v22 : FVec F S256x64 .f32 := broadcastInDim S256x64 ![] bcast_S_S256x64 main_cst_6
  let main_v23 : IVec S256x64 1 := cmpf .olt main_v21 main_v22
  let main_c_7 : IVec S_ 1 := constantI S_ 1 1#1
  let main_v24 : IVec S_ 1 := (fun x v => Host.reduce IntOp.andi x v reducesTo_S256x64_S_d0_1 h_S_) main_v23 main_c_7
  let main_v25 : IVec S_ 1 := andi main_v20 main_v24
  let main_v26 : FVec F S64 .f32 := Host.absf main_arg3
  let main_cst_8 : FVec F S_ .f32 := constant S_ .f32 0x7F800000#32
  let main_v27 : FVec F S64 .f32 := broadcastInDim S64 ![] bcast_S_S64 main_cst_8
  let main_v28 : IVec S64 1 := cmpf .olt main_v26 main_v27
  let main_c_9 : IVec S_ 1 := constantI S_ 1 1#1
  let main_v29 : IVec S_ 1 := (fun x v => Host.reduce IntOp.andi x v reducesTo_S64_S_d0 h_S_) main_v28 main_c_9
  let main_v30 : IVec S_ 1 := andi main_v25 main_v29
  let main_v31 : FVec F S64x1 .f32 := Host.absf main_arg4
  let main_cst_10 : FVec F S_ .f32 := constant S_ .f32 0x7F800000#32
  let main_v32 : FVec F S64x1 .f32 := broadcastInDim S64x1 ![] bcast_S_S64x1 main_cst_10
  let main_v33 : IVec S64x1 1 := cmpf .olt main_v31 main_v32
  let main_c_11 : IVec S_ 1 := constantI S_ 1 1#1
  fn_part2 (F := F) main_arg5 main_v30 main_v33 main_c_11

def fn {F : FTy → Type} [FloatOps F] (main_arg0 : FVec F S100000x128 .f32) (main_arg1 : FVec F S256x128 .f32) (main_arg2 : FVec F S256x64 .f32) (main_arg3 : FVec F S64 .f32) (main_arg4 : FVec F S64x1 .f32) (main_arg5 : FVec F S1 .f32) (main_arg6 : IVec S100000 32) : IVec S_ 1 :=
  let main_c : IVec S_ 32 := constantI S_ 32 0#32
  let main_v0 : IVec S100000 32 := broadcastInDim S100000 ![] bcast_S_S100000 main_c
  let main_v1 : IVec S100000 1 := cmpi .sge main_arg6 main_v0
  let main_c_0 : IVec S_ 32 := constantI S_ 32 256#32
  let main_v2 : IVec S100000 32 := broadcastInDim S100000 ![] bcast_S_S100000 main_c_0
  let main_v3 : IVec S100000 1 := cmpi .slt main_arg6 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_v6 : IVec S99999 32 := (extractStridedSlice S99999 ![0] · slices_S100000_S99999_0) main_arg6
  let main_v7 : IVec S99999 32 := (extractStridedSlice S99999 ![1] · slices_S100000_S99999_1) main_arg6
  let main_v8 : IVec S99999 1 := cmpi .sle main_v6 main_v7
  let main_c_2 : IVec S_ 1 := constantI S_ 1 1#1
  let main_v9 : IVec S_ 1 := (fun x v => Host.reduce IntOp.andi x v reducesTo_S99999_S_d0 h_S_) main_v8 main_c_2
  let main_v10 : IVec S_ 1 := andi main_v5 main_v9
  let main_v11 : FVec F S100000x128 .f32 := Host.absf main_arg0
  let main_cst : FVec F S_ .f32 := constant S_ .f32 0x7F800000#32
  let main_v12 : FVec F S100000x128 .f32 := broadcastInDim S100000x128 ![] bcast_S_S100000x128 main_cst
  let main_v13 : IVec S100000x128 1 := cmpf .olt main_v11 main_v12
  let main_c_3 : IVec S_ 1 := constantI S_ 1 1#1
  let main_v14 : IVec S_ 1 := (fun x v => Host.reduce IntOp.andi x v reducesTo_S100000x128_S_d0_1 h_S_) main_v13 main_c_3
  let main_v15 : IVec S_ 1 := andi main_v10 main_v14
  let main_v16 : FVec F S256x128 .f32 := Host.absf main_arg1
  let main_cst_4 : FVec F S_ .f32 := constant S_ .f32 0x7F800000#32
  fn_part1 (F := F) main_arg2 main_arg3 main_arg4 main_arg5 main_v15 main_v16 main_cst_4
-- ==== Kernel.lean ====
abbrev S100000x128 : Shape := ⟨2, ![100000, 128]⟩
abbrev S256x128 : Shape := ⟨2, ![256, 128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S100000 : Shape := ⟨1, ![100000]⟩
abbrev S5x2x10000 : Shape := ⟨3, ![5, 2, 10000]⟩
abbrev S5x2x1 : Shape := ⟨3, ![5, 2, 1]⟩
abbrev S5x2 : Shape := ⟨2, ![5, 2]⟩
abbrev S5x2x2 : Shape := ⟨3, ![5, 2, 2]⟩
abbrev S1x64 : Shape := ⟨2, ![1, 64]⟩
abbrev S1x1 : Shape := ⟨2, ![1, 1]⟩
abbrev S1x256 : Shape := ⟨2, ![1, 256]⟩
abbrev S256x1 : Shape := ⟨2, ![256, 1]⟩
abbrev S20000x128 : Shape := ⟨2, ![20000, 128]⟩
abbrev S1x2x10000 : Shape := ⟨3, ![1, 2, 10000]⟩
abbrev S1x2x2 : Shape := ⟨3, ![1, 2, 2]⟩
abbrev S128x64 : Shape := ⟨2, ![128, 64]⟩
abbrev S10000x128 : Shape := ⟨2, ![10000, 128]⟩
abbrev S1x1x10000 : Shape := ⟨3, ![1, 1, 10000]⟩
abbrev S1x10000 : Shape := ⟨2, ![1, 10000]⟩
abbrev S1x1x1 : Shape := ⟨3, ![1, 1, 1]⟩
abbrev S10000x1 : Shape := ⟨2, ![10000, 1]⟩
abbrev S64x10000 : Shape := ⟨2, ![64, 10000]⟩
abbrev S64x64 : Shape := ⟨2, ![64, 64]⟩
abbrev S10000 : Shape := ⟨1, ![10000]⟩
abbrev S64x128 : Shape := ⟨2, ![64, 128]⟩
abbrev S256x10000 : Shape := ⟨2, ![256, 10000]⟩
abbrev S_ : Shape := ⟨0, ![]⟩
abbrev S100352 : Shape := ⟨1, ![100352]⟩
abbrev S256 : Shape := ⟨1, ![256]⟩
abbrev S3136 : Shape := ⟨1, ![3136]⟩
abbrev S16 : Shape := ⟨1, ![16]⟩

abbrev nBuf : Table → Nat
  | .hbm => 32
  | .local .tc .vmem => 17
  | .local .tc .smem => 3
  | .local .scVector .vmem => 5
  | _ => 0

abbrev bufTy : (tb : Table) → Fin (nBuf tb) → BufTy
  | .hbm, ⟨0, _⟩ => ⟨S100000x128, .f32⟩
  | .hbm, ⟨1, _⟩ => ⟨S256x128, .f32⟩
  | .hbm, ⟨2, _⟩ => ⟨S256x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000, .i32⟩
  | .hbm, ⟨7, _⟩ => ⟨S5x2x10000, .i32⟩
  | .hbm, ⟨8, _⟩ => ⟨S5x2x1, .i32⟩
  | .hbm, ⟨9, _⟩ => ⟨S5x2, .i32⟩
  | .hbm, ⟨10, _⟩ => ⟨S5x2x1, .i32⟩
  | .hbm, ⟨11, _⟩ => ⟨S5x2, .i32⟩
  | .hbm, ⟨12, _⟩ => ⟨S5x2x1, .i32⟩
  | .hbm, ⟨13, _⟩ => ⟨S5x2x1, .i32⟩
  | .hbm, ⟨14, _⟩ => ⟨S5x2x2, .i32⟩
  | .hbm, ⟨15, _⟩ => ⟨S1x64, .f32⟩
  | .hbm, ⟨16, _⟩ => ⟨S1x1, .f32⟩
  | .hbm, ⟨17, _⟩ => ⟨S5x2x10000, .f32⟩
  | .hbm, ⟨18, _⟩ => ⟨S1x256, .f32⟩
  | .hbm, ⟨19, _⟩ => ⟨S256x1, .f32⟩
  | .hbm, ⟨20, _⟩ => ⟨S256x128, .f32⟩
  | .hbm, ⟨21, _⟩ => ⟨S100000, .f32⟩
  | .hbm, ⟨22, _⟩ => ⟨S_, .i32⟩
  | .hbm, ⟨23, _⟩ => ⟨S_, .f32⟩
  | .hbm, ⟨24, _⟩ => ⟨S100352, .f32⟩
  | .hbm, ⟨25, _⟩ => ⟨S_, .i32⟩
  | .hbm, ⟨26, _⟩ => ⟨S_, .i32⟩
  | .hbm, ⟨27, _⟩ => ⟨S100352, .i32⟩
  | .hbm, ⟨28, _⟩ => ⟨S256, .f32⟩
  | .hbm, ⟨29, _⟩ => ⟨S256, .f32⟩
  | .hbm, ⟨30, _⟩ => ⟨S100352, .f32⟩
  | .hbm, ⟨31, _⟩ => ⟨S100000, .f32⟩
  | .local .tc .vmem, ⟨0, _⟩ => ⟨S20000x128, .f32⟩
  | .local .tc .vmem, ⟨1, _⟩ => ⟨S20000x128, .f32⟩
  | .local .tc .vmem, ⟨2, _⟩ => ⟨S256x128, .f32⟩
  | .local .tc .vmem, ⟨3, _⟩ => ⟨S256x64, .f32⟩
  | .local .tc .vmem, ⟨4, _⟩ => ⟨S1x64, .f32⟩
  | .local .tc .vmem, ⟨5, _⟩ => ⟨S64x1, .f32⟩
  | .local .tc .vmem, ⟨6, _⟩ => ⟨S1x1, .f32⟩
  | .local .tc .vmem, ⟨7, _⟩ => ⟨S1x2x10000, .i32⟩
  | .local .tc .vmem, ⟨8, _⟩ => ⟨S1x2x10000, .i32⟩
  | .local .tc .vmem, ⟨9, _⟩ => ⟨S1x2x10000, .f32⟩
  | .local .tc .vmem, ⟨10, _⟩ => ⟨S1x2x10000, .f32⟩
  | .local .tc .vmem, ⟨11, _⟩ => ⟨S1x256, .f32⟩
  | .local .tc .vmem, ⟨12, _⟩ => ⟨S256x1, .f32⟩
  | .local .tc .vmem, ⟨13, _⟩ => ⟨S256x128, .f32⟩
  | .local .tc .vmem, ⟨14, _⟩ => ⟨S256x1, .f32⟩
  | .local .tc .vmem, ⟨15, _⟩ => ⟨S256x128, .f32⟩
  | .local .tc .vmem, ⟨16, _⟩ => ⟨S256x64, .f32⟩
  | .local .tc .smem, ⟨0, _⟩ => ⟨S1x2x2, .i32⟩
  | .local .tc .smem, ⟨1, _⟩ => ⟨S1x2x2, .i32⟩
  | .local .tc .smem, ⟨2, _⟩ => ⟨S1x1, .f32⟩
  | .local .scVector .vmem, ⟨0, _⟩ => ⟨S3136, .f32⟩
  | .local .scVector .vmem, ⟨1, _⟩ => ⟨S3136, .i32⟩
  | .local .scVector .vmem, ⟨2, _⟩ => ⟨S256, .f32⟩
  | .local .scVector .vmem, ⟨3, _⟩ => ⟨S256, .f32⟩
  | .local .scVector .vmem, ⟨4, _⟩ => ⟨S3136, .f32⟩
  | _, _ => ⟨S100000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | .smem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | ⟨17, _⟩ => false
  | ⟨18, _⟩ => false
  | ⟨19, _⟩ => false
  | ⟨20, _⟩ => false
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v11 : Ref sig .tc := ⟨.hbm, 21, rfl⟩
abbrev main_c : Ref sig .tc := ⟨.hbm, 22, rfl⟩
abbrev main_call0_v0 : Ref sig .tc := ⟨.hbm, 23, rfl⟩
abbrev main_v12 : Ref sig .tc := ⟨.hbm, 24, rfl⟩
abbrev main_c_0 : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v12_scv : Ref sig .scVector := ⟨.hbm, 24, rfl⟩
abbrev main_v13_scv : Ref sig .scVector := ⟨.hbm, 27, rfl⟩
abbrev main_v14_scv : Ref sig .scVector := ⟨.hbm, 28, rfl⟩
abbrev main_v15_scv : Ref sig .scVector := ⟨.hbm, 29, rfl⟩
abbrev main_v16_scv : Ref sig .scVector := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_stg7_0 : Ref sig .tc := ⟨.smem, 0, rfl⟩
abbrev cc0_stg7_1 : Ref sig .tc := ⟨.smem, 1, rfl⟩
abbrev cc0_scratch0 : Ref sig .tc := ⟨.smem, 2, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem11_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![5], ![false]⟩

def k0_off1 (v9 : BitVec 32) : Fin 2 → Nat :=
  let c0_i32_20 : BitVec 32 := 0#32
  let v14 : BitVec 1 := Scalar.cmpi .sgt v9 c0_i32_20
  let v15 : BitVec 32 := Scalar.extui v14
  let c0_i32_21 : BitVec 32 := 0#32
  let v16 : BitVec 1 := Scalar.cmpi .slt v9 c0_i32_21
  let v17 : BitVec 32 := Scalar.extui v16
  let v18 : BitVec 32 := Scalar.subi v15 v17
  let c8_i32 : BitVec 32 := 8#32
  let c0_i32_22 : BitVec 32 := 0#32
  let v19 : BitVec 1 := Scalar.cmpi .sgt c8_i32 c0_i32_22
  let v20 : BitVec 32 := Scalar.extui v19
  let c0_i32_23 : BitVec 32 := 0#32
  let v21 : BitVec 1 := Scalar.cmpi .slt c8_i32 c0_i32_23
  let v22 : BitVec 32 := Scalar.extui v21
  let v23 : BitVec 32 := Scalar.subi v20 v22
  let v24 : BitVec 1 := Scalar.cmpi .ne v18 v23
  let v25 : BitVec 32 := Scalar.remsi v9 c8_i32
  let c0_i32_24 : BitVec 32 := 0#32
  let v26 : BitVec 1 := Scalar.cmpi .ne v25 c0_i32_24
  let v27 : BitVec 1 := Scalar.andi v24 v26
  let v13 : BitVec 32 := Scalar.divsi v9 c8_i32
  let c1_i32 : BitVec 32 := 1#32
  let v28 : BitVec 32 := Scalar.subi v13 c1_i32
  let v29 : BitVec 32 := Scalar.select v27 v28 v13
  let c8_i32_25 : BitVec 32 := 8#32
  let v30 : BitVec 32 := Scalar.muli v29 c8_i32_25
  let c192_i32 : BitVec 32 := 192#32
  let v31 : BitVec 32 := Scalar.minsi v30 c192_i32
  let v74 : Index := Scalar.indexCast v31
  let c0_42 : Index := 0#32
  ![v74.toNat, 0]
def k0_cond2 (v9 : BitVec 32) (v10 : BitVec 32) (v11 : BitVec 32) (v12 : BitVec 32) : BitVec 1 :=
  let c0_i32_20 : BitVec 32 := 0#32
  let v14 : BitVec 1 := Scalar.cmpi .sgt v9 c0_i32_20
  let v15 : BitVec 32 := Scalar.extui v14
  let c0_i32_21 : BitVec 32 := 0#32
  let v16 : BitVec 1 := Scalar.cmpi .slt v9 c0_i32_21
  let v17 : BitVec 32 := Scalar.extui v16
  let v18 : BitVec 32 := Scalar.subi v15 v17
  let c8_i32 : BitVec 32 := 8#32
  let c0_i32_22 : BitVec 32 := 0#32
  let v19 : BitVec 1 := Scalar.cmpi .sgt c8_i32 c0_i32_22
  let v20 : BitVec 32 := Scalar.extui v19
  let c0_i32_23 : BitVec 32 := 0#32
  let v21 : BitVec 1 := Scalar.cmpi .slt c8_i32 c0_i32_23
  let v22 : BitVec 32 := Scalar.extui v21
  let v23 : BitVec 32 := Scalar.subi v20 v22
  let v24 : BitVec 1 := Scalar.cmpi .ne v18 v23
  let v25 : BitVec 32 := Scalar.remsi v9 c8_i32
  let c0_i32_24 : BitVec 32 := 0#32
  let v26 : BitVec 1 := Scalar.cmpi .ne v25 c0_i32_24
  let v27 : BitVec 1 := Scalar.andi v24 v26
  let v13 : BitVec 32 := Scalar.divsi v9 c8_i32
  let c1_i32 : BitVec 32 := 1#32
  let v28 : BitVec 32 := Scalar.subi v13 c1_i32
  let v29 : BitVec 32 := Scalar.select v27 v28 v13
  let c8_i32_25 : BitVec 32 := 8#32
  let v30 : BitVec 32 := Scalar.muli v29 c8_i32_25
  let c192_i32 : BitVec 32 := 192#32
  let v31 : BitVec 32 := Scalar.minsi v30 c192_i32
  let v51 : BitVec 32 := Scalar.subi v10 v31
  let c64_i32 : BitVec 32 := 64#32
  let v52 : BitVec 1 := Scalar.cmpi .slt v51 c64_i32
  let c0_i32_27 : BitVec 32 := 0#32
  let v33 : BitVec 1 := Scalar.cmpi .sgt v11 c0_i32_27
  let v34 : BitVec 32 := Scalar.extui v33
  let c0_i32_28 : BitVec 32 := 0#32
  let v35 : BitVec 1 := Scalar.cmpi .slt v11 c0_i32_28
  let v36 : BitVec 32 := Scalar.extui v35
  let v37 : BitVec 32 := Scalar.subi v34 v36
  let c8_i32_26 : BitVec 32 := 8#32
  let c0_i32_29 : BitVec 32 := 0#32
  let v38 : BitVec 1 := Scalar.cmpi .sgt c8_i32_26 c0_i32_29
  let v39 : BitVec 32 := Scalar.extui v38
  let c0_i32_30 : BitVec 32 := 0#32
  let v40 : BitVec 1 := Scalar.cmpi .slt c8_i32_26 c0_i32_30
  let v41 : BitVec 32 := Scalar.extui v40
  let v42 : BitVec 32 := Scalar.subi v39 v41
  let v43 : BitVec 1 := Scalar.cmpi .ne v37 v42
  let v44 : BitVec 32 := Scalar.remsi v11 c8_i32_26
  let c0_i32_31 : BitVec 32 := 0#32
  let v45 : BitVec 1 := Scalar.cmpi .ne v44 c0_i32_31
  let v46 : BitVec 1 := Scalar.andi v43 v45
  let v32 : BitVec 32 := Scalar.divsi v11 c8_i32_26
  let c1_i32_32 : BitVec 32 := 1#32
  let v47 : BitVec 32 := Scalar.subi v32 c1_i32_32
  let v48 : BitVec 32 := Scalar.select v46 v47 v32
  let c8_i32_33 : BitVec 32 := 8#32
  let v49 : BitVec 32 := Scalar.muli v48 c8_i32_33
  let c192_i32_34 : BitVec 32 := 192#32
  let v50 : BitVec 32 := Scalar.minsi v49 c192_i32_34
  let v53 : BitVec 32 := Scalar.subi v12 v50
  let c64_i32_35 : BitVec 32 := 64#32
  let v54 : BitVec 1 := Scalar.cmpi .slt v53 c64_i32_35
  let v55 : BitVec 1 := Scalar.andi v52 v54
  let v57 : BitVec 32 := Scalar.extui v55
  let c0_i32_36 : BitVec 32 := 0#32
  let v58 : BitVec 1 := Scalar.cmpi .ne v57 c0_i32_36
  v58

def k0_off2 (v11 : BitVec 32) : Fin 2 → Nat :=
  let c0_i32_27 : BitVec 32 := 0#32
  let v33 : BitVec 1 := Scalar.cmpi .sgt v11 c0_i32_27
  let v34 : BitVec 32 := Scalar.extui v33
  let c0_i32_28 : BitVec 32 := 0#32
  let v35 : BitVec 1 := Scalar.cmpi .slt v11 c0_i32_28
  let v36 : BitVec 32 := Scalar.extui v35
  let v37 : BitVec 32 := Scalar.subi v34 v36
  let c8_i32_26 : BitVec 32 := 8#32
  let c0_i32_29 : BitVec 32 := 0#32
  let v38 : BitVec 1 := Scalar.cmpi .sgt c8_i32_26 c0_i32_29
  let v39 : BitVec 32 := Scalar.extui v38
  let c0_i32_30 : BitVec 32 := 0#32
  let v40 : BitVec 1 := Scalar.cmpi .slt c8_i32_26 c0_i32_30
  let v41 : BitVec 32 := Scalar.extui v40
  let v42 : BitVec 32 := Scalar.subi v39 v41
  let v43 : BitVec 1 := Scalar.cmpi .ne v37 v42
  let v44 : BitVec 32 := Scalar.remsi v11 c8_i32_26
  let c0_i32_31 : BitVec 32 := 0#32
  let v45 : BitVec 1 := Scalar.cmpi .ne v44 c0_i32_31
  let v46 : BitVec 1 := Scalar.andi v43 v45
  let v32 : BitVec 32 := Scalar.divsi v11 c8_i32_26
  let c1_i32_32 : BitVec 32 := 1#32
  let v47 : BitVec 32 := Scalar.subi v32 c1_i32_32
  let v48 : BitVec 32 := Scalar.select v46 v47 v32
  let c8_i32_33 : BitVec 32 := 8#32
  let v49 : BitVec 32 := Scalar.muli v48 c8_i32_33
  let c192_i32_34 : BitVec 32 := 192#32
  let v50 : BitVec 32 := Scalar.minsi v49 c192_i32_34
  let v95 : Index := Scalar.indexCast v50
  let c0_53 : Index := 0#32
  ![v95.toNat, 0]
def k0_off3 (v9 : BitVec 32) : Fin 2 → Nat :=
  let c0_i32_20 : BitVec 32 := 0#32
  let v14 : BitVec 1 := Scalar.cmpi .sgt v9 c0_i32_20
  let v15 : BitVec 32 := Scalar.extui v14
  let c0_i32_21 : BitVec 32 := 0#32
  let v16 : BitVec 1 := Scalar.cmpi .slt v9 c0_i32_21
  let v17 : BitVec 32 := Scalar.extui v16
  let v18 : BitVec 32 := Scalar.subi v15 v17
  let c8_i32 : BitVec 32 := 8#32
  let c0_i32_22 : BitVec 32 := 0#32
  let v19 : BitVec 1 := Scalar.cmpi .sgt c8_i32 c0_i32_22
  let v20 : BitVec 32 := Scalar.extui v19
  let c0_i32_23 : BitVec 32 := 0#32
  let v21 : BitVec 1 := Scalar.cmpi .slt c8_i32 c0_i32_23
  let v22 : BitVec 32 := Scalar.extui v21
  let v23 : BitVec 32 := Scalar.subi v20 v22
  let v24 : BitVec 1 := Scalar.cmpi .ne v18 v23
  let v25 : BitVec 32 := Scalar.remsi v9 c8_i32
  let c0_i32_24 : BitVec 32 := 0#32
  let v26 : BitVec 1 := Scalar.cmpi .ne v25 c0_i32_24
  let v27 : BitVec 1 := Scalar.andi v24 v26
  let v13 : BitVec 32 := Scalar.divsi v9 c8_i32
  let c1_i32 : BitVec 32 := 1#32
  let v28 : BitVec 32 := Scalar.subi v13 c1_i32
  let v29 : BitVec 32 := Scalar.select v27 v28 v13
  let c8_i32_25 : BitVec 32 := 8#32
  let v30 : BitVec 32 := Scalar.muli v29 c8_i32_25
  let c192_i32 : BitVec 32 := 192#32
  let v31 : BitVec 32 := Scalar.minsi v30 c192_i32
  let v150 : Index := Scalar.indexCast v31
  let c0_84 : Index := 0#32
  ![v150.toNat, 0]
def k0_off4 (v9 : BitVec 32) : Fin 2 → Nat :=
  let c0_i32_20 : BitVec 32 := 0#32
  let v14 : BitVec 1 := Scalar.cmpi .sgt v9 c0_i32_20
  let v15 : BitVec 32 := Scalar.extui v14
  let c0_i32_21 : BitVec 32 := 0#32
  let v16 : BitVec 1 := Scalar.cmpi .slt v9 c0_i32_21
  let v17 : BitVec 32 := Scalar.extui v16
  let v18 : BitVec 32 := Scalar.subi v15 v17
  let c8_i32 : BitVec 32 := 8#32
  let c0_i32_22 : BitVec 32 := 0#32
  let v19 : BitVec 1 := Scalar.cmpi .sgt c8_i32 c0_i32_22
  let v20 : BitVec 32 := Scalar.extui v19
  let c0_i32_23 : BitVec 32 := 0#32
  let v21 : BitVec 1 := Scalar.cmpi .slt c8_i32 c0_i32_23
  let v22 : BitVec 32 := Scalar.extui v21
  let v23 : BitVec 32 := Scalar.subi v20 v22
  let v24 : BitVec 1 := Scalar.cmpi .ne v18 v23
  let v25 : BitVec 32 := Scalar.remsi v9 c8_i32
  let c0_i32_24 : BitVec 32 := 0#32
  let v26 : BitVec 1 := Scalar.cmpi .ne v25 c0_i32_24
  let v27 : BitVec 1 := Scalar.andi v24 v26
  let v13 : BitVec 32 := Scalar.divsi v9 c8_i32
  let c1_i32 : BitVec 32 := 1#32
  let v28 : BitVec 32 := Scalar.subi v13 c1_i32
  let v29 : BitVec 32 := Scalar.select v27 v28 v13
  let c8_i32_25 : BitVec 32 := 8#32
  let v30 : BitVec 32 := Scalar.muli v29 c8_i32_25
  let c192_i32 : BitVec 32 := 192#32
  let v31 : BitVec 32 := Scalar.minsi v30 c192_i32
  let v157 : Index := Scalar.indexCast v31
  let c0_86 : Index := 0#32
  ![v157.toNat, 0]
def k0_off5 (v11 : BitVec 32) : Fin 2 → Nat :=
  let c0_i32_27 : BitVec 32 := 0#32
  let v33 : BitVec 1 := Scalar.cmpi .sgt v11 c0_i32_27
  let v34 : BitVec 32 := Scalar.extui v33
  let c0_i32_28 : BitVec 32 := 0#32
  let v35 : BitVec 1 := Scalar.cmpi .slt v11 c0_i32_28
  let v36 : BitVec 32 := Scalar.extui v35
  let v37 : BitVec 32 := Scalar.subi v34 v36
  let c8_i32_26 : BitVec 32 := 8#32
  let c0_i32_29 : BitVec 32 := 0#32
  let v38 : BitVec 1 := Scalar.cmpi .sgt c8_i32_26 c0_i32_29
  let v39 : BitVec 32 := Scalar.extui v38
  let c0_i32_30 : BitVec 32 := 0#32
  let v40 : BitVec 1 := Scalar.cmpi .slt c8_i32_26 c0_i32_30
  let v41 : BitVec 32 := Scalar.extui v40
  let v42 : BitVec 32 := Scalar.subi v39 v41
  let v43 : BitVec 1 := Scalar.cmpi .ne v37 v42
  let v44 : BitVec 32 := Scalar.remsi v11 c8_i32_26
  let c0_i32_31 : BitVec 32 := 0#32
  let v45 : BitVec 1 := Scalar.cmpi .ne v44 c0_i32_31
  let v46 : BitVec 1 := Scalar.andi v43 v45
  let v32 : BitVec 32 := Scalar.divsi v11 c8_i32_26
  let c1_i32_32 : BitVec 32 := 1#32
  let v47 : BitVec 32 := Scalar.subi v32 c1_i32_32
  let v48 : BitVec 32 := Scalar.select v46 v47 v32
  let c8_i32_33 : BitVec 32 := 8#32
  let v49 : BitVec 32 := Scalar.muli v48 c8_i32_33
  let c192_i32_34 : BitVec 32 := 192#32
  let v50 : BitVec 32 := Scalar.minsi v49 c192_i32_34
  let v173 : Index := Scalar.indexCast v50
  let c0_91 : Index := 0#32
  ![v173.toNat, 0]
def k0_off6 (v11 : BitVec 32) : Fin 2 → Nat :=
  let c0_i32_27 : BitVec 32 := 0#32
  let v33 : BitVec 1 := Scalar.cmpi .sgt v11 c0_i32_27
  let v34 : BitVec 32 := Scalar.extui v33
  let c0_i32_28 : BitVec 32 := 0#32
  let v35 : BitVec 1 := Scalar.cmpi .slt v11 c0_i32_28
  let v36 : BitVec 32 := Scalar.extui v35
  let v37 : BitVec 32 := Scalar.subi v34 v36
  let c8_i32_26 : BitVec 32 := 8#32
  let c0_i32_29 : BitVec 32 := 0#32
  let v38 : BitVec 1 := Scalar.cmpi .sgt c8_i32_26 c0_i32_29
  let v39 : BitVec 32 := Scalar.extui v38
  let c0_i32_30 : BitVec 32 := 0#32
  let v40 : BitVec 1 := Scalar.cmpi .slt c8_i32_26 c0_i32_30
  let v41 : BitVec 32 := Scalar.extui v40
  let v42 : BitVec 32 := Scalar.subi v39 v41
  let v43 : BitVec 1 := Scalar.cmpi .ne v37 v42
  let v44 : BitVec 32 := Scalar.remsi v11 c8_i32_26
  let c0_i32_31 : BitVec 32 := 0#32
  let v45 : BitVec 1 := Scalar.cmpi .ne v44 c0_i32_31
  let v46 : BitVec 1 := Scalar.andi v43 v45
  let v32 : BitVec 32 := Scalar.divsi v11 c8_i32_26
  let c1_i32_32 : BitVec 32 := 1#32
  let v47 : BitVec 32 := Scalar.subi v32 c1_i32_32
  let v48 : BitVec 32 := Scalar.select v46 v47 v32
  let c8_i32_33 : BitVec 32 := 8#32
  let v49 : BitVec 32 := Scalar.muli v48 c8_i32_33
  let c192_i32_34 : BitVec 32 := 192#32
  let v50 : BitVec 32 := Scalar.minsi v49 c192_i32_34
  let v180 : Index := Scalar.indexCast v50
  let c0_93 : Index := 0#32
  ![v180.toNat, 0]

def k0_chk1 (v9 : BitVec 32) (v10 : BitVec 32) (v11 : BitVec 32) (v12 : BitVec 32) : Prop :=
  (∀ (k0_h2 : k0_cond2 v9 v10 v11 v12 = 1#1), ∀ a, (k0_off1 v9) a + S64x64.size a ≤ S256x64.size a) ∧
  (∀ (k0_h2 : k0_cond2 v9 v10 v11 v12 = 1#1), ∀ a, (k0_off2 v11) a + S64x64.size a ≤ S256x64.size a) ∧
  (∀ (k0_h2 : k0_cond2 v9 v10 v11 v12 = 1#1), ∀ a, (k0_off3 v9) a + S64x1.size a ≤ S256x1.size a) ∧
  (∀ (k0_h2 : k0_cond2 v9 v10 v11 v12 = 1#1), ∀ a, (k0_off4 v9) a + S64x128.size a ≤ S256x128.size a) ∧
  (∀ (k0_h2 : k0_cond2 v9 v10 v11 v12 = 1#1), ∀ a, (k0_off5 v11) a + S64x1.size a ≤ S256x1.size a) ∧
  (∀ (k0_h2 : k0_cond2 v9 v10 v11 v12 = 1#1), ∀ a, (k0_off6 v11) a + S64x128.size a ≤ S256x128.size a)
theorem k0_off1_inb : ∀ (v9 : BitVec 32) (v10 : BitVec 32) (v11 : BitVec 32) (v12 : BitVec 32) (k0_hw1 : k0_chk1 v9 v10 v11 v12), ∀ (k0_h2 : k0_cond2 v9 v10 v11 v12 = 1#1), ∀ a, (k0_off1 v9) a + S64x64.size a ≤ S256x64.size a := fun v9 v10 v11 v12 k0_hw1 k0_h2 => k0_hw1.1 k0_h2
theorem k0_off2_inb : ∀ (v9 : BitVec 32) (v10 : BitVec 32) (v11 : BitVec 32) (v12 : BitVec 32) (k0_hw1 : k0_chk1 v9 v10 v11 v12), ∀ (k0_h2 : k0_cond2 v9 v10 v11 v12 = 1#1), ∀ a, (k0_off2 v11) a + S64x64.size a ≤ S256x64.size a := fun v9 v10 v11 v12 k0_hw1 k0_h2 => k0_hw1.2.1 k0_h2
theorem k0_off3_inb : ∀ (v9 : BitVec 32) (v10 : BitVec 32) (v11 : BitVec 32) (v12 : BitVec 32) (k0_hw1 : k0_chk1 v9 v10 v11 v12), ∀ (k0_h2 : k0_cond2 v9 v10 v11 v12 = 1#1), ∀ a, (k0_off3 v9) a + S64x1.size a ≤ S256x1.size a := fun v9 v10 v11 v12 k0_hw1 k0_h2 => k0_hw1.2.2.1 k0_h2
theorem k0_off4_inb : ∀ (v9 : BitVec 32) (v10 : BitVec 32) (v11 : BitVec 32) (v12 : BitVec 32) (k0_hw1 : k0_chk1 v9 v10 v11 v12), ∀ (k0_h2 : k0_cond2 v9 v10 v11 v12 = 1#1), ∀ a, (k0_off4 v9) a + S64x128.size a ≤ S256x128.size a := fun v9 v10 v11 v12 k0_hw1 k0_h2 => k0_hw1.2.2.2.1 k0_h2
theorem k0_off5_inb : ∀ (v9 : BitVec 32) (v10 : BitVec 32) (v11 : BitVec 32) (v12 : BitVec 32) (k0_hw1 : k0_chk1 v9 v10 v11 v12), ∀ (k0_h2 : k0_cond2 v9 v10 v11 v12 = 1#1), ∀ a, (k0_off5 v11) a + S64x1.size a ≤ S256x1.size a := fun v9 v10 v11 v12 k0_hw1 k0_h2 => k0_hw1.2.2.2.2.1 k0_h2
theorem k0_off6_inb : ∀ (v9 : BitVec 32) (v10 : BitVec 32) (v11 : BitVec 32) (v12 : BitVec 32) (k0_hw1 : k0_chk1 v9 v10 v11 v12), ∀ (k0_h2 : k0_cond2 v9 v10 v11 v12 = 1#1), ∀ a, (k0_off6 v11) a + S64x128.size a ≤ S256x128.size a := fun v9 v10 v11 v12 k0_hw1 k0_h2 => k0_hw1.2.2.2.2.2 k0_h2

def k0_cond4 (i : grid0.Coords) : BitVec 1 :=
  let arg0 : BitVec 32 := BitVec.ofNat 32 (i 0).val
  let c4_i32 : BitVec 32 := 4#32
  let v62 : BitVec 1 := Scalar.cmpi .eq arg0 c4_i32
  let v63 : BitVec 32 := Scalar.extui v62
  let c0_i32_38 : BitVec 32 := 0#32
  let v64 : BitVec 1 := Scalar.cmpi .ne v63 c0_i32_38
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2x10000 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .smem S1x2x2 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x10000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3136_i32 : BitVec 32 := 3136#32
  let v2 : BitVec 32 := Scalar.muli v1 c3136_i32
  ![v2.toNat]
@[reducible] def k1_t1_loop : Scf.Loop 32 :=
  let c0_i32_32 : BitVec 32 := 0#32
  let c49_i32 : BitVec 32 := 49#32
  let v68 : BitVec 32 := Scalar.addi c0_i32_32 c49_i32
  let c1_i32 : BitVec 32 := 1#32
  ⟨c0_i32_32, v68, c1_i32⟩
def k1_off2 (k1_t1 : Fin k1_t1_loop.trips) : Fin 1 → Nat :=
  let c0_i32_32 : BitVec 32 := 0#32
  let c1_i32 : BitVec 32 := 1#32
  let arg12 : BitVec 32 := Scf.iv c0_i32_32 c1_i32 k1_t1
  let c64_i32 : BitVec 32 := 64#32
  let v69 : BitVec 32 := Scalar.muli arg12 c64_i32
  let c0_i32_34 : BitVec 32 := 0#32
  let v70 : BitVec 32 := Scalar.addi v69 c0_i32_34
  let v71 : Index := Scalar.indexCast v70
  ![v71.toNat]

def k1_chk1 (v72 : IVec S16 32) : Prop :=
  (∀ a x, ((![v72] : Fin 1 → IVec S16 32) a x).toNat < S256.size a)
theorem k1_idx1_inb : ∀ (v72 : IVec S16 32) (k1_hw1 : k1_chk1 v72), ∀ a x, ((![v72] : Fin 1 → IVec S16 32) a x).toNat < S256.size a := fun v72 k1_hw1 => k1_hw1
def k1_off3 (k1_t1 : Fin k1_t1_loop.trips) (c0_i32_34 : BitVec 32) : Fin 1 → Nat :=
  let c0_i32_32 : BitVec 32 := 0#32
  let c1_i32 : BitVec 32 := 1#32
  let arg12 : BitVec 32 := Scf.iv c0_i32_32 c1_i32 k1_t1
  let c64_i32 : BitVec 32 := 64#32
  let v69 : BitVec 32 := Scalar.muli arg12 c64_i32
  let v70 : BitVec 32 := Scalar.addi v69 c0_i32_34
  let v79 : Index := Scalar.indexCast v70
  ![v79.toNat]

def k1_chk2 (v84 : IVec S16 32) : Prop :=
  (∀ a x, ((![v84] : Fin 1 → IVec S16 32) a x).toNat < S256.size a)
theorem k1_idx2_inb : ∀ (v84 : IVec S16 32) (k1_hw2 : k1_chk2 v84), ∀ a x, ((![v84] : Fin 1 → IVec S16 32) a x).toNat < S256.size a := fun v84 k1_hw2 => k1_hw2
def k1_off4 (k1_t1 : Fin k1_t1_loop.trips) (c16_i32 : BitVec 32) : Fin 1 → Nat :=
  let c0_i32_32 : BitVec 32 := 0#32
  let c1_i32 : BitVec 32 := 1#32
  let arg12 : BitVec 32 := Scf.iv c0_i32_32 c1_i32 k1_t1
  let c64_i32_35 : BitVec 32 := 64#32
  let v81 : BitVec 32 := Scalar.muli arg12 c64_i32_35
  let v82 : BitVec 32 := Scalar.addi v81 c16_i32
  let v91 : Index := Scalar.indexCast v82
  ![v91.toNat]

def k1_chk3 (v96 : IVec S16 32) : Prop :=
  (∀ a x, ((![v96] : Fin 1 → IVec S16 32) a x).toNat < S256.size a)
theorem k1_idx3_inb : ∀ (v96 : IVec S16 32) (k1_hw3 : k1_chk3 v96), ∀ a x, ((![v96] : Fin 1 → IVec S16 32) a x).toNat < S256.size a := fun v96 k1_hw3 => k1_hw3
def k1_off5 (k1_t1 : Fin k1_t1_loop.trips) (c32_i32 : BitVec 32) : Fin 1 → Nat :=
  let c0_i32_32 : BitVec 32 := 0#32
  let c1_i32 : BitVec 32 := 1#32
  let arg12 : BitVec 32 := Scf.iv c0_i32_32 c1_i32 k1_t1
  let c64_i32_36 : BitVec 32 := 64#32
  let v93 : BitVec 32 := Scalar.muli arg12 c64_i32_36
  let v94 : BitVec 32 := Scalar.addi v93 c32_i32
  let v103 : Index := Scalar.indexCast v94
  ![v103.toNat]

def k1_chk4 (v108 : IVec S16 32) : Prop :=
  (∀ a x, ((![v108] : Fin 1 → IVec S16 32) a x).toNat < S256.size a)
theorem k1_idx4_inb : ∀ (v108 : IVec S16 32) (k1_hw4 : k1_chk4 v108), ∀ a x, ((![v108] : Fin 1 → IVec S16 32) a x).toNat < S256.size a := fun v108 k1_hw4 => k1_hw4
def k1_off6 (k1_t1 : Fin k1_t1_loop.trips) : Fin 1 → Nat :=
  let c0_i32_32 : BitVec 32 := 0#32
  let c1_i32 : BitVec 32 := 1#32
  let arg12 : BitVec 32 := Scf.iv c0_i32_32 c1_i32 k1_t1
  let c64_i32_37 : BitVec 32 := 64#32
  let v105 : BitVec 32 := Scalar.muli arg12 c64_i32_37
  let c48_i32 : BitVec 32 := 48#32
  let v106 : BitVec 32 := Scalar.addi v105 c48_i32
  let v115 : Index := Scalar.indexCast v106
  ![v115.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128 : Shape := ⟨2, ![100000, 128]⟩
abbrev S256x128 : Shape := ⟨2, ![256, 128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S100000 : Shape := ⟨1, ![100000]⟩
abbrev S_ : Shape := ⟨0, ![]⟩
abbrev S100000x1 : Shape := ⟨2, ![100000, 1]⟩
abbrev S1x1 : Shape := ⟨2, ![1, 1]⟩
abbrev S100000x256 : Shape := ⟨2, ![100000, 256]⟩
abbrev S100000x64 : Shape := ⟨2, ![100000, 64]⟩
abbrev S1x64 : Shape := ⟨2, ![1, 64]⟩
abbrev S256 : Shape := ⟨1, ![256]⟩
abbrev S1x256 : Shape := ⟨2, ![1, 256]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S256x128, .f32⟩
  | .hbm, ⟨2, _⟩ => ⟨S256x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000, .i32⟩
  | .hbm, ⟨7, _⟩ => ⟨S_, .i32⟩
  | .hbm, ⟨8, _⟩ => ⟨S100000, .i32⟩
  | .hbm, ⟨9, _⟩ => ⟨S100000, .i1⟩
  | .hbm, ⟨10, _⟩ => ⟨S_, .i32⟩
  | .hbm, ⟨11, _⟩ => ⟨S100000, .i32⟩
  | .hbm, ⟨12, _⟩ => ⟨S100000, .i32⟩
  | .hbm, ⟨13, _⟩ => ⟨S100000, .i32⟩
  | .hbm, ⟨14, _⟩ => ⟨S100000x1, .i32⟩
  | .hbm, ⟨15, _⟩ => ⟨S1, .i32⟩
  | .hbm, ⟨16, _⟩ => ⟨S_, .i32⟩
  | .hbm, ⟨17, _⟩ => ⟨S100000x1, .i32⟩
  | .hbm, ⟨18, _⟩ => ⟨S100000x1, .i1⟩
  | .hbm, ⟨19, _⟩ => ⟨S1x1, .i32⟩
  | .hbm, ⟨20, _⟩ => ⟨S100000x1, .i32⟩
  | .hbm, ⟨21, _⟩ => ⟨S100000x1, .i1⟩
  | .hbm, ⟨22, _⟩ => ⟨S100000x1, .i1⟩
  | .hbm, ⟨23, _⟩ => ⟨S_, .i1⟩
  | .hbm, ⟨24, _⟩ => ⟨S100000, .i1⟩
  | .hbm, ⟨25, _⟩ => ⟨S100000x128, .f32⟩
  | .hbm, ⟨26, _⟩ => ⟨S100000x128, .i1⟩
  | .hbm, ⟨27, _⟩ => ⟨S_, .f32⟩
  | .hbm, ⟨28, _⟩ => ⟨S100000x128, .f32⟩
  | .hbm, ⟨29, _⟩ => ⟨S100000x128, .f32⟩
  | .hbm, ⟨30, _⟩ => ⟨S100000x256, .f32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S100000x64, .f32⟩
  | .hbm, ⟨35, _⟩ => ⟨S_, .f32⟩
  | .hbm, ⟨36, _⟩ => ⟨S100000x64, .f32⟩
  | .hbm, ⟨37, _⟩ => ⟨S100000x64, .f32⟩
  | .hbm, ⟨38, _⟩ => ⟨S100000x1, .f32⟩
  | .hbm, ⟨39, _⟩ => ⟨S1x1, .f32⟩
  | .hbm, ⟨40, _⟩ => ⟨S100000x1, .f32⟩
  | .hbm, ⟨41, _⟩ => ⟨S100000x1, .f32⟩
  | .hbm, ⟨42, _⟩ => ⟨S100000, .f32⟩
  | .hbm, ⟨43, _⟩ => ⟨S100000x1, .i32⟩
  | .hbm, ⟨44, _⟩ => ⟨S256, .i32⟩
  | .hbm, ⟨45, _⟩ => ⟨S1x256, .i32⟩
  | .hbm, ⟨46, _⟩ => ⟨S100000x256, .i32⟩
  | .hbm, ⟨47, _⟩ => ⟨S100000x256, .i32⟩
  | .hbm, ⟨48, _⟩ => ⟨S100000x256, .i1⟩
  | .hbm, ⟨49, _⟩ => ⟨S100000x1, .f32⟩
  | .hbm, ⟨50, _⟩ => ⟨S_, .f32⟩
  | .hbm, ⟨51, _⟩ => ⟨S_, .f32⟩
  | .hbm, ⟨52, _⟩ => ⟨S100000x256, .f32⟩
  | .hbm, ⟨53, _⟩ => ⟨S100000x256, .f32⟩
  | .hbm, ⟨54, _⟩ => ⟨S100000x256, .f32⟩
  | .hbm, ⟨55, _⟩ => ⟨S_, .f32⟩
  | .hbm, ⟨56, _⟩ => ⟨S256, .f32⟩
  | .hbm, ⟨57, _⟩ => ⟨S_, .i32⟩
  | .hbm, ⟨58, _⟩ => ⟨S100000, .i32⟩
  | .hbm, ⟨59, _⟩ => ⟨S100000, .i1⟩
  | .hbm, ⟨60, _⟩ => ⟨S_, .i32⟩
  | .hbm, ⟨61, _⟩ => ⟨S100000, .i32⟩
  | .hbm, ⟨62, _⟩ => ⟨S100000, .i32⟩
  | .hbm, ⟨63, _⟩ => ⟨S100000, .i32⟩
  | .hbm, ⟨64, _⟩ => ⟨S100000x1, .i32⟩
  | .hbm, ⟨65, _⟩ => ⟨S1, .i32⟩
  | .hbm, ⟨66, _⟩ => ⟨S_, .i32⟩
  | .hbm, ⟨67, _⟩ => ⟨S100000x1, .i32⟩
  | .hbm, ⟨68, _⟩ => ⟨S100000x1, .i1⟩
  | .hbm, ⟨69, _⟩ => ⟨S1x1, .i32⟩
  | .hbm, ⟨70, _⟩ => ⟨S100000x1, .i32⟩
  | .hbm, ⟨71, _⟩ => ⟨S100000x1, .i1⟩
  | .hbm, ⟨72, _⟩ => ⟨S100000x1, .i1⟩
  | .hbm, ⟨73, _⟩ => ⟨S_, .i1⟩
  | .hbm, ⟨74, _⟩ => ⟨S100000, .i1⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .f32⟩
  | .hbm, ⟨79, _⟩ => ⟨S100000, .f32⟩
  | .hbm, ⟨80, _⟩ => ⟨S100000, .f32⟩
  | .hbm, ⟨81, _⟩ => ⟨S_, .f32⟩
  | .hbm, ⟨82, _⟩ => ⟨S256, .f32⟩
  | .hbm, ⟨83, _⟩ => ⟨S100000x1, .i32⟩
  | .hbm, ⟨84, _⟩ => ⟨S256, .f32⟩
  | .hbm, ⟨85, _⟩ => ⟨S_, .i32⟩
  | .hbm, ⟨86, _⟩ => ⟨S100000, .i32⟩
  | .hbm, ⟨87, _⟩ => ⟨S100000, .i1⟩
  | .hbm, ⟨88, _⟩ => ⟨S_, .i32⟩
  | .hbm, ⟨89, _⟩ => ⟨S100000, .i32⟩
  | .hbm, ⟨90, _⟩ => ⟨S100000, .i32⟩
  | .hbm, ⟨91, _⟩ => ⟨S100000, .i32⟩
  | .hbm, ⟨92, _⟩ => ⟨S100000x1, .i32⟩
  | .hbm, ⟨93, _⟩ => ⟨S1, .i32⟩
  | .hbm, ⟨94, _⟩ => ⟨S_, .i32⟩
  | .hbm, ⟨95, _⟩ => ⟨S100000x1, .i32⟩
  | .hbm, ⟨96, _⟩ => ⟨S100000x1, .i1⟩
  | .hbm, ⟨97, _⟩ => ⟨S1x1, .i32⟩
  | .hbm, ⟨98, _⟩ => ⟨S100000x1, .i32⟩
  | .hbm, ⟨99, _⟩ => ⟨S100000x1, .i1⟩
  | .hbm, ⟨100, _⟩ => ⟨S100000x1, .i1⟩
  | .hbm, ⟨101, _⟩ => ⟨S_, .i1⟩
  | .hbm, ⟨102, _⟩ => ⟨S100000, .i1⟩
  | .hbm, ⟨103, _⟩ => ⟨S100000, .f32⟩
  | .hbm, ⟨104, _⟩ => ⟨S_, .f32⟩
  | .hbm, ⟨105, _⟩ => ⟨S100000, .f32⟩
  | .hbm, ⟨106, _⟩ => ⟨S100000, .f32⟩
  | .hbm, ⟨107, _⟩ => ⟨S100000, .f32⟩
  | .hbm, ⟨108, _⟩ => ⟨S100000x1, .f32⟩
  | .hbm, ⟨109, _⟩ => ⟨S100000x128, .f32⟩
  | .hbm, ⟨110, _⟩ => ⟨S100000x128, .f32⟩
  | .hbm, ⟨111, _⟩ => ⟨S_, .f32⟩
  | .hbm, ⟨112, _⟩ => ⟨S256x128, .f32⟩
  | .hbm, ⟨113, _⟩ => ⟨S100000x1, .i32⟩
  | .hbm, ⟨114, _⟩ => ⟨S256x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_call1_cst : Ref sig .tc := ⟨.hbm, 35, rfl⟩
abbrev main_call1_v0 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v19 : Ref sig .tc := ⟨.hbm, 54, rfl⟩
abbrev main_cst_0 : Ref sig .tc := ⟨.hbm, 55, rfl⟩
abbrev main_v20 : Ref sig .tc := ⟨.hbm, 56, rfl⟩
abbrev main_call3_c : Ref sig .tc := ⟨.hbm, 57, rfl⟩
abbrev main_call3_v0 : Ref sig .tc := ⟨.hbm, 58, rfl⟩
abbrev main_call3_v1 : Ref sig .tc := ⟨.hbm, 59, rfl⟩
abbrev main_call3_c_0 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_v5 : Ref sig .tc := ⟨.hbm, 64, rfl⟩
abbrev main_call3_c_1 : Ref sig .tc := ⟨.hbm, 65, rfl⟩
abbrev main_call3_c_2 : Ref sig .tc := ⟨.hbm, 66, rfl⟩
abbrev main_call3_v6 : Ref sig .tc := ⟨.hbm, 67, rfl⟩
abbrev main_call3_v7 : Ref sig .tc := ⟨.hbm, 68, rfl⟩
abbrev main_call3_v8 : Ref sig .tc := ⟨.hbm, 69, rfl⟩
abbrev main_call3_v9 : Ref sig .tc := ⟨.hbm, 70, rfl⟩
abbrev main_call3_v10 : Ref sig .tc := ⟨.hbm, 71, rfl⟩
abbrev main_call3_v11 : Ref sig .tc := ⟨.hbm, 72, rfl⟩
abbrev main_call3_c_3 : Ref sig .tc := ⟨.hbm, 73, rfl⟩
abbrev main_call3_v12 : Ref sig .tc := ⟨.hbm, 74, rfl⟩
abbrev main_call3_v13 : Ref sig .tc := ⟨.hbm, 75, rfl⟩
abbrev main_call3_cst : Ref sig .tc := ⟨.hbm, 76, rfl⟩
abbrev main_call3_v14 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_cst_1 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_call4_c : Ref sig .tc := ⟨.hbm, 85, rfl⟩
abbrev main_call4_v0 : Ref sig .tc := ⟨.hbm, 86, rfl⟩
abbrev main_call4_v1 : Ref sig .tc := ⟨.hbm, 87, rfl⟩
abbrev main_call4_c_0 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_call4_v5 : Ref sig .tc := ⟨.hbm, 92, rfl⟩
abbrev main_call4_c_1 : Ref sig .tc := ⟨.hbm, 93, rfl⟩
abbrev main_call4_c_2 : Ref sig .tc := ⟨.hbm, 94, rfl⟩
abbrev main_call4_v6 : Ref sig .tc := ⟨.hbm, 95, rfl⟩
abbrev main_call4_v7 : Ref sig .tc := ⟨.hbm, 96, rfl⟩
abbrev main_call4_v8 : Ref sig .tc := ⟨.hbm, 97, rfl⟩
abbrev main_call4_v9 : Ref sig .tc := ⟨.hbm, 98, rfl⟩
abbrev main_call4_v10 : Ref sig .tc := ⟨.hbm, 99, rfl⟩
abbrev main_call4_v11 : Ref sig .tc := ⟨.hbm, 100, rfl⟩
abbrev main_call4_c_3 : Ref sig .tc := ⟨.hbm, 101, rfl⟩
abbrev main_call4_v12 : Ref sig .tc := ⟨.hbm, 102, rfl⟩
abbrev main_call4_v13 : Ref sig .tc := ⟨.hbm, 103, rfl⟩
abbrev main_call4_cst : Ref sig .tc := ⟨.hbm, 104, rfl⟩
abbrev main_call4_v14 : Ref sig .tc := ⟨.hbm, 105, rfl⟩
abbrev main_v27 : Ref sig .tc := ⟨.hbm, 106, rfl⟩
abbrev main_v28 : Ref sig .tc := ⟨.hbm, 107, rfl⟩
abbrev main_v29 : Ref sig .tc := ⟨.hbm, 108, rfl⟩
abbrev main_v30 : Ref sig .tc := ⟨.hbm, 109, rfl⟩
abbrev main_v31 : Ref sig .tc := ⟨.hbm, 110, rfl⟩
abbrev main_cst_2 : Ref sig .tc := ⟨.hbm, 111, rfl⟩
abbrev main_v32 : Ref sig .tc := ⟨.hbm, 112, rfl⟩
abbrev main_v33 : Ref sig .tc := ⟨.hbm, 113, rfl⟩
abbrev main_v34 : Ref sig .tc := ⟨.hbm, 114, rfl⟩

abbrev nD : Nat := 1
abbrev τ : Topo := Topo.v7x

variable {F : FTy → Type} [FloatOps F]
-- ==== Proof.Base.lean ====
/-
  What the launch theorem is told about the program: its configuration, its body table, the resource algebra of its
  ghost state (the SparseCore handshakes, the TensorCore pipeline's rounds, the counters of the tiles' own copies) and
  the names of its arrays.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.WritesUnit
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The four launch semaphores are distinct enough, and no array is one SparseCore's alone. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

abbrev UH : Type := URounds (GSem nD τ sig) ℕ
abbrev UK : Type := URounds (GSem nD τ sig) Unit
abbrev UU : Type := UH × (UK × Counters)

local notation "𝕄" => MT nD τ sig (HIx 1) (Elt F) ℕ UU ℕ

abbrev EH : Emb UH (MT nD τ sig (HIx 1) (Elt F) ℕ UU ℕ) := embL

/-! ## Arrays the SparseCores' call reads and writes, as the TensorCore names them -/

abbrev sLoc (d : Dev nD) : Loc nD τ sig := (SparseCore.T d).loc main_v12
abbrev bLoc (d : Dev nD) : Loc nD τ sig := (SparseCore.T d).loc main_v13
abbrev mxLoc (d : Dev nD) : Loc nD τ sig := (SparseCore.T d).loc main_v14
abbrev dnLoc (d : Dev nD) : Loc nD τ sig := (SparseCore.T d).loc main_v15
abbrev oLoc (d : Dev nD) : Loc nD τ sig := (SparseCore.T d).loc main_v16

end Cert.Proof.Pool

end
-- ==== Proof.Body.lean ====
/-
  The TensorCore kernel's body, part by part: what each printed part leaves in the buffers it writes, as functions of
  the values its buffers held.
-/
module

public import proofs.«01_k».proof.Proof.Base
public import Idealize.ShloMosaic.Lib.VecWindow

@[expose] public section

noncomputable section

namespace Cert.Proof.Pool

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.VecWindow (window put)

variable {F : FTy → Type} [FloatOps F]
local notation "𝕄" => MT nD τ sig (HIx 1) (Elt F) ℕ UU ℕ

/-! ## The values a step reads -/

abbrev half0 (X : Vec F S20000x128 .f32) : Vec F S10000x128 .f32 := View.ld X (Rect.unit (s := S20000x128) ![0, 0] S10000x128.size inb_S20000x128_S10000x128_0_0)
abbrev half1 (X : Vec F S20000x128 .f32) : Vec F S10000x128 .f32 := View.ld X (Rect.unit (s := S20000x128) ![10000, 0] S10000x128.size inb_S20000x128_S10000x128_10000_0)
abbrev ids0 (X : Vec F S1x2x10000 .i32) : IVec S1x10000 32 := k0_pay42 (F := F) (View.ld X (Rect.unit (s := S1x2x10000) ![0, 0, 0] S1x1x10000.size inb_S1x2x10000_S1x1x10000_0_0_0))
abbrev ids1 (X : Vec F S1x2x10000 .i32) : IVec S1x10000 32 := k0_pay43 (F := F) (View.ld X (Rect.unit (s := S1x2x10000) ![0, 1, 0] S1x1x10000.size inb_S1x2x10000_S1x1x10000_0_1_0))
/-- The one word at a position of the bounds' block. -/
abbrev word (X : Vec F S1x2x2 .i32) (o : Fin 3 → Nat) (h : ∀ a, o a + S1x1x1.size a ≤ S1x2x2.size a) : BitVec 32 :=
  View.ld X (Rect.unit (s := S1x2x2) o S1x1x1.size h) (Shape.Idx.first (numel1_S1x1x1.symm ▸ Nat.one_pos))
abbrev lo0 (X : Vec F S1x2x2 .i32) : BitVec 32 := word X ![0, 0, 0] inb_S1x2x2_S1x1x1_0_0_0
abbrev hi0 (X : Vec F S1x2x2 .i32) : BitVec 32 := word X ![0, 0, 1] inb_S1x2x2_S1x1x1_0_0_1
abbrev lo1 (X : Vec F S1x2x2 .i32) : BitVec 32 := word X ![0, 1, 0] inb_S1x2x2_S1x1x1_0_1_0
abbrev hi1 (X : Vec F S1x2x2 .i32) : BitVec 32 := word X ![0, 1, 1] inb_S1x2x2_S1x1x1_0_1_1
/-- The one word of a 1 × 1 table. -/
abbrev one (X : Vec F S1x1 .f32) : F .f32 := View.ld X (Rect.unit (s := S1x1) ![0, 0] S1x1.size inb_S1x1_S1x1_0_0) (Shape.Idx.first (numel1_S1x1.symm ▸ Nat.one_pos))
abbrev w1a (X : Vec F S256x64 .f32) : Vec F S128x64 .f32 := View.ld X (Rect.unit (s := S256x64) ![0, 0] S128x64.size inb_S256x64_S128x64_0_0)
abbrev w1b (X : Vec F S256x64 .f32) : Vec F S128x64 .f32 := View.ld X (Rect.unit (s := S256x64) ![128, 0] S128x64.size inb_S256x64_S128x64_128_0)

/-- The two halves' scores as the step's output block. -/
def pair (a b : FVec F S1x10000 .f32) : Vec F S1x2x10000 .f32 := fun y =>
  if (y 1).val = 0 then k0_pay8 a (fun | 0 => ⟨0, by decide⟩ | 1 => ⟨0, by decide⟩ | 2 => y 2) else k0_pay8 b (fun | 0 => ⟨0, by decide⟩ | 1 => ⟨0, by decide⟩ | 2 => y 2)

theorem pair_eq {sp : Space} (v : View sig .tc sp S1x2x10000 .f32) (f : v.ty.Contents (Elt F)) (a b : FVec F S1x10000 .f32)
    (p q : FVec F S1x1x10000 .f32) (hp : p = k0_pay8 a) (hq : q = k0_pay8 b) :
    v.read (Elt F) (v.writes (Elt F) f [⟨Rect.unit (s := S1x2x10000) ![0, 1, 0] S1x1x10000.size inb_S1x2x10000_S1x1x10000_0_1_0, q⟩,
      ⟨Rect.unit (s := S1x2x10000) ![0, 0, 0] S1x1x10000.size inb_S1x2x10000_S1x1x10000_0_0_0, p⟩]) = pair a b := by
  subst hp; subst hq
  funext y
  have h0 : (y 0).val = 0 := Nat.lt_one_iff.mp (y 0).isLt
  have h1 : (y 1).val = 0 ∨ (y 1).val = 1 := by have : (y 1).val < 2 := (y 1).isLt; omega
  unfold pair
  rcases h1 with h | h
  · rw [if_pos h, View.read_writes_cons_unit_of_not_mem (Val := Elt F) v f _ _ _ y rfl 1 (Or.inl (by rw [h]; decide))]
    refine View.read_writes_cons_unit_of_mem (Val := Elt F) v f _ _ _ y _ rfl fun x => ?_
    fin_cases x
    · simpa using h0
    · simpa using h
    · simp
  · rw [if_neg (by rw [h]; decide)]
    refine View.read_writes_cons_unit_of_mem (Val := Elt F) v f _ _ _ y _ rfl fun x => ?_
    fin_cases x
    · simpa using h0
    · simpa using h
    · simp

/-! ## Two windows written one after the other, each from what it read -/

theorem two_windows {sp : Space} {s : Shape} (v : View sig .tc sp s .f32) (f : v.ty.Contents (Elt F)) {o o' z : Fin s.rank → ℕ}
    (inb : ∀ a, o a + z a ≤ s.size a) (inb' : ∀ a, o' a + z a ≤ s.size a)
    (A B : FVec F (Rect.unit o z inb).shape .f32 → FVec F (Rect.unit o z inb).shape .f32) :
    v.read (Elt F) (v.writes (Elt F) f [⟨Rect.unit o' z inb', B (v.readAt (Elt F) (Rect.unit o' z inb').toLoadRect
        (v.writes (Elt F) f [⟨Rect.unit o z inb, A (v.readAt (Elt F) (Rect.unit o z inb).toLoadRect f)⟩]))⟩,
      ⟨Rect.unit o z inb, A (v.readAt (Elt F) (Rect.unit o z inb).toLoadRect f)⟩])
      = put (put (v.read (Elt F) f) o z (A (window (v.read (Elt F) f) o z inb))) o' z
          (B (window (put (v.read (Elt F) f) o z (A (window (v.read (Elt F) f) o z inb))) o' z inb')) := by
  rw [View.read_writes_cons_put (Val := Elt F) v f inb' _ _ rfl, View.read_writes_cons_put (Val := Elt F) v f inb _ _ rfl]
  rw [View.readAt_unit (Val := Elt F) v _ inb' rfl inb', View.read_writes_cons_put (Val := Elt F) v f inb _ _ rfl]
  rfl

/-- A window written over a whole block just stored, from what it read of that block; -/
theorem over_block {sp : Space} {s : Shape} (v : View sig .tc sp s .f32) (f : v.ty.Contents (Elt F)) {u o z : Fin s.rank → ℕ}
    (inbu : ∀ a, u a + s.size a ≤ s.size a) (inb : ∀ a, o a + z a ≤ s.size a)
    (A : FVec F (Rect.unit o z inb).shape .f32 → FVec F (Rect.unit o z inb).shape .f32) (C : FVec F s .f32)
    (L : List (View.Piece (Elt F) s .f32))
    (hL : L = [⟨Rect.unit o z inb, A (v.readCov (Val := Elt F) (e := .f32) [⟨Rect.unit u s.size inbu, C⟩] (Rect.unit o z inb).toLoadRect)⟩, ⟨Rect.unit u s.size inbu, C⟩]) :
    v.read (Elt F) (v.writes (Elt F) f L) = put C o z (A (window C o z inb)) := by
  subst hL
  rw [View.read_writes_cons_put (Val := Elt F) v f inb _ _ rfl, View.read_writes_full (Val := Elt F) v f inbu C []]
  refine congrArg (fun x => put C o z (A x)) ?_
  show v.readAt (Elt F) _ (v.writes (Elt F) v.junk _) = _
  rw [View.readAt_unit (Val := Elt F) v _ inb rfl inb, View.read_writes_full (Val := Elt F) v _ inbu C []]

/-- and another window read after it. -/
theorem over_block_read {sp : Space} {s : Shape} (v : View sig .tc sp s .f32) (f : v.ty.Contents (Elt F)) {u o o' z : Fin s.rank → ℕ}
    (inbu : ∀ a, u a + s.size a ≤ s.size a) (inb : ∀ a, o a + z a ≤ s.size a) (inb' : ∀ a, o' a + z a ≤ s.size a)
    (A : FVec F (Rect.unit o z inb).shape .f32 → FVec F (Rect.unit o z inb).shape .f32) (C : FVec F s .f32)
    (L : List (View.Piece (Elt F) s .f32))
    (hL : L = [⟨Rect.unit o z inb, A (v.readCov (Val := Elt F) (e := .f32) [⟨Rect.unit u s.size inbu, C⟩] (Rect.unit o z inb).toLoadRect)⟩, ⟨Rect.unit u s.size inbu, C⟩]) :
    v.readAt (Elt F) (Rect.unit o' z inb').toLoadRect (v.writes (Elt F) f L) = window (put C o z (A (window C o z inb))) o' z inb' := by
  rw [View.readAt_unit (Val := Elt F) v _ inb' rfl inb', over_block v f inbu inb A C L hL]

abbrev ow (c : Dev nD) {sp : Space} {S : Shape} {e : EltTy} (M : Memref sig .tc sp S e) (X : S.Idx → Elt F e) : sProp 𝕄 :=
  owns (c : Thread nD τ) M fullShare X

section body
variable (c : Dev nD) (i : grid0.Coords) (arg1 : Memref sig .tc .vmem S20000x128 .f32) (harg1 : arg1.IsWhole) (arg2 : Memref sig .tc .vmem S256x128 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x2x10000 .i32) (harg7 : arg7.IsWhole) (arg8 : Memref sig .tc .smem S1x2x2 .i32) (harg8 : arg8.IsWhole) (arg9 : Memref sig .tc .vmem S1x2x10000 .f32) (harg9 : arg9.IsWhole) (arg10 : Memref sig .tc .vmem S1x256 .f32) (harg10 : arg10.IsWhole) (arg11 : Memref sig .tc .vmem S256x1 .f32) (harg11 : arg11.IsWhole) (arg12 : Memref sig .tc .vmem S256x128 .f32) (harg12 : arg12.IsWhole) (arg13 : Memref sig .tc .smem S1x1 .f32) (harg13 : arg13.IsWhole) (arg14 : Memref sig .tc .vmem S256x1 .f32) (harg14 : arg14.IsWhole) (arg15 : Memref sig .tc .vmem S256x128 .f32) (harg15 : arg15.IsWhole) (arg16 : Memref sig .tc .vmem S256x64 .f32) (harg16 : arg16.IsWhole)

include harg1 harg2 harg3 harg4 harg5 harg6 harg7 harg8 harg9 harg10 harg11 harg12 harg13 harg14 harg15 harg16 in
theorem part1_run_eq (v3 v4 : Vec F S10000x128 .f32) (v6 v8 : IVec S1x10000 32) (v9 v10 v11 v12 : BitVec 32) (w : k0_chk1 v9 v10 v11 v12) (h2 : k0_cond2 v9 v10 v11 v12 = 1#1) (v31 v50 : BitVec 32) (X3 : Vec F S256x64 .f32) (X5 : Vec F S64x1 .f32) (X6 : Vec F S1x1 .f32) (X16 : Vec F S256x64 .f32) (E : Set ℕ) (Q : _ → sProp 𝕄) :
    iprop(ow c arg3 X3 ∗ ow c arg5 X5 ∗ ow c arg6 X6 ∗ ow c arg16 X16
      ∗ (∀ r, ⌜r = ⟨k0_pay3 v6 v31, k0_pay4 v3 v6 v31 (w1a X3) (View.ld X16 (Rect.unit (s := S256x64) (k0_off1 v9) S64x64.size (k0_off1_inb v9 v10 v11 v12 w h2))) (View.ld X5 (Rect.unit (s := S64x1) ![0, 0] S64x1.size inb_S64x1_S64x1_0_0)) (View.ld X6 (Rect.unit (s := S1x1) ![0, 0] S1x1.size inb_S1x1_S1x1_0_0)), k0_pay5 v8 v50, k0_pay6 v4 v8 v50 (w1a X3) (View.ld X16 (Rect.unit (s := S256x64) (k0_off2 v11) S64x64.size (k0_off2_inb v9 v10 v11 v12 w h2))) (View.ld X5 (Rect.unit (s := S64x1) ![0, 0] S64x1.size inb_S64x1_S64x1_0_0))⟩⌝ -∗ iprop(ow c arg3 X3 ∗ ow c arg5 X5 ∗ ow c arg6 X6 ∗ ow c arg16 X16) -∗ Q r))
    ⊢ wp frame (wpE (defs₀ (F := F)) 𝒱₀ (c : Thread nD τ) none) E
        (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v6 v8 v9 v10 v11 v12 w v31 v50 h2) Q := by
  unfold ow owns
  iintro ⟨⟨%f3, %h3, H3⟩, ⟨%f5, %h5, H5⟩, ⟨%f6, %h6, H6⟩, ⟨%f16, %h16, H16⟩, Hk⟩
  subst h3
  subst h5
  subst h6
  subst h16
  rw [k0_part1_eq_skeleton]
  simp only [k0_part1_skel]
  sl_exec
  sl_step
  iapply Hk
  · ipureintro; rfl
  isplitl [H3]; · (iexists _; isplitr; swap; iexact H3; ipureintro; rfl)
  isplitl [H5]; · (iexists _; isplitr; swap; iexact H5; ipureintro; rfl)
  isplitl [H6]; · (iexists _; isplitr; swap; iexact H6; ipureintro; rfl)
  (iexists _; isplitr; swap; iexact H16; ipureintro; rfl)

include harg1 harg2 harg3 harg4 harg5 harg6 harg7 harg8 harg9 harg10 harg11 harg12 harg13 harg14 harg15 harg16 in
theorem part1_run (v3 v4 : Vec F S10000x128 .f32) (v6 v8 : IVec S1x10000 32) (v9 v10 v11 v12 : BitVec 32) (w : k0_chk1 v9 v10 v11 v12) (h2 : k0_cond2 v9 v10 v11 v12 = 1#1) (v31 v50 : BitVec 32) (X3 : Vec F S256x64 .f32) (X5 : Vec F S64x1 .f32) (X6 : Vec F S1x1 .f32) (X16 : Vec F S256x64 .f32) (E : Set ℕ) (Q : _ → sProp 𝕄) :
    iprop(ow c arg3 X3 ∗ ow c arg5 X5 ∗ ow c arg6 X6 ∗ ow c arg16 X16
      ∗ (iprop(ow c arg3 X3 ∗ ow c arg5 X5 ∗ ow c arg6 X6 ∗ ow c arg16 X16) -∗ Q ⟨k0_pay3 v6 v31, k0_pay4 v3 v6 v31 (w1a X3) (View.ld X16 (Rect.unit (s := S256x64) (k0_off1 v9) S64x64.size (k0_off1_inb v9 v10 v11 v12 w h2))) (View.ld X5 (Rect.unit (s := S64x1) ![0, 0] S64x1.size inb_S64x1_S64x1_0_0)) (View.ld X6 (Rect.unit (s := S1x1) ![0, 0] S1x1.size inb_S1x1_S1x1_0_0)), k0_pay5 v8 v50, k0_pay6 v4 v8 v50 (w1a X3) (View.ld X16 (Rect.unit (s := S256x64) (k0_off2 v11) S64x64.size (k0_off2_inb v9 v10 v11 v12 w h2))) (View.ld X5 (Rect.unit (s := S64x1) ![0, 0] S64x1.size inb_S64x1_S64x1_0_0))⟩))
    ⊢ wp frame (wpE (defs₀ (F := F)) 𝒱₀ (c : Thread nD τ) none) E
        (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v6 v8 v9 v10 v11 v12 w v31 v50 h2) Q := by
  iintro ⟨H3, H5, H6, H16, Hk⟩
  iapply (part1_run_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v6 v8 v9 v10 v11 v12 w h2 v31 v50 X3 X5 X6 X16 E Q)
  isplitl [H3]; · iexact H3
  isplitl [H5]; · iexact H5
  isplitl [H6]; · iexact H6
  isplitl [H16]; · iexact H16
  iintro %r %hr H
  subst hr
  iapply Hk
  iexact H

include harg1 harg2 harg3 harg4 harg5 harg6 harg7 harg8 harg9 harg10 harg11 harg12 harg13 harg14 harg15 harg16 in
theorem part2_run_eq (v85 v102 : FVec F S1x10000 .f32) (X6 : Vec F S1x1 .f32) (X9 : Vec F S1x2x10000 .f32) (X13 : Vec F S1x1 .f32) (X14 : Vec F S256x1 .f32) (X15 : Vec F S256x128 .f32) (E : Set ℕ) (Q : _ → sProp 𝕄) :
    iprop(ow c arg6 X6 ∗ ow c arg9 X9 ∗ ow c arg13 X13 ∗ ow c arg14 X14 ∗ ow c arg15 X15
      ∗ (∀ r, ⌜r = ⟨k0_pay7 v102 (View.ld X6 (Rect.unit (s := S1x1) ![0, 0] S1x1.size inb_S1x1_S1x1_0_0)), k0_pay10 v85 v102 (View.ld X6 (Rect.unit (s := S1x1) ![0, 0] S1x1.size inb_S1x1_S1x1_0_0)) (one X13), k0_pay13 v85 v102 (View.ld X6 (Rect.unit (s := S1x1) ![0, 0] S1x1.size inb_S1x1_S1x1_0_0)) (one X13) (View.ld X15 (Rect.unit (s := S256x128) ![0, 0] S256x128.size inb_S256x128_S256x128_0_0)), (View.ld X15 (Rect.unit (s := S256x128) ![0, 0] S256x128.size inb_S256x128_S256x128_0_0))⟩⌝ -∗ iprop(ow c arg6 X6 ∗ ow c arg9 (pair v85 (k0_pay7 v102 (View.ld X6 (Rect.unit (s := S1x1) ![0, 0] S1x1.size inb_S1x1_S1x1_0_0)))) ∗ ow c arg13 (fun _ => k0_pay10 v85 v102 (View.ld X6 (Rect.unit (s := S1x1) ![0, 0] S1x1.size inb_S1x1_S1x1_0_0)) (one X13)) ∗ ow c arg14 (k0_pay12 v85 v102 (View.ld X6 (Rect.unit (s := S1x1) ![0, 0] S1x1.size inb_S1x1_S1x1_0_0)) (one X13) (View.ld X14 (Rect.unit (s := S256x1) ![0, 0] S256x1.size inb_S256x1_S256x1_0_0))) ∗ ow c arg15 X15) -∗ Q r))
    ⊢ wp frame (wpE (defs₀ (F := F)) 𝒱₀ (c : Thread nD τ) none) E
        (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v85 v102) Q := by
  unfold ow owns
  iintro ⟨⟨%f6, %h6, H6⟩, ⟨%f9, %h9, H9⟩, ⟨%f13, %h13, H13⟩, ⟨%f14, %h14, H14⟩, ⟨%f15, %h15, H15⟩, Hk⟩
  subst h6
  subst h9
  subst h13
  subst h14
  subst h15
  rw [k0_part2_eq_skeleton]
  simp only [k0_part2_skel]
  sl_exec
  sl_step
  iapply Hk
  · ipureintro; rfl
  isplitl [H6]; · (iexists _; isplitr; swap; iexact H6; ipureintro; rfl)
  isplitl [H9]; · (iexists _; isplitr; swap; iexact H9; ipureintro; exact pair_eq _ _ _ _ _ _ rfl rfl)
  isplitl [H13]; · (iexists _; isplitr; swap; iexact H13; ipureintro; exact View.read_writes_full (Val := Elt F) _ _ _ _ _)
  isplitl [H14]; · (iexists _; isplitr; swap; iexact H14; ipureintro; exact View.read_writes_full (Val := Elt F) _ _ _ _ _)
  (iexists _; isplitr; swap; iexact H15; ipureintro; rfl)

include harg1 harg2 harg3 harg4 harg5 harg6 harg7 harg8 harg9 harg10 harg11 harg12 harg13 harg14 harg15 harg16 in
theorem part2_run (v85 v102 : FVec F S1x10000 .f32) (X6 : Vec F S1x1 .f32) (X9 : Vec F S1x2x10000 .f32) (X13 : Vec F S1x1 .f32) (X14 : Vec F S256x1 .f32) (X15 : Vec F S256x128 .f32) (E : Set ℕ) (Q : _ → sProp 𝕄) :
    iprop(ow c arg6 X6 ∗ ow c arg9 X9 ∗ ow c arg13 X13 ∗ ow c arg14 X14 ∗ ow c arg15 X15
      ∗ (iprop(ow c arg6 X6 ∗ ow c arg9 (pair v85 (k0_pay7 v102 (View.ld X6 (Rect.unit (s := S1x1) ![0, 0] S1x1.size inb_S1x1_S1x1_0_0)))) ∗ ow c arg13 (fun _ => k0_pay10 v85 v102 (View.ld X6 (Rect.unit (s := S1x1) ![0, 0] S1x1.size inb_S1x1_S1x1_0_0)) (one X13)) ∗ ow c arg14 (k0_pay12 v85 v102 (View.ld X6 (Rect.unit (s := S1x1) ![0, 0] S1x1.size inb_S1x1_S1x1_0_0)) (one X13) (View.ld X14 (Rect.unit (s := S256x1) ![0, 0] S256x1.size inb_S256x1_S256x1_0_0))) ∗ ow c arg15 X15) -∗ Q ⟨k0_pay7 v102 (View.ld X6 (Rect.unit (s := S1x1) ![0, 0] S1x1.size inb_S1x1_S1x1_0_0)), k0_pay10 v85 v102 (View.ld X6 (Rect.unit (s := S1x1) ![0, 0] S1x1.size inb_S1x1_S1x1_0_0)) (one X13), k0_pay13 v85 v102 (View.ld X6 (Rect.unit (s := S1x1) ![0, 0] S1x1.size inb_S1x1_S1x1_0_0)) (one X13) (View.ld X15 (Rect.unit (s := S256x128) ![0, 0] S256x128.size inb_S256x128_S256x128_0_0)), (View.ld X15 (Rect.unit (s := S256x128) ![0, 0] S256x128.size inb_S256x128_S256x128_0_0))⟩))
    ⊢ wp frame (wpE (defs₀ (F := F)) 𝒱₀ (c : Thread nD τ) none) E
        (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v85 v102) Q := by
  iintro ⟨H6, H9, H13, H14, H15, Hk⟩
  iapply (part2_run_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v85 v102 X6 X9 X13 X14 X15 E Q)
  isplitl [H6]; · iexact H6
  isplitl [H9]; · iexact H9
  isplitl [H13]; · iexact H13
  isplitl [H14]; · iexact H14
  isplitl [H15]; · iexact H15
  iintro %r %hr H
  subst hr
  iapply Hk
  iexact H

include harg1 harg2 harg3 harg4 harg5 harg6 harg7 harg8 harg9 harg10 harg11 harg12 harg13 harg14 harg15 harg16 in
theorem part5_run_eq (v84 v100 : FVec F S1x10000 .f32) (X6 : Vec F S1x1 .f32) (X9 : Vec F S1x2x10000 .f32) (X13 : Vec F S1x1 .f32) (X14 : Vec F S256x1 .f32) (X15 : Vec F S256x128 .f32) (E : Set ℕ) (Q : _ → sProp 𝕄) :
    iprop(ow c arg6 X6 ∗ ow c arg9 X9 ∗ ow c arg13 X13 ∗ ow c arg14 X14 ∗ ow c arg15 X15
      ∗ (∀ r, ⌜r = ⟨k0_pay25 v100 (View.ld X6 (Rect.unit (s := S1x1) ![0, 0] S1x1.size inb_S1x1_S1x1_0_0)), k0_pay28 v84 v100 (View.ld X6 (Rect.unit (s := S1x1) ![0, 0] S1x1.size inb_S1x1_S1x1_0_0)) (one X13), k0_pay31 v84 v100 (View.ld X6 (Rect.unit (s := S1x1) ![0, 0] S1x1.size inb_S1x1_S1x1_0_0)) (one X13) (View.ld X15 (Rect.unit (s := S256x128) ![0, 0] S256x128.size inb_S256x128_S256x128_0_0))⟩⌝ -∗ iprop(ow c arg6 X6 ∗ ow c arg9 (pair v84 (k0_pay25 v100 (View.ld X6 (Rect.unit (s := S1x1) ![0, 0] S1x1.size inb_S1x1_S1x1_0_0)))) ∗ ow c arg13 (fun _ => k0_pay28 v84 v100 (View.ld X6 (Rect.unit (s := S1x1) ![0, 0] S1x1.size inb_S1x1_S1x1_0_0)) (one X13)) ∗ ow c arg14 (k0_pay30 v84 v100 (View.ld X6 (Rect.unit (s := S1x1) ![0, 0] S1x1.size inb_S1x1_S1x1_0_0)) (one X13) (View.ld X14 (Rect.unit (s := S256x1) ![0, 0] S256x1.size inb_S256x1_S256x1_0_0))) ∗ ow c arg15 X15) -∗ Q r))
    ⊢ wp frame (wpE (defs₀ (F := F)) 𝒱₀ (c : Thread nD τ) none) E
        (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v84 v100) Q := by
  unfold ow owns
  iintro ⟨⟨%f6, %h6, H6⟩, ⟨%f9, %h9, H9⟩, ⟨%f13, %h13, H13⟩, ⟨%f14, %h14, H14⟩, ⟨%f15, %h15, H15⟩, Hk⟩
  subst h6
  subst h9
  subst h13
  subst h14
  subst h15
  rw [k0_part5_eq_skeleton]
  simp only [k0_part5_skel]
  sl_exec
  sl_step
  iapply Hk
  · ipureintro; rfl
  isplitl [H6]; · (iexists _; isplitr; swap; iexact H6; ipureintro; rfl)
  isplitl [H9]; · (iexists _; isplitr; swap; iexact H9; ipureintro; exact pair_eq _ _ _ _ _ _ rfl rfl)
  isplitl [H13]; · (iexists _; isplitr; swap; iexact H13; ipureintro; exact View.read_writes_full (Val := Elt F) _ _ _ _ _)
  isplitl [H14]; · (iexists _; isplitr; swap; iexact H14; ipureintro; exact View.read_writes_full (Val := Elt F) _ _ _ _ _)
  (iexists _; isplitr; swap; iexact H15; ipureintro; rfl)

include harg1 harg2 harg3 harg4 harg5 harg6 harg7 harg8 harg9 harg10 harg11 harg12 harg13 harg14 harg15 harg16 in
theorem part5_run (v84 v100 : FVec F S1x10000 .f32) (X6 : Vec F S1x1 .f32) (X9 : Vec F S1x2x10000 .f32) (X13 : Vec F S1x1 .f32) (X14 : Vec F S256x1 .f32) (X15 : Vec F S256x128 .f32) (E : Set ℕ) (Q : _ → sProp 𝕄) :
    iprop(ow c arg6 X6 ∗ ow c arg9 X9 ∗ ow c arg13 X13 ∗ ow c arg14 X14 ∗ ow c arg15 X15
      ∗ (iprop(ow c arg6 X6 ∗ ow c arg9 (pair v84 (k0_pay25 v100 (View.ld X6 (Rect.unit (s := S1x1) ![0, 0] S1x1.size inb_S1x1_S1x1_0_0)))) ∗ ow c arg13 (fun _ => k0_pay28 v84 v100 (View.ld X6 (Rect.unit (s := S1x1) ![0, 0] S1x1.size inb_S1x1_S1x1_0_0)) (one X13)) ∗ ow c arg14 (k0_pay30 v84 v100 (View.ld X6 (Rect.unit (s := S1x1) ![0, 0] S1x1.size inb_S1x1_S1x1_0_0)) (one X13) (View.ld X14 (Rect.unit (s := S256x1) ![0, 0] S256x1.size inb_S256x1_S256x1_0_0))) ∗ ow c arg15 X15) -∗ Q ⟨k0_pay25 v100 (View.ld X6 (Rect.unit (s := S1x1) ![0, 0] S1x1.size inb_S1x1_S1x1_0_0)), k0_pay28 v84 v100 (View.ld X6 (Rect.unit (s := S1x1) ![0, 0] S1x1.size inb_S1x1_S1x1_0_0)) (one X13), k0_pay31 v84 v100 (View.ld X6 (Rect.unit (s := S1x1) ![0, 0] S1x1.size inb_S1x1_S1x1_0_0)) (one X13) (View.ld X15 (Rect.unit (s := S256x128) ![0, 0] S256x128.size inb_S256x128_S256x128_0_0))⟩))
    ⊢ wp frame (wpE (defs₀ (F := F)) 𝒱₀ (c : Thread nD τ) none) E
        (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v84 v100) Q := by
  iintro ⟨H6, H9, H13, H14, H15, Hk⟩
  iapply (part5_run_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v84 v100 X6 X9 X13 X14 X15 E Q)
  isplitl [H6]; · iexact H6
  isplitl [H9]; · iexact H9
  isplitl [H13]; · iexact H13
  isplitl [H14]; · iexact H14
  isplitl [H15]; · iexact H15
  iintro %r %hr H
  subst hr
  iapply Hk
  iexact H

include harg1 harg2 harg3 harg4 harg5 harg6 harg7 harg8 harg9 harg10 harg11 harg12 harg13 harg14 harg15 harg16 in
theorem part3_run_eq (v3 v4 : Vec F S10000x128 .f32) (v9 v10 v11 v12 : BitVec 32) (w : k0_chk1 v9 v10 v11 v12) (h2 : k0_cond2 v9 v10 v11 v12 = 1#1) (v31 v50 : BitVec 32) (v56 : FVec F S10000x1 .f32) (v69 : IVec S64x10000 1) (v85 : FVec F S1x10000 .f32) (v90 : IVec S64x10000 1) (v106 : FVec F S1x10000 .f32) (v125 : F .f32) (v137 : FVec F S256x128 .f32) (v138 : Vec F S256x128 .f32) (X14 : Vec F S256x1 .f32) (X15 : Vec F S256x128 .f32) (E : Set ℕ) (Q : _ → sProp 𝕄) :
    iprop(ow c arg14 X14 ∗ ow c arg15 X15
      ∗ (∀ r, ⌜r = ⟨k0_pay19 v4 v90 v106 v125, (window (put (k0_pay14 v137) (k0_off4 v9) S64x128.size (k0_pay17 v3 v69 v85 v125 (window (k0_pay14 v137) (k0_off4 v9) S64x128.size (k0_off4_inb v9 v10 v11 v12 w h2)))) (k0_off6 v11) S64x128.size (k0_off6_inb v9 v10 v11 v12 w h2))⟩⌝ -∗ iprop(ow c arg14 (put (put X14 (k0_off3 v9) S64x1.size (k0_pay16 v56 v69 v85 v125 (window X14 (k0_off3 v9) S64x1.size (k0_off3_inb v9 v10 v11 v12 w h2)))) (k0_off5 v11) S64x1.size (k0_pay20 v56 v90 v106 v125 (window (put X14 (k0_off3 v9) S64x1.size (k0_pay16 v56 v69 v85 v125 (window X14 (k0_off3 v9) S64x1.size (k0_off3_inb v9 v10 v11 v12 w h2)))) (k0_off5 v11) S64x1.size (k0_off5_inb v9 v10 v11 v12 w h2)))) ∗ ow c arg15 (put (k0_pay14 v137) (k0_off4 v9) S64x128.size (k0_pay17 v3 v69 v85 v125 (window (k0_pay14 v137) (k0_off4 v9) S64x128.size (k0_off4_inb v9 v10 v11 v12 w h2))))) -∗ Q r))
    ⊢ wp frame (wpE (defs₀ (F := F)) 𝒱₀ (c : Thread nD τ) none) E
        (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v9 v10 v11 v12 w v31 v50 v56 h2 v69 v85 v90 v106 v125 v137 v138) Q := by
  unfold ow owns
  iintro ⟨⟨%f14, %h14, H14⟩, ⟨%f15, %h15, H15⟩, Hk⟩
  subst h14
  subst h15
  rw [k0_part3_eq_skeleton]
  simp only [k0_part3_skel]
  sl_exec
  sl_step
  iapply Hk
  · ipureintro; exact congrArg (PSigma.mk _) (over_block_read (F := F) arg15.view _ inb_S256x128_S256x128_0_0 _ _ (fun x => k0_pay17 v3 v69 v85 v125 x) (k0_pay14 v137) _ rfl)
  isplitl [H14]; · (iexists _; isplitr; swap; iexact H14; ipureintro; exact two_windows (F := F) arg14.view f14 _ _ (fun x => k0_pay16 v56 v69 v85 v125 x) (fun x => k0_pay20 v56 v90 v106 v125 x))
  (iexists _; isplitr; swap; iexact H15; ipureintro; exact over_block (F := F) arg15.view _ inb_S256x128_S256x128_0_0 _ (fun x => k0_pay17 v3 v69 v85 v125 x) (k0_pay14 v137) _ rfl)

include harg1 harg2 harg3 harg4 harg5 harg6 harg7 harg8 harg9 harg10 harg11 harg12 harg13 harg14 harg15 harg16 in
theorem part3_run (v3 v4 : Vec F S10000x128 .f32) (v9 v10 v11 v12 : BitVec 32) (w : k0_chk1 v9 v10 v11 v12) (h2 : k0_cond2 v9 v10 v11 v12 = 1#1) (v31 v50 : BitVec 32) (v56 : FVec F S10000x1 .f32) (v69 : IVec S64x10000 1) (v85 : FVec F S1x10000 .f32) (v90 : IVec S64x10000 1) (v106 : FVec F S1x10000 .f32) (v125 : F .f32) (v137 : FVec F S256x128 .f32) (v138 : Vec F S256x128 .f32) (X14 : Vec F S256x1 .f32) (X15 : Vec F S256x128 .f32) (E : Set ℕ) (Q : _ → sProp 𝕄) :
    iprop(ow c arg14 X14 ∗ ow c arg15 X15
      ∗ (iprop(ow c arg14 (put (put X14 (k0_off3 v9) S64x1.size (k0_pay16 v56 v69 v85 v125 (window X14 (k0_off3 v9) S64x1.size (k0_off3_inb v9 v10 v11 v12 w h2)))) (k0_off5 v11) S64x1.size (k0_pay20 v56 v90 v106 v125 (window (put X14 (k0_off3 v9) S64x1.size (k0_pay16 v56 v69 v85 v125 (window X14 (k0_off3 v9) S64x1.size (k0_off3_inb v9 v10 v11 v12 w h2)))) (k0_off5 v11) S64x1.size (k0_off5_inb v9 v10 v11 v12 w h2)))) ∗ ow c arg15 (put (k0_pay14 v137) (k0_off4 v9) S64x128.size (k0_pay17 v3 v69 v85 v125 (window (k0_pay14 v137) (k0_off4 v9) S64x128.size (k0_off4_inb v9 v10 v11 v12 w h2))))) -∗ Q ⟨k0_pay19 v4 v90 v106 v125, (window (put (k0_pay14 v137) (k0_off4 v9) S64x128.size (k0_pay17 v3 v69 v85 v125 (window (k0_pay14 v137) (k0_off4 v9) S64x128.size (k0_off4_inb v9 v10 v11 v12 w h2)))) (k0_off6 v11) S64x128.size (k0_off6_inb v9 v10 v11 v12 w h2))⟩))
    ⊢ wp frame (wpE (defs₀ (F := F)) 𝒱₀ (c : Thread nD τ) none) E
        (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v9 v10 v11 v12 w v31 v50 v56 h2 v69 v85 v90 v106 v125 v137 v138) Q := by
  iintro ⟨H14, H15, Hk⟩
  iapply (part3_run_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v9 v10 v11 v12 w h2 v31 v50 v56 v69 v85 v90 v106 v125 v137 v138 X14 X15 E Q)
  isplitl [H14]; · iexact H14
  isplitl [H15]; · iexact H15
  iintro %r %hr H
  subst hr
  iapply Hk
  iexact H

include harg1 harg2 harg3 harg4 harg5 harg6 harg7 harg8 harg9 harg10 harg11 harg12 harg13 harg14 harg15 harg16 in
theorem part4_run_eq (v3 v4 : Vec F S10000x128 .f32) (v6 v8 : IVec S1x10000 32) (X3 : Vec F S256x64 .f32) (X5 : Vec F S64x1 .f32) (X6 : Vec F S1x1 .f32) (X16 : Vec F S256x64 .f32) (E : Set ℕ) (Q : _ → sProp 𝕄) :
    iprop(ow c arg3 X3 ∗ ow c arg5 X5 ∗ ow c arg6 X6 ∗ ow c arg16 X16
      ∗ (∀ r, ⌜r = ⟨k0_pay21 v6, k0_pay22 v3 v6 (w1a X3) (View.ld X16 (Rect.unit (s := S256x64) ![0, 0] S256x64.size inb_S256x64_S256x64_0_0)) (View.ld X5 (Rect.unit (s := S64x1) ![0, 0] S64x1.size inb_S64x1_S64x1_0_0)) (View.ld X6 (Rect.unit (s := S1x1) ![0, 0] S1x1.size inb_S1x1_S1x1_0_0)), k0_pay23 v8, k0_pay24 v4 v8 (w1a X3) (View.ld X16 (Rect.unit (s := S256x64) ![0, 0] S256x64.size inb_S256x64_S256x64_0_0)) (View.ld X5 (Rect.unit (s := S64x1) ![0, 0] S64x1.size inb_S64x1_S64x1_0_0))⟩⌝ -∗ iprop(ow c arg3 X3 ∗ ow c arg5 X5 ∗ ow c arg6 X6 ∗ ow c arg16 X16) -∗ Q r))
    ⊢ wp frame (wpE (defs₀ (F := F)) 𝒱₀ (c : Thread nD τ) none) E
        (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v6 v8) Q := by
  unfold ow owns
  iintro ⟨⟨%f3, %h3, H3⟩, ⟨%f5, %h5, H5⟩, ⟨%f6, %h6, H6⟩, ⟨%f16, %h16, H16⟩, Hk⟩
  subst h3
  subst h5
  subst h6
  subst h16
  rw [k0_part4_eq_skeleton]
  simp only [k0_part4_skel]
  sl_exec
  sl_step
  iapply Hk
  · ipureintro; rfl
  isplitl [H3]; · (iexists _; isplitr; swap; iexact H3; ipureintro; rfl)
  isplitl [H5]; · (iexists _; isplitr; swap; iexact H5; ipureintro; rfl)
  isplitl [H6]; · (iexists _; isplitr; swap; iexact H6; ipureintro; rfl)
  (iexists _; isplitr; swap; iexact H16; ipureintro; rfl)

include harg1 harg2 harg3 harg4 harg5 harg6 harg7 harg8 harg9 harg10 harg11 harg12 harg13 harg14 harg15 harg16 in
theorem part4_run (v3 v4 : Vec F S10000x128 .f32) (v6 v8 : IVec S1x10000 32) (X3 : Vec F S256x64 .f32) (X5 : Vec F S64x1 .f32) (X6 : Vec F S1x1 .f32) (X16 : Vec F S256x64 .f32) (E : Set ℕ) (Q : _ → sProp 𝕄) :
    iprop(ow c arg3 X3 ∗ ow c arg5 X5 ∗ ow c arg6 X6 ∗ ow c arg16 X16
      ∗ (iprop(ow c arg3 X3 ∗ ow c arg5 X5 ∗ ow c arg6 X6 ∗ ow c arg16 X16) -∗ Q ⟨k0_pay21 v6, k0_pay22 v3 v6 (w1a X3) (View.ld X16 (Rect.unit (s := S256x64) ![0, 0] S256x64.size inb_S256x64_S256x64_0_0)) (View.ld X5 (Rect.unit (s := S64x1) ![0, 0] S64x1.size inb_S64x1_S64x1_0_0)) (View.ld X6 (Rect.unit (s := S1x1) ![0, 0] S1x1.size inb_S1x1_S1x1_0_0)), k0_pay23 v8, k0_pay24 v4 v8 (w1a X3) (View.ld X16 (Rect.unit (s := S256x64) ![0, 0] S256x64.size inb_S256x64_S256x64_0_0)) (View.ld X5 (Rect.unit (s := S64x1) ![0, 0] S64x1.size inb_S64x1_S64x1_0_0))⟩))
    ⊢ wp frame (wpE (defs₀ (F := F)) 𝒱₀ (c : Thread nD τ) none) E
        (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v6 v8) Q := by
  iintro ⟨H3, H5, H6, H16, Hk⟩
  iapply (part4_run_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v6 v8 X3 X5 X6 X16 E Q)
  isplitl [H3]; · iexact H3
  isplitl [H5]; · iexact H5
  isplitl [H6]; · iexact H6
  isplitl [H16]; · iexact H16
  iintro %r %hr H
  subst hr
  iapply Hk
  iexact H

include harg1 harg2 harg3 harg4 harg5 harg6 harg7 harg8 harg9 harg10 harg11 harg12 harg13 harg14 harg15 harg16 in
theorem part6_run (v3 v4 : Vec F S10000x128 .f32) (v56 : FVec F S10000x1 .f32) (v69 : IVec S256x10000 1) (v84 : FVec F S1x10000 .f32) (v89 : IVec S256x10000 1) (v104 : FVec F S1x10000 .f32) (v123 : F .f32) (v135 : FVec F S256x128 .f32) (X14 : Vec F S256x1 .f32) (X15 : Vec F S256x128 .f32) (E : Set ℕ) (Q : _ → sProp 𝕄) :
    iprop(ow c arg14 X14 ∗ ow c arg15 X15
      ∗ (iprop(ow c arg14 (k0_pay38 v56 v89 v104 v123 (k0_pay34 v56 v69 v84 v123 (View.ld X14 (Rect.unit (s := S256x1) ![0, 0] S256x1.size inb_S256x1_S256x1_0_0)))) ∗ ow c arg15 (k0_pay35 v3 v69 v84 v123 (k0_pay32 v135))) -∗ Q (k0_pay37 v4 v89 v104 v123)))
    ⊢ wp frame (wpE (defs₀ (F := F)) 𝒱₀ (c : Thread nD τ) none) E
        (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v3 v4 v56 v69 v84 v89 v104 v123 v135) Q := by
  unfold ow owns
  iintro ⟨⟨%f14, %h14, H14⟩, ⟨%f15, %h15, H15⟩, Hk⟩
  subst h14
  subst h15
  rw [k0_part6_eq_skeleton]
  simp only [k0_part6_skel]
  sl_exec
  sl_step
  iapply Hk
  isplitl [H14]; · (iexists _; isplitr; swap; iexact H14; ipureintro; exact (View.read_writes_full (Val := Elt F) (e := .f32) _ _ _ _ _).trans (congrArg (k0_pay38 v56 v89 v104 v123) (View.readCov_full (Val := Elt F) (e := .f32) _ _ _ _ _)))
  (iexists _; isplitr; swap; iexact H15; ipureintro; exact (View.read_writes_full (Val := Elt F) (e := .f32) _ _ _ _ _).trans (congrArg (k0_pay35 v3 v69 v84 v123) (View.readCov_full (Val := Elt F) (e := .f32) _ _ _ _ _)))

include harg1 harg2 harg3 harg4 harg5 harg6 harg7 harg8 harg9 harg10 harg11 harg12 harg13 harg14 harg15 harg16 in
theorem part7_first_eq (hz : Scalar.cmpi .ne (Scalar.extui (Scalar.cmpi .eq (BitVec.ofNat 32 (i 0).val) 0#32) : BitVec 32) 0#32 = 1#1) (X1 : Vec F S20000x128 .f32) (X2 : Vec F S256x128 .f32) (X3 : Vec F S256x64 .f32) (X4 : Vec F S1x64 .f32) (X7 : Vec F S1x2x10000 .i32) (X8 : Vec F S1x2x2 .i32) (X13 : Vec F S1x1 .f32) (X14 : Vec F S256x1 .f32) (X15 : Vec F S256x128 .f32) (X16 : Vec F S256x64 .f32) (w : k0_chk1 (lo0 X8) (hi0 X8) (lo1 X8) (hi1 X8)) (E : Set ℕ) (Q : _ → sProp 𝕄) :
    iprop(ow c arg1 X1 ∗ ow c arg2 X2 ∗ ow c arg3 X3 ∗ ow c arg4 X4 ∗ ow c arg7 X7 ∗ ow c arg8 X8 ∗ ow c arg13 X13 ∗ ow c arg14 X14 ∗ ow c arg15 X15 ∗ ow c arg16 X16
      ∗ (∀ r, ⌜r = ⟨BitVec.ofNat 32 (i 0).val, half0 X1, half1 X1, ids0 X7, ids1 X7, lo0 X8, hi0 X8, lo1 X8, hi1 X8, w, Scalar.divsi (lo0 X8) 8#32,
        Scalar.cmpi .ne (Scalar.subi (Scalar.extui (Scalar.cmpi .sgt (lo0 X8) 0#32)) (Scalar.extui (Scalar.cmpi .slt (lo0 X8) 0#32)) : BitVec 32)
          (Scalar.subi (Scalar.extui (Scalar.cmpi .sgt 8#32 0#32)) (Scalar.extui (Scalar.cmpi .slt 8#32 0#32))),
        Scalar.cmpi .ne (Scalar.remsi (lo0 X8) 8#32) 0#32⟩⌝ -∗ iprop(ow c arg1 X1 ∗ ow c arg2 X2 ∗ ow c arg3 X3 ∗ ow c arg4 X4 ∗ ow c arg7 X7 ∗ ow c arg8 X8 ∗ ow c arg13 (fun _ => Scalar.ofBits .f32 0xF149F2CA#32) ∗ ow c arg14 (k0_pay39 (F := F)) ∗ ow c arg15 (k0_pay40 (F := F)) ∗ ow c arg16 (k0_pay41 (View.ld X2 (Rect.unit (s := S256x128) ![0, 0] S256x128.size inb_S256x128_S256x128_0_0)) (w1b X3) (View.ld X4 (Rect.unit (s := S1x64) ![0, 0] S1x64.size inb_S1x64_S1x64_0_0)))) -∗ Q r))
    ⊢ wp frame (wpE (defs₀ (F := F)) 𝒱₀ (c : Thread nD τ) none) E
        (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 ) Q := by
  unfold ow owns
  iintro ⟨⟨%f1, %h1, H1⟩, ⟨%f2, %h2, H2⟩, ⟨%f3, %h3, H3⟩, ⟨%f4, %h4, H4⟩, ⟨%f7, %h7, H7⟩, ⟨%f8, %h8, H8⟩, ⟨%f13, %h13, H13⟩, ⟨%f14, %h14, H14⟩, ⟨%f15, %h15, H15⟩, ⟨%f16, %h16, H16⟩, Hk⟩
  subst h1
  subst h2
  subst h3
  subst h4
  subst h7
  subst h8
  subst h13
  subst h14
  subst h15
  subst h16
  rw [k0_part7_eq_skeleton]
  simp only [k0_part7_skel, hz, if_true, dite_true]
  sl_exec (disch := exact w)
  sl_step
  iapply Hk
  · ipureintro; rfl
  isplitl [H1]; · (iexists _; isplitr; swap; iexact H1; ipureintro; rfl)
  isplitl [H2]; · (iexists _; isplitr; swap; iexact H2; ipureintro; rfl)
  isplitl [H3]; · (iexists _; isplitr; swap; iexact H3; ipureintro; rfl)
  isplitl [H4]; · (iexists _; isplitr; swap; iexact H4; ipureintro; rfl)
  isplitl [H7]; · (iexists _; isplitr; swap; iexact H7; ipureintro; rfl)
  isplitl [H8]; · (iexists _; isplitr; swap; iexact H8; ipureintro; rfl)
  isplitl [H13]; · (iexists _; isplitr; swap; iexact H13; ipureintro; exact View.read_writes_full (Val := Elt F) _ _ _ _ _)
  isplitl [H14]; · (iexists _; isplitr; swap; iexact H14; ipureintro; exact View.read_writes_full (Val := Elt F) _ _ _ _ _)
  isplitl [H15]; · (iexists _; isplitr; swap; iexact H15; ipureintro; exact View.read_writes_full (Val := Elt F) _ _ _ _ _)
  (iexists _; isplitr; swap; iexact H16; ipureintro; exact View.read_writes_full (Val := Elt F) _ _ _ _ _)

include harg1 harg2 harg3 harg4 harg5 harg6 harg7 harg8 harg9 harg10 harg11 harg12 harg13 harg14 harg15 harg16 in
theorem part7_first (hz : Scalar.cmpi .ne (Scalar.extui (Scalar.cmpi .eq (BitVec.ofNat 32 (i 0).val) 0#32) : BitVec 32) 0#32 = 1#1) (X1 : Vec F S20000x128 .f32) (X2 : Vec F S256x128 .f32) (X3 : Vec F S256x64 .f32) (X4 : Vec F S1x64 .f32) (X7 : Vec F S1x2x10000 .i32) (X8 : Vec F S1x2x2 .i32) (X13 : Vec F S1x1 .f32) (X14 : Vec F S256x1 .f32) (X15 : Vec F S256x128 .f32) (X16 : Vec F S256x64 .f32) (w : k0_chk1 (lo0 X8) (hi0 X8) (lo1 X8) (hi1 X8)) (E : Set ℕ) (Q : _ → sProp 𝕄) :
    iprop(ow c arg1 X1 ∗ ow c arg2 X2 ∗ ow c arg3 X3 ∗ ow c arg4 X4 ∗ ow c arg7 X7 ∗ ow c arg8 X8 ∗ ow c arg13 X13 ∗ ow c arg14 X14 ∗ ow c arg15 X15 ∗ ow c arg16 X16
      ∗ (iprop(ow c arg1 X1 ∗ ow c arg2 X2 ∗ ow c arg3 X3 ∗ ow c arg4 X4 ∗ ow c arg7 X7 ∗ ow c arg8 X8 ∗ ow c arg13 (fun _ => Scalar.ofBits .f32 0xF149F2CA#32) ∗ ow c arg14 (k0_pay39 (F := F)) ∗ ow c arg15 (k0_pay40 (F := F)) ∗ ow c arg16 (k0_pay41 (View.ld X2 (Rect.unit (s := S256x128) ![0, 0] S256x128.size inb_S256x128_S256x128_0_0)) (w1b X3) (View.ld X4 (Rect.unit (s := S1x64) ![0, 0] S1x64.size inb_S1x64_S1x64_0_0)))) -∗ Q ⟨BitVec.ofNat 32 (i 0).val, half0 X1, half1 X1, ids0 X7, ids1 X7, lo0 X8, hi0 X8, lo1 X8, hi1 X8, w, Scalar.divsi (lo0 X8) 8#32,
        Scalar.cmpi .ne (Scalar.subi (Scalar.extui (Scalar.cmpi .sgt (lo0 X8) 0#32)) (Scalar.extui (Scalar.cmpi .slt (lo0 X8) 0#32)) : BitVec 32)
          (Scalar.subi (Scalar.extui (Scalar.cmpi .sgt 8#32 0#32)) (Scalar.extui (Scalar.cmpi .slt 8#32 0#32))),
        Scalar.cmpi .ne (Scalar.remsi (lo0 X8) 8#32) 0#32⟩))
    ⊢ wp frame (wpE (defs₀ (F := F)) 𝒱₀ (c : Thread nD τ) none) E
        (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 ) Q := by
  iintro ⟨H1, H2, H3, H4, H7, H8, H13, H14, H15, H16, Hk⟩
  iapply (part7_first_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hz X1 X2 X3 X4 X7 X8 X13 X14 X15 X16 w E Q)
  isplitl [H1]; · iexact H1
  isplitl [H2]; · iexact H2
  isplitl [H3]; · iexact H3
  isplitl [H4]; · iexact H4
  isplitl [H7]; · iexact H7
  isplitl [H8]; · iexact H8
  isplitl [H13]; · iexact H13
  isplitl [H14]; · iexact H14
  isplitl [H15]; · iexact H15
  isplitl [H16]; · iexact H16
  iintro %r %hr H
  subst hr
  iapply Hk
  iexact H

include harg1 harg2 harg3 harg4 harg5 harg6 harg7 harg8 harg9 harg10 harg11 harg12 harg13 harg14 harg15 harg16 in
theorem part7_rest_eq (hz : ¬ Scalar.cmpi .ne (Scalar.extui (Scalar.cmpi .eq (BitVec.ofNat 32 (i 0).val) 0#32) : BitVec 32) 0#32 = 1#1) (X1 : Vec F S20000x128 .f32) (X2 : Vec F S256x128 .f32) (X3 : Vec F S256x64 .f32) (X4 : Vec F S1x64 .f32) (X7 : Vec F S1x2x10000 .i32) (X8 : Vec F S1x2x2 .i32) (X13 : Vec F S1x1 .f32) (X14 : Vec F S256x1 .f32) (X15 : Vec F S256x128 .f32) (X16 : Vec F S256x64 .f32) (w : k0_chk1 (lo0 X8) (hi0 X8) (lo1 X8) (hi1 X8)) (E : Set ℕ) (Q : _ → sProp 𝕄) :
    iprop(ow c arg1 X1 ∗ ow c arg2 X2 ∗ ow c arg3 X3 ∗ ow c arg4 X4 ∗ ow c arg7 X7 ∗ ow c arg8 X8 ∗ ow c arg13 X13 ∗ ow c arg14 X14 ∗ ow c arg15 X15 ∗ ow c arg16 X16
      ∗ (∀ r, ⌜r = ⟨BitVec.ofNat 32 (i 0).val, half0 X1, half1 X1, ids0 X7, ids1 X7, lo0 X8, hi0 X8, lo1 X8, hi1 X8, w, Scalar.divsi (lo0 X8) 8#32,
        Scalar.cmpi .ne (Scalar.subi (Scalar.extui (Scalar.cmpi .sgt (lo0 X8) 0#32)) (Scalar.extui (Scalar.cmpi .slt (lo0 X8) 0#32)) : BitVec 32)
          (Scalar.subi (Scalar.extui (Scalar.cmpi .sgt 8#32 0#32)) (Scalar.extui (Scalar.cmpi .slt 8#32 0#32))),
        Scalar.cmpi .ne (Scalar.remsi (lo0 X8) 8#32) 0#32⟩⌝ -∗ iprop(ow c arg1 X1 ∗ ow c arg2 X2 ∗ ow c arg3 X3 ∗ ow c arg4 X4 ∗ ow c arg7 X7 ∗ ow c arg8 X8 ∗ ow c arg13 X13 ∗ ow c arg14 X14 ∗ ow c arg15 X15 ∗ ow c arg16 X16) -∗ Q r))
    ⊢ wp frame (wpE (defs₀ (F := F)) 𝒱₀ (c : Thread nD τ) none) E
        (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 ) Q := by
  unfold ow owns
  iintro ⟨⟨%f1, %h1, H1⟩, ⟨%f2, %h2, H2⟩, ⟨%f3, %h3, H3⟩, ⟨%f4, %h4, H4⟩, ⟨%f7, %h7, H7⟩, ⟨%f8, %h8, H8⟩, ⟨%f13, %h13, H13⟩, ⟨%f14, %h14, H14⟩, ⟨%f15, %h15, H15⟩, ⟨%f16, %h16, H16⟩, Hk⟩
  subst h1
  subst h2
  subst h3
  subst h4
  subst h7
  subst h8
  subst h13
  subst h14
  subst h15
  subst h16
  rw [k0_part7_eq_skeleton]
  simp only [k0_part7_skel, hz, if_false, dite_false]
  sl_exec (disch := exact w)
  sl_step
  iapply Hk
  · ipureintro; rfl
  isplitl [H1]; · (iexists _; isplitr; swap; iexact H1; ipureintro; rfl)
  isplitl [H2]; · (iexists _; isplitr; swap; iexact H2; ipureintro; rfl)
  isplitl [H3]; · (iexists _; isplitr; swap; iexact H3; ipureintro; rfl)
  isplitl [H4]; · (iexists _; isplitr; swap; iexact H4; ipureintro; rfl)
  isplitl [H7]; · (iexists _; isplitr; swap; iexact H7; ipureintro; rfl)
  isplitl [H8]; · (iexists _; isplitr; swap; iexact H8; ipureintro; rfl)
  isplitl [H13]; · (iexists _; isplitr; swap; iexact H13; ipureintro; rfl)
  isplitl [H14]; · (iexists _; isplitr; swap; iexact H14; ipureintro; rfl)
  isplitl [H15]; · (iexists _; isplitr; swap; iexact H15; ipureintro; rfl)
  (iexists _; isplitr; swap; iexact H16; ipureintro; rfl)

include harg1 harg2 harg3 harg4 harg5 harg6 harg7 harg8 harg9 harg10 harg11 harg12 harg13 harg14 harg15 harg16 in
theorem part7_rest (hz : ¬ Scalar.cmpi .ne (Scalar.extui (Scalar.cmpi .eq (BitVec.ofNat 32 (i 0).val) 0#32) : BitVec 32) 0#32 = 1#1) (X1 : Vec F S20000x128 .f32) (X2 : Vec F S256x128 .f32) (X3 : Vec F S256x64 .f32) (X4 : Vec F S1x64 .f32) (X7 : Vec F S1x2x10000 .i32) (X8 : Vec F S1x2x2 .i32) (X13 : Vec F S1x1 .f32) (X14 : Vec F S256x1 .f32) (X15 : Vec F S256x128 .f32) (X16 : Vec F S256x64 .f32) (w : k0_chk1 (lo0 X8) (hi0 X8) (lo1 X8) (hi1 X8)) (E : Set ℕ) (Q : _ → sProp 𝕄) :
    iprop(ow c arg1 X1 ∗ ow c arg2 X2 ∗ ow c arg3 X3 ∗ ow c arg4 X4 ∗ ow c arg7 X7 ∗ ow c arg8 X8 ∗ ow c arg13 X13 ∗ ow c arg14 X14 ∗ ow c arg15 X15 ∗ ow c arg16 X16
      ∗ (iprop(ow c arg1 X1 ∗ ow c arg2 X2 ∗ ow c arg3 X3 ∗ ow c arg4 X4 ∗ ow c arg7 X7 ∗ ow c arg8 X8 ∗ ow c arg13 X13 ∗ ow c arg14 X14 ∗ ow c arg15 X15 ∗ ow c arg16 X16) -∗ Q ⟨BitVec.ofNat 32 (i 0).val, half0 X1, half1 X1, ids0 X7, ids1 X7, lo0 X8, hi0 X8, lo1 X8, hi1 X8, w, Scalar.divsi (lo0 X8) 8#32,
        Scalar.cmpi .ne (Scalar.subi (Scalar.extui (Scalar.cmpi .sgt (lo0 X8) 0#32)) (Scalar.extui (Scalar.cmpi .slt (lo0 X8) 0#32)) : BitVec 32)
          (Scalar.subi (Scalar.extui (Scalar.cmpi .sgt 8#32 0#32)) (Scalar.extui (Scalar.cmpi .slt 8#32 0#32))),
        Scalar.cmpi .ne (Scalar.remsi (lo0 X8) 8#32) 0#32⟩))
    ⊢ wp frame (wpE (defs₀ (F := F)) 𝒱₀ (c : Thread nD τ) none) E
        (k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 ) Q := by
  iintro ⟨H1, H2, H3, H4, H7, H8, H13, H14, H15, H16, Hk⟩
  iapply (part7_rest_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hz X1 X2 X3 X4 X7 X8 X13 X14 X15 X16 w E Q)
  isplitl [H1]; · iexact H1
  isplitl [H2]; · iexact H2
  isplitl [H3]; · iexact H3
  isplitl [H4]; · iexact H4
  isplitl [H7]; · iexact H7
  isplitl [H8]; · iexact H8
  isplitl [H13]; · iexact H13
  isplitl [H14]; · iexact H14
  isplitl [H15]; · iexact H15
  isplitl [H16]; · iexact H16
  iintro %r %hr H
  subst hr
  iapply Hk
  iexact H

end body

end Cert.Proof.Pool

end
-- ==== Proof.Whole.lean ====
/-
  The TensorCore kernel's body, whole: one grid step as a function of the values it reads and the running state.
-/
module

public import proofs.«01_k».proof.Proof.Body

@[expose] public section

noncomputable section

namespace Cert.Proof.Pool

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.VecWindow (window put)

variable {F : FTy → Type} [FloatOps F]
local notation "𝕄" => MT nD τ sig (HIx 1) (Elt F) ℕ UU ℕ

/-- Where the narrow branch's window of 64 segments begins: a multiple of 8 at or below the first segment, at most 192. -/
abbrev base (v : BitVec 32) : BitVec 32 :=
  Scalar.minsi (Scalar.muli (Scalar.select (Scalar.andi
      (Scalar.cmpi .ne (Scalar.subi (Scalar.extui (Scalar.cmpi .sgt v 0#32)) (Scalar.extui (Scalar.cmpi .slt v 0#32)) : BitVec 32)
        (Scalar.subi (Scalar.extui (Scalar.cmpi .sgt 8#32 0#32)) (Scalar.extui (Scalar.cmpi .slt 8#32 0#32))))
      (Scalar.cmpi .ne (Scalar.remsi v 8#32) 0#32))
    (Scalar.subi (Scalar.divsi v 8#32) 1#32) (Scalar.divsi v 8#32)) 8#32) 192#32

/-- Whether both halves fit their windows. -/
abbrev flag (v9 v10 v11 v12 : BitVec 32) : BitVec 1 :=
  Scalar.andi (Scalar.cmpi .slt (Scalar.subi v10 (base v9)) 64#32) (Scalar.cmpi .slt (Scalar.subi v12 (base v11)) 64#32)

theorem cond2_eq (v9 v10 v11 v12 : BitVec 32) :
    k0_cond2 v9 v10 v11 v12 = Scalar.cmpi .ne (Scalar.extui (flag v9 v10 v11 v12) : BitVec 32) 0#32 := rfl

theorem not_wide (v9 v10 v11 v12 : BitVec 32) (h2 : k0_cond2 v9 v10 v11 v12 = 1#1) :
    ¬ Scalar.cmpi .ne (Scalar.extui (Scalar.xori (flag v9 v10 v11 v12) 1#1) : BitVec 32) 0#32 = 1#1 := by
  rw [cond2_eq] at h2
  generalize flag v9 v10 v11 v12 = b at h2 ⊢
  revert b; decide

theorem is_wide (v9 v10 v11 v12 : BitVec 32) (h2 : ¬ k0_cond2 v9 v10 v11 v12 = 1#1) :
    Scalar.cmpi .ne (Scalar.extui (Scalar.xori (flag v9 v10 v11 v12) 1#1) : BitVec 32) 0#32 = 1#1 := by
  rw [cond2_eq] at h2
  generalize flag v9 v10 v11 v12 = b at h2 ⊢
  revert b; decide

/-- What a step leaves: its scores, and the running maximum, denominators and sums. -/
structure Step (F : FTy → Type) where
  s : Vec F S1x2x10000 .f32
  mx : F .f32
  d : Vec F S256x1 .f32
  acc : Vec F S256x128 .f32

/-- The narrow branch. -/
def narrow (x1 : Vec F S20000x128 .f32) (x3 : Vec F S256x64 .f32) (x5 : Vec F S64x1 .f32) (x6 : Vec F S1x1 .f32)
    (x7 : Vec F S1x2x10000 .i32) (v9 v10 v11 v12 : BitVec 32) (w : k0_chk1 v9 v10 v11 v12) (h2 : k0_cond2 v9 v10 v11 v12 = 1#1)
    (uw : Vec F S256x64 .f32) (mx : F .f32) (d : Vec F S256x1 .f32) (acc : Vec F S256x128 .f32) : Step F :=
  let v69 := k0_pay3 (ids0 x7) (base v9)
  let v85 := k0_pay4 (half0 x1) (ids0 x7) (base v9) (w1a x3) (View.ld uw (Rect.unit (s := S256x64) (k0_off1 v9) S64x64.size (k0_off1_inb v9 v10 v11 v12 w h2))) (View.ld x5 (Rect.unit (s := S64x1) ![0, 0] S64x1.size inb_S64x1_S64x1_0_0)) (View.ld x6 (Rect.unit (s := S1x1) ![0, 0] S1x1.size inb_S1x1_S1x1_0_0))
  let v90 := k0_pay5 (ids1 x7) (base v11)
  let v102 := k0_pay6 (half1 x1) (ids1 x7) (base v11) (w1a x3) (View.ld uw (Rect.unit (s := S256x64) (k0_off2 v11) S64x64.size (k0_off2_inb v9 v10 v11 v12 w h2))) (View.ld x5 (Rect.unit (s := S64x1) ![0, 0] S64x1.size inb_S64x1_S64x1_0_0))
  let v106 := k0_pay7 v102 (View.ld x6 (Rect.unit (s := S1x1) ![0, 0] S1x1.size inb_S1x1_S1x1_0_0))
  let v125 := k0_pay10 v85 v102 (View.ld x6 (Rect.unit (s := S1x1) ![0, 0] S1x1.size inb_S1x1_S1x1_0_0)) mx
  let v137 := k0_pay13 v85 v102 (View.ld x6 (Rect.unit (s := S1x1) ![0, 0] S1x1.size inb_S1x1_S1x1_0_0)) mx (View.ld acc (Rect.unit (s := S256x128) ![0, 0] S256x128.size inb_S256x128_S256x128_0_0))
  let d1 := k0_pay12 v85 v102 (View.ld x6 (Rect.unit (s := S1x1) ![0, 0] S1x1.size inb_S1x1_S1x1_0_0)) mx (View.ld d (Rect.unit (s := S256x1) ![0, 0] S256x1.size inb_S256x1_S256x1_0_0))
  let d2 := put d1 (k0_off3 v9) S64x1.size (k0_pay16 (k0_pay44 (F := F)) v69 v85 v125 (window d1 (k0_off3 v9) S64x1.size (k0_off3_inb v9 v10 v11 v12 w h2)))
  let d3 := put d2 (k0_off5 v11) S64x1.size (k0_pay20 (k0_pay44 (F := F)) v90 v106 v125 (window d2 (k0_off5 v11) S64x1.size (k0_off5_inb v9 v10 v11 v12 w h2)))
  let a1 := k0_pay14 v137
  let a2 := put a1 (k0_off4 v9) S64x128.size (k0_pay17 (half0 x1) v69 v85 v125 (window a1 (k0_off4 v9) S64x128.size (k0_off4_inb v9 v10 v11 v12 w h2)))
  let a3 := put a2 (k0_off6 v11) S64x128.size (k0_pay45 (k0_pay19 (half1 x1) v90 v106 v125) (window a2 (k0_off6 v11) S64x128.size (k0_off6_inb v9 v10 v11 v12 w h2)))
  ⟨pair v85 v106, v125, d3, a3⟩

/-- The wide branch. -/
def wide (x1 : Vec F S20000x128 .f32) (x3 : Vec F S256x64 .f32) (x5 : Vec F S64x1 .f32) (x6 : Vec F S1x1 .f32)
    (x7 : Vec F S1x2x10000 .i32)
    (uw : Vec F S256x64 .f32) (mx : F .f32) (d : Vec F S256x1 .f32) (acc : Vec F S256x128 .f32) : Step F :=
  let v69 := k0_pay21 (ids0 x7)
  let v84 := k0_pay22 (half0 x1) (ids0 x7) (w1a x3) (View.ld uw (Rect.unit (s := S256x64) ![0, 0] S256x64.size inb_S256x64_S256x64_0_0)) (View.ld x5 (Rect.unit (s := S64x1) ![0, 0] S64x1.size inb_S64x1_S64x1_0_0)) (View.ld x6 (Rect.unit (s := S1x1) ![0, 0] S1x1.size inb_S1x1_S1x1_0_0))
  let v89 := k0_pay23 (ids1 x7)
  let v100 := k0_pay24 (half1 x1) (ids1 x7) (w1a x3) (View.ld uw (Rect.unit (s := S256x64) ![0, 0] S256x64.size inb_S256x64_S256x64_0_0)) (View.ld x5 (Rect.unit (s := S64x1) ![0, 0] S64x1.size inb_S64x1_S64x1_0_0))
  let v104 := k0_pay25 v100 (View.ld x6 (Rect.unit (s := S1x1) ![0, 0] S1x1.size inb_S1x1_S1x1_0_0))
  let v123 := k0_pay28 v84 v100 (View.ld x6 (Rect.unit (s := S1x1) ![0, 0] S1x1.size inb_S1x1_S1x1_0_0)) mx
  let v135 := k0_pay31 v84 v100 (View.ld x6 (Rect.unit (s := S1x1) ![0, 0] S1x1.size inb_S1x1_S1x1_0_0)) mx (View.ld acc (Rect.unit (s := S256x128) ![0, 0] S256x128.size inb_S256x128_S256x128_0_0))
  let d1 := k0_pay30 v84 v100 (View.ld x6 (Rect.unit (s := S1x1) ![0, 0] S1x1.size inb_S1x1_S1x1_0_0)) mx (View.ld d (Rect.unit (s := S256x1) ![0, 0] S256x1.size inb_S256x1_S256x1_0_0))
  let d3 := k0_pay38 (k0_pay44 (F := F)) v89 v104 v123 (k0_pay34 (k0_pay44 (F := F)) v69 v84 v123 (View.ld d1 (Rect.unit (s := S256x1) ![0, 0] S256x1.size inb_S256x1_S256x1_0_0)))
  let a2 := k0_pay35 (half0 x1) v69 v84 v123 (k0_pay32 v135)
  let a3 := k0_pay46 (k0_pay37 (half1 x1) v89 v104 v123) (View.ld a2 (Rect.unit (s := S256x128) ![0, 0] S256x128.size inb_S256x128_S256x128_0_0))
  ⟨pair v84 v104, v123, d3, a3⟩

section body
variable (c : Dev nD) (i : grid0.Coords) (arg1 : Memref sig .tc .vmem S20000x128 .f32) (harg1 : arg1.IsWhole) (arg2 : Memref sig .tc .vmem S256x128 .f32) (harg2 : arg2.IsWhole) (arg3 : Memref sig .tc .vmem S256x64 .f32) (harg3 : arg3.IsWhole) (arg4 : Memref sig .tc .vmem S1x64 .f32) (harg4 : arg4.IsWhole) (arg5 : Memref sig .tc .vmem S64x1 .f32) (harg5 : arg5.IsWhole) (arg6 : Memref sig .tc .vmem S1x1 .f32) (harg6 : arg6.IsWhole) (arg7 : Memref sig .tc .vmem S1x2x10000 .i32) (harg7 : arg7.IsWhole) (arg8 : Memref sig .tc .smem S1x2x2 .i32) (harg8 : arg8.IsWhole) (arg9 : Memref sig .tc .vmem S1x2x10000 .f32) (harg9 : arg9.IsWhole) (arg10 : Memref sig .tc .vmem S1x256 .f32) (harg10 : arg10.IsWhole) (arg11 : Memref sig .tc .vmem S256x1 .f32) (harg11 : arg11.IsWhole) (arg12 : Memref sig .tc .vmem S256x128 .f32) (harg12 : arg12.IsWhole) (arg13 : Memref sig .tc .smem S1x1 .f32) (harg13 : arg13.IsWhole) (arg14 : Memref sig .tc .vmem S256x1 .f32) (harg14 : arg14.IsWhole) (arg15 : Memref sig .tc .vmem S256x128 .f32) (harg15 : arg15.IsWhole) (arg16 : Memref sig .tc .vmem S256x64 .f32) (harg16 : arg16.IsWhole)

include harg1 harg2 harg3 harg4 harg5 harg6 harg7 harg8 harg9 harg10 harg11 harg12 harg13 harg14 harg15 harg16 in
/-- The narrow branch's last two operations. -/
theorem tail_narrow (o : Fin 2 → ℕ) (inb : ∀ a, o a + S64x128.size a ≤ S256x128.size a) (X : Vec F S256x128 .f32) (y : Vec F S64x128 .f32)
    (E : Set ℕ) (Q : _ → sProp 𝕄) :
    iprop(ow c arg15 X ∗ (ow c arg15 (put X o S64x128.size y) -∗ Q ⟨⟩))
    ⊢ wp frame (wpE (defs₀ (F := F)) 𝒱₀ (c : Thread nD τ) none) E
        (Prog.lift (.load arg15 (Rect.unit (s := S256x128) o S64x128.size inb).toLoadRect (View.loadsAt_vmem h_S64x128)) : Prog (TpuEff nD τ sig (Elt F) Λ₀ .tc) (Vec F S64x128 .f32))
        (fun _ => wp frame (wpE (defs₀ (F := F)) 𝒱₀ (c : Thread nD τ) none) E
          (Prog.lift (.store arg15 (Rect.unit (s := S256x128) o S64x128.size inb) y Finset.univ (View.stores_vmem_bits_univ h_S64x128 rfl) (.inl rfl)) : Prog (TpuEff nD τ sig (Elt F) Λ₀ .tc) PUnit) Q) := by
  rw [← wp_bind]
  unfold ow owns
  iintro ⟨⟨%f15, %h15, H15⟩, Hk⟩
  subst h15
  sl_exec
  sl_step
  iapply Hk
  iexists _; isplitr; swap; iexact H15; ipureintro
  exact View.read_writes_cons_put (Val := Elt F) (e := .f32) _ _ inb _ _ rfl

include harg1 harg2 harg3 harg4 harg5 harg6 harg7 harg8 harg9 harg10 harg11 harg12 harg13 harg14 harg15 harg16 in
/-- The wide branch's last three operations. -/
theorem tail_wide (X y : Vec F S256x128 .f32) (E : Set ℕ) (Q : _ → sProp 𝕄) :
    iprop(ow c arg15 X ∗ (ow c arg15 (k0_pay46 y (View.ld X (Rect.unit (s := S256x128) ![0, 0] S256x128.size inb_S256x128_S256x128_0_0))) -∗ Q ⟨⟩))
    ⊢ wp frame (wpE (defs₀ (F := F)) 𝒱₀ (c : Thread nD τ) none) E
        (Prog.lift (.load arg15 (Rect.unit (s := S256x128) ![0, 0] S256x128.size inb_S256x128_S256x128_0_0).toLoadRect (View.loadsAt_vmem h_S256x128)) : Prog (TpuEff nD τ sig (Elt F) Λ₀ .tc) (Vec F S256x128 .f32))
        (fun v172 => wp frame (wpE (defs₀ (F := F)) 𝒱₀ (c : Thread nD τ) none) E
          (Prog.lift (.load arg15 (Rect.unit (s := S256x128) ![0, 0] S256x128.size inb_S256x128_S256x128_0_0).toLoadRect (View.loadsAt_vmem h_S256x128)) : Prog (TpuEff nD τ sig (Elt F) Λ₀ .tc) (Vec F S256x128 .f32))
          (fun _ => wp frame (wpE (defs₀ (F := F)) 𝒱₀ (c : Thread nD τ) none) E
            (Prog.lift (.store arg15 (Rect.unit (s := S256x128) ![0, 0] S256x128.size inb_S256x128_S256x128_0_0) (k0_pay46 y v172) Finset.univ (View.stores_vmem_bits_univ h_S256x128 rfl) (.inl rfl)) : Prog (TpuEff nD τ sig (Elt F) Λ₀ .tc) PUnit) Q)) := by
  simp only [← wp_bind]
  unfold ow owns
  iintro ⟨⟨%f15, %h15, H15⟩, Hk⟩
  subst h15
  sl_exec
  sl_step
  iapply Hk
  iexists _; isplitr; swap; iexact H15; ipureintro
  exact View.read_writes_full (Val := Elt F) (e := .f32) _ _ _ _ _

/-- The last step's pooled sums: each segment's sum over its denominator where that is positive. -/
abbrev pooledOf (d : Vec F S256x1 .f32) (acc : Vec F S256x128 .f32) : Vec F S256x128 .f32 :=
  k0_pay2 (View.ld d (Rect.unit (s := S256x1) ![0, 0] S256x1.size inb_S256x1_S256x1_0_0)) (View.ld acc (Rect.unit (s := S256x128) ![0, 0] S256x128.size inb_S256x128_S256x128_0_0))

include harg1 harg2 harg3 harg4 harg5 harg6 harg7 harg8 harg9 harg10 harg11 harg12 harg13 harg14 harg15 harg16 in
/-- The last step's block: the maximum, the denominators and the pooled sums go to their output buffers. -/
theorem tail_last (x10 : Vec F S1x256 .f32) (x11 : Vec F S256x1 .f32) (x12 : Vec F S256x128 .f32) (mx : F .f32) (d : Vec F S256x1 .f32)
    (acc : Vec F S256x128 .f32) (E : Set ℕ) (Q : _ → sProp 𝕄) :
    iprop(ow c arg10 x10 ∗ ow c arg11 x11 ∗ ow c arg12 x12 ∗ ow c arg13 (fun _ => mx) ∗ ow c arg14 d ∗ ow c arg15 acc
      ∗ (iprop(ow c arg10 (k0_pay1 mx) ∗ ow c arg11 (View.ld d (Rect.unit (s := S256x1) ![0, 0] S256x1.size inb_S256x1_S256x1_0_0)) ∗ ow c arg12 (pooledOf d acc) ∗ ow c arg13 (fun _ => mx) ∗ ow c arg14 d ∗ ow c arg15 acc) -∗ Q ⟨⟩))
    ⊢ wp frame (wpE (defs₀ (F := F)) 𝒱₀ (c : Thread nD τ) none) E
        (do
          let v65 : Vec F S256x1 .f32 ← Prog.lift (.load arg14 (Rect.unit (s := S256x1) ![0, 0] S256x1.size inb_S256x1_S256x1_0_0).toLoadRect (View.loadsAt_vmem h_S256x1))
          let v66 : Elt F .f32 ← smemLoad arg13 (Rect.unit (s := S1x1) ![0, 0] S1x1.size inb_S1x1_S1x1_0_0) numel1_S1x1 rfl
          let v68 : Vec F S1x256 .f32 ← Prog.lift (.load arg10 (Rect.unit (s := S1x256) ![0, 0] S1x256.size inb_S1x256_S1x256_0_0).toLoadRect (View.loadsAt_vmem h_S1x256))
          Prog.lift (.store arg10 (Rect.unit (s := S1x256) ![0, 0] S1x256.size inb_S1x256_S1x256_0_0) (k0_pay1 v66) Finset.univ (View.stores_vmem_bits_univ h_S1x256 rfl) (.inl rfl))
          let v69 : Vec F S256x1 .f32 ← Prog.lift (.load arg11 (Rect.unit (s := S256x1) ![0, 0] S256x1.size inb_S256x1_S256x1_0_0).toLoadRect (View.loadsAt_vmem h_S256x1))
          Prog.lift (.store arg11 (Rect.unit (s := S256x1) ![0, 0] S256x1.size inb_S256x1_S256x1_0_0) v65 Finset.univ (View.stores_vmem_bits_univ h_S256x1 rfl) (.inl rfl))
          let v72 : Vec F S256x128 .f32 ← Prog.lift (.load arg15 (Rect.unit (s := S256x128) ![0, 0] S256x128.size inb_S256x128_S256x128_0_0).toLoadRect (View.loadsAt_vmem h_S256x128))
          let v79 : Vec F S256x128 .f32 ← Prog.lift (.load arg12 (Rect.unit (s := S256x128) ![0, 0] S256x128.size inb_S256x128_S256x128_0_0).toLoadRect (View.loadsAt_vmem h_S256x128))
          Prog.lift (.store arg12 (Rect.unit (s := S256x128) ![0, 0] S256x128.size inb_S256x128_S256x128_0_0) (k0_pay2 v65 v72) Finset.univ (View.stores_vmem_bits_univ h_S256x128 rfl) (.inl rfl))
          pure ⟨⟩ : Prog (TpuEff nD τ sig (Elt F) Λ₀ .tc) PUnit) Q := by
  unfold ow owns
  iintro ⟨⟨%f10, %h10, H10⟩, ⟨%f11, %h11, H11⟩, ⟨%f12, %h12, H12⟩, ⟨%f13, %h13, H13⟩, ⟨%f14, %h14, H14⟩, ⟨%f15, %h15, H15⟩, Hk⟩
  subst h10; subst h11; subst h12; subst h14; subst h15
  sl_exec
  sl_step
  iapply Hk
  isplitl [H10]; · (iexists _; isplitr; swap; iexact H10; ipureintro; exact (View.read_writes_full (Val := Elt F) (e := .f32) _ _ _ _ _).trans (congrArg k0_pay1 (congrFun h13 _)))
  isplitl [H11]; · (iexists _; isplitr; swap; iexact H11; ipureintro; exact View.read_writes_full (Val := Elt F) (e := .f32) _ _ _ _ _)
  isplitl [H12]; · (iexists _; isplitr; swap; iexact H12; ipureintro; exact View.read_writes_full (Val := Elt F) (e := .f32) _ _ _ _ _)
  isplitl [H13]; · (iexists _; isplitr; swap; iexact H13; ipureintro; exact h13)
  isplitl [H14]; · (iexists _; isplitr; swap; iexact H14; ipureintro; rfl)
  (iexists _; isplitr; swap; iexact H15; ipureintro; rfl)

include harg1 harg2 harg3 harg4 harg5 harg6 harg7 harg8 harg9 harg10 harg11 harg12 harg13 harg14 harg15 harg16 in
theorem part8_narrow (g0 : BitVec 32) (x1 : Vec F S20000x128 .f32) (x3 : Vec F S256x64 .f32) (x5 : Vec F S64x1 .f32) (x6 : Vec F S1x1 .f32)
    (x7 : Vec F S1x2x10000 .i32) (v9 v10 v11 v12 : BitVec 32) (w : k0_chk1 v9 v10 v11 v12) (h2 : k0_cond2 v9 v10 v11 v12 = 1#1)
    (uw : Vec F S256x64 .f32) (x9 : Vec F S1x2x10000 .f32) (mx : F .f32) (d : Vec F S256x1 .f32) (acc : Vec F S256x128 .f32)
    (E : Set ℕ) (Q : _ → sProp 𝕄) :
    iprop(ow c arg3 x3 ∗ ow c arg5 x5 ∗ ow c arg6 x6 ∗ ow c arg9 x9 ∗ ow c arg13 (fun _ => mx) ∗ ow c arg14 d ∗ ow c arg15 acc ∗ ow c arg16 uw
      ∗ (iprop(ow c arg3 x3 ∗ ow c arg5 x5 ∗ ow c arg6 x6 ∗ ow c arg9 (narrow x1 x3 x5 x6 x7 v9 v10 v11 v12 w h2 uw mx d acc).s ∗ ow c arg13 (fun _ => (narrow x1 x3 x5 x6 x7 v9 v10 v11 v12 w h2 uw mx d acc).mx)
          ∗ ow c arg14 (narrow x1 x3 x5 x6 x7 v9 v10 v11 v12 w h2 uw mx d acc).d ∗ ow c arg15 (narrow x1 x3 x5 x6 x7 v9 v10 v11 v12 w h2 uw mx d acc).acc ∗ ow c arg16 uw) -∗ Q ⟨⟩))
    ⊢ wp frame (wpE (defs₀ (F := F)) 𝒱₀ (c : Thread nD τ) none) E
        (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 g0 (half0 x1) (half1 x1) (ids0 x7) (ids1 x7) v9 v10 v11 v12 w (Scalar.divsi v9 8#32)
        (Scalar.cmpi .ne (Scalar.subi (Scalar.extui (Scalar.cmpi .sgt v9 0#32)) (Scalar.extui (Scalar.cmpi .slt v9 0#32)) : BitVec 32)
          (Scalar.subi (Scalar.extui (Scalar.cmpi .sgt 8#32 0#32)) (Scalar.extui (Scalar.cmpi .slt 8#32 0#32))))
        (Scalar.cmpi .ne (Scalar.remsi v9 8#32) 0#32)) Q := by
  dsimp only [narrow]
  rw [k0_part8_eq_skeleton]
  simp only [k0_part8_skel]
  rw [dif_pos h2, if_neg (not_wide v9 v10 v11 v12 h2)]
  simp only [wp_bind]
  iintro ⟨H3, H5, H6, H9, H13, H14, H15, H16, Hk⟩
  iapply (part1_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (half0 x1) (half1 x1) (ids0 x7) (ids1 x7) v9 v10 v11 v12 w h2 (base v9) (base v11) x3 x5 x6 uw)
  isplitl [H3]; · iexact H3
  isplitl [H5]; · iexact H5
  isplitl [H6]; · iexact H6
  isplitl [H16]; · iexact H16
  iintro ⟨H3, H5, H6, H16⟩
  simp only [wp_bind]
  iapply (part2_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ x6 x9 (fun _ => mx) d acc)
  isplitl [H6]; · iexact H6
  isplitl [H9]; · iexact H9
  isplitl [H13]; · iexact H13
  isplitl [H14]; · iexact H14
  isplitl [H15]; · iexact H15
  iintro ⟨H6, H9, H13, H14, H15⟩
  simp only [wp_bind]
  iapply (part3_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (half0 x1) (half1 x1) v9 v10 v11 v12 w h2 (base v9) (base v11) (k0_pay44 (F := F)) _ _ _ _ _ _ _ _ _)
  isplitl [H14]; · iexact H14
  isplitl [H15]; · iexact H15
  iintro ⟨H14, H15⟩
  iapply (tail_narrow c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (k0_off6 v11) (k0_off6_inb v9 v10 v11 v12 w h2) _ _)
  isplitl [H15]; · iexact H15
  iintro H15
  sl_step
  iapply Hk
  isplitl [H3]; · iexact H3
  isplitl [H5]; · iexact H5
  isplitl [H6]; · iexact H6
  isplitl [H9]; · iexact H9
  isplitl [H13]; · iexact H13
  isplitl [H14]; · iexact H14
  isplitl [H15]; · iexact H15
  iexact H16

include harg1 harg2 harg3 harg4 harg5 harg6 harg7 harg8 harg9 harg10 harg11 harg12 harg13 harg14 harg15 harg16 in
theorem part8_wide (g0 : BitVec 32) (x1 : Vec F S20000x128 .f32) (x3 : Vec F S256x64 .f32) (x5 : Vec F S64x1 .f32) (x6 : Vec F S1x1 .f32)
    (x7 : Vec F S1x2x10000 .i32) (v9 v10 v11 v12 : BitVec 32) (w : k0_chk1 v9 v10 v11 v12) (h2 : ¬ k0_cond2 v9 v10 v11 v12 = 1#1)
    (uw : Vec F S256x64 .f32) (x9 : Vec F S1x2x10000 .f32) (mx : F .f32) (d : Vec F S256x1 .f32) (acc : Vec F S256x128 .f32)
    (E : Set ℕ) (Q : _ → sProp 𝕄) :
    iprop(ow c arg3 x3 ∗ ow c arg5 x5 ∗ ow c arg6 x6 ∗ ow c arg9 x9 ∗ ow c arg13 (fun _ => mx) ∗ ow c arg14 d ∗ ow c arg15 acc ∗ ow c arg16 uw
      ∗ (iprop(ow c arg3 x3 ∗ ow c arg5 x5 ∗ ow c arg6 x6 ∗ ow c arg9 (wide x1 x3 x5 x6 x7 uw mx d acc).s ∗ ow c arg13 (fun _ => (wide x1 x3 x5 x6 x7 uw mx d acc).mx)
          ∗ ow c arg14 (wide x1 x3 x5 x6 x7 uw mx d acc).d ∗ ow c arg15 (wide x1 x3 x5 x6 x7 uw mx d acc).acc ∗ ow c arg16 uw) -∗ Q ⟨⟩))
    ⊢ wp frame (wpE (defs₀ (F := F)) 𝒱₀ (c : Thread nD τ) none) E
        (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 g0 (half0 x1) (half1 x1) (ids0 x7) (ids1 x7) v9 v10 v11 v12 w (Scalar.divsi v9 8#32)
        (Scalar.cmpi .ne (Scalar.subi (Scalar.extui (Scalar.cmpi .sgt v9 0#32)) (Scalar.extui (Scalar.cmpi .slt v9 0#32)) : BitVec 32)
          (Scalar.subi (Scalar.extui (Scalar.cmpi .sgt 8#32 0#32)) (Scalar.extui (Scalar.cmpi .slt 8#32 0#32))))
        (Scalar.cmpi .ne (Scalar.remsi v9 8#32) 0#32)) Q := by
  dsimp only [wide]
  rw [k0_part8_eq_skeleton]
  simp only [k0_part8_skel]
  rw [dif_neg h2, if_pos (is_wide v9 v10 v11 v12 h2)]
  simp only [wp_bind, wp_pure]
  iintro ⟨H3, H5, H6, H9, H13, H14, H15, H16, Hk⟩
  iapply (part4_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (half0 x1) (half1 x1) (ids0 x7) (ids1 x7) x3 x5 x6 uw)
  isplitl [H3]; · iexact H3
  isplitl [H5]; · iexact H5
  isplitl [H6]; · iexact H6
  isplitl [H16]; · iexact H16
  iintro ⟨H3, H5, H6, H16⟩
  simp only [wp_bind]
  iapply (part5_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _ x6 x9 (fun _ => mx) d acc)
  isplitl [H6]; · iexact H6
  isplitl [H9]; · iexact H9
  isplitl [H13]; · iexact H13
  isplitl [H14]; · iexact H14
  isplitl [H15]; · iexact H15
  iintro ⟨H6, H9, H13, H14, H15⟩
  simp only [wp_bind]
  iapply (part6_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (half0 x1) (half1 x1) (k0_pay44 (F := F)) _ _ _ _ _ _ _ _ _)
  isplitl [H14]; · iexact H14
  isplitl [H15]; · iexact H15
  iintro ⟨H14, H15⟩
  iapply (tail_wide c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ _)
  isplitl [H15]; · iexact H15
  iintro H15
  imodintro
  iapply Hk
  isplitl [H3]; · iexact H3
  isplitl [H5]; · iexact H5
  isplitl [H6]; · iexact H6
  isplitl [H9]; · iexact H9
  isplitl [H13]; · iexact H13
  isplitl [H14]; · iexact H14
  isplitl [H15]; · iexact H15
  iexact H16

/-- One step from the state it finds. -/
def stepOf (x1 : Vec F S20000x128 .f32) (x3 : Vec F S256x64 .f32) (x5 : Vec F S64x1 .f32) (x6 : Vec F S1x1 .f32)
    (x7 : Vec F S1x2x10000 .i32) (x8 : Vec F S1x2x2 .i32)
    (uw : Vec F S256x64 .f32) (mx : F .f32) (d : Vec F S256x1 .f32) (acc : Vec F S256x128 .f32) : Step F :=
  open Classical in
  if h : k0_chk1 (lo0 x8) (hi0 x8) (lo1 x8) (hi1 x8) ∧ k0_cond2 (lo0 x8) (hi0 x8) (lo1 x8) (hi1 x8) = 1#1
  then narrow x1 x3 x5 x6 x7 _ _ _ _ h.1 h.2 uw mx d acc else wide x1 x3 x5 x6 x7 uw mx d acc

include harg1 harg2 harg3 harg4 harg5 harg6 harg7 harg8 harg9 harg10 harg11 harg12 harg13 harg14 harg15 harg16 in
theorem part8_run (g0 : BitVec 32) (x1 : Vec F S20000x128 .f32) (x3 : Vec F S256x64 .f32) (x5 : Vec F S64x1 .f32) (x6 : Vec F S1x1 .f32)
    (x7 : Vec F S1x2x10000 .i32) (x8 : Vec F S1x2x2 .i32) (w : k0_chk1 (lo0 x8) (hi0 x8) (lo1 x8) (hi1 x8))
    (uw : Vec F S256x64 .f32) (x9 : Vec F S1x2x10000 .f32) (mx : F .f32) (d : Vec F S256x1 .f32) (acc : Vec F S256x128 .f32)
    (E : Set ℕ) (Q : _ → sProp 𝕄) :
    iprop(ow c arg3 x3 ∗ ow c arg5 x5 ∗ ow c arg6 x6 ∗ ow c arg9 x9 ∗ ow c arg13 (fun _ => mx) ∗ ow c arg14 d ∗ ow c arg15 acc ∗ ow c arg16 uw
      ∗ (iprop(ow c arg3 x3 ∗ ow c arg5 x5 ∗ ow c arg6 x6 ∗ ow c arg9 (stepOf x1 x3 x5 x6 x7 x8 uw mx d acc).s ∗ ow c arg13 (fun _ => (stepOf x1 x3 x5 x6 x7 x8 uw mx d acc).mx)
          ∗ ow c arg14 (stepOf x1 x3 x5 x6 x7 x8 uw mx d acc).d ∗ ow c arg15 (stepOf x1 x3 x5 x6 x7 x8 uw mx d acc).acc ∗ ow c arg16 uw) -∗ Q ⟨⟩))
    ⊢ wp frame (wpE (defs₀ (F := F)) 𝒱₀ (c : Thread nD τ) none) E
        (k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 g0 (half0 x1) (half1 x1) (ids0 x7) (ids1 x7) (lo0 x8) (hi0 x8) (lo1 x8) (hi1 x8) w (Scalar.divsi (lo0 x8) 8#32)
        (Scalar.cmpi .ne (Scalar.subi (Scalar.extui (Scalar.cmpi .sgt (lo0 x8) 0#32)) (Scalar.extui (Scalar.cmpi .slt (lo0 x8) 0#32)) : BitVec 32)
          (Scalar.subi (Scalar.extui (Scalar.cmpi .sgt 8#32 0#32)) (Scalar.extui (Scalar.cmpi .slt 8#32 0#32))))
        (Scalar.cmpi .ne (Scalar.remsi (lo0 x8) 8#32) 0#32)) Q := by
  by_cases h2 : k0_cond2 (lo0 x8) (hi0 x8) (lo1 x8) (hi1 x8) = 1#1
  · rw [show stepOf x1 x3 x5 x6 x7 x8 uw mx d acc = narrow x1 x3 x5 x6 x7 _ _ _ _ w h2 uw mx d acc from dif_pos ⟨w, h2⟩]
    exact part8_narrow c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 g0 x1 x3 x5 x6 x7 _ _ _ _ w h2 uw x9 mx d acc E Q
  · rw [show stepOf x1 x3 x5 x6 x7 x8 uw mx d acc = wide x1 x3 x5 x6 x7 uw mx d acc from dif_neg fun h => h2 h.2]
    exact part8_wide c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 g0 x1 x3 x5 x6 x7 _ _ _ _ w h2 uw x9 mx d acc E Q

/-- The node table's part of the scores, from the first step. -/
abbrev uwOf (x2 : Vec F S256x128 .f32) (x3 : Vec F S256x64 .f32) (x4 : Vec F S1x64 .f32) : Vec F S256x64 .f32 :=
  k0_pay41 (View.ld x2 (Rect.unit (s := S256x128) ![0, 0] S256x128.size inb_S256x128_S256x128_0_0)) (w1b x3) (View.ld x4 (Rect.unit (s := S1x64) ![0, 0] S1x64.size inb_S1x64_S1x64_0_0))
abbrev mx0 : F .f32 := Scalar.ofBits .f32 0xF149F2CA#32

theorem first_cond (h : (i 0).val = 0) :
    Scalar.cmpi .ne (Scalar.extui (Scalar.cmpi .eq (BitVec.ofNat 32 (i 0).val) 0#32) : BitVec 32) 0#32 = 1#1 := by rw [h]; decide
theorem not_first_cond (h : (i 0).val ≠ 0) :
    ¬ Scalar.cmpi .ne (Scalar.extui (Scalar.cmpi .eq (BitVec.ofNat 32 (i 0).val) 0#32) : BitVec 32) 0#32 = 1#1 := by
  have h5 : (i 0).val < 5 := (i 0).isLt
  generalize (i 0).val = n at h h5 ⊢
  interval_cases n <;> first | exact absurd rfl h | decide
theorem last_cond (h : (i 0).val = 4) : k0_cond4 i = 1#1 := by unfold k0_cond4; rw [h]; decide
theorem not_last_cond (h : (i 0).val ≠ 4) : ¬ k0_cond4 i = 1#1 := by
  have h5 : (i 0).val < 5 := (i 0).isLt
  unfold k0_cond4
  generalize (i 0).val = n at h h5 ⊢
  interval_cases n <;> first | exact absurd rfl h | decide

include harg1 harg2 harg3 harg4 harg5 harg6 harg7 harg8 harg9 harg10 harg11 harg12 harg13 harg14 harg15 harg16 in
/-- The first step. -/
theorem body_first (h : (i 0).val = 0) (x1 : Vec F S20000x128 .f32) (x2 : Vec F S256x128 .f32) (x3 : Vec F S256x64 .f32) (x4 : Vec F S1x64 .f32) (x5 : Vec F S64x1 .f32) (x6 : Vec F S1x1 .f32) (x7 : Vec F S1x2x10000 .i32) (x8 : Vec F S1x2x2 .i32) (x9 : Vec F S1x2x10000 .f32) (x13 : Vec F S1x1 .f32) (x14 : Vec F S256x1 .f32) (x15 : Vec F S256x128 .f32) (x16 : Vec F S256x64 .f32)
    (w : k0_chk1 (lo0 x8) (hi0 x8) (lo1 x8) (hi1 x8)) (E : Set ℕ) (Q : _ → sProp 𝕄) :
    iprop(ow c arg1 x1 ∗ ow c arg2 x2 ∗ ow c arg3 x3 ∗ ow c arg4 x4 ∗ ow c arg5 x5 ∗ ow c arg6 x6 ∗ ow c arg7 x7 ∗ ow c arg8 x8 ∗ ow c arg9 x9 ∗ ow c arg13 x13 ∗ ow c arg14 x14 ∗ ow c arg15 x15 ∗ ow c arg16 x16 ∗ (iprop(ow c arg1 x1 ∗ ow c arg2 x2 ∗ ow c arg3 x3 ∗ ow c arg4 x4 ∗ ow c arg5 x5 ∗ ow c arg6 x6 ∗ ow c arg7 x7 ∗ ow c arg8 x8 ∗ ow c arg9 (stepOf x1 x3 x5 x6 x7 x8 (uwOf x2 x3 x4) mx0 (k0_pay39 (F := F)) (k0_pay40 (F := F))).s ∗ ow c arg13 (fun _ => (stepOf x1 x3 x5 x6 x7 x8 (uwOf x2 x3 x4) mx0 (k0_pay39 (F := F)) (k0_pay40 (F := F))).mx) ∗ ow c arg14 (stepOf x1 x3 x5 x6 x7 x8 (uwOf x2 x3 x4) mx0 (k0_pay39 (F := F)) (k0_pay40 (F := F))).d ∗ ow c arg15 (stepOf x1 x3 x5 x6 x7 x8 (uwOf x2 x3 x4) mx0 (k0_pay39 (F := F)) (k0_pay40 (F := F))).acc ∗ ow c arg16 (uwOf x2 x3 x4)) -∗ Q ⟨⟩))
    ⊢ wp frame (wpE (defs₀ (F := F)) 𝒱₀ (c : Thread nD τ) none) E (cc0__main_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  rw [cc0__main_body_eq_skeleton]
  simp only [cc0__main_body_skel]
  rw [dif_neg (not_last_cond i (by omega))]
  simp only [wp_bind, wp_pure]
  iintro ⟨H1, H2, H3, H4, H5, H6, H7, H8, H9, H13, H14, H15, H16, Hk⟩
  iapply (part7_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (first_cond i h) x1 x2 x3 x4 x7 x8 x13 x14 x15 x16 w)
  isplitl [H1]; · iexact H1
  isplitl [H2]; · iexact H2
  isplitl [H3]; · iexact H3
  isplitl [H4]; · iexact H4
  isplitl [H7]; · iexact H7
  isplitl [H8]; · iexact H8
  isplitl [H13]; · iexact H13
  isplitl [H14]; · iexact H14
  isplitl [H15]; · iexact H15
  isplitl [H16]; · iexact H16
  iintro ⟨H1, H2, H3, H4, H7, H8, H13, H14, H15, H16⟩
  simp only [wp_bind, wp_pure]
  iapply (part8_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ x1 x3 x5 x6 x7 x8 w (uwOf x2 x3 x4) x9 mx0 (k0_pay39 (F := F)) (k0_pay40 (F := F)))
  isplitl [H3]; · iexact H3
  isplitl [H5]; · iexact H5
  isplitl [H6]; · iexact H6
  isplitl [H9]; · iexact H9
  isplitl [H13]; · iexact H13
  isplitl [H14]; · iexact H14
  isplitl [H15]; · iexact H15
  isplitl [H16]; · iexact H16
  iintro ⟨H3, H5, H6, H9, H13, H14, H15, H16⟩
  repeat imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H13]; · iexact H13
  isplitl [H14]; · iexact H14
  isplitl [H15]; · iexact H15
  iexact H16
include harg1 harg2 harg3 harg4 harg5 harg6 harg7 harg8 harg9 harg10 harg11 harg12 harg13 harg14 harg15 harg16 in
/-- A step that is neither the first nor the last. -/
theorem body_mid (h : (i 0).val ≠ 0) (h4 : (i 0).val ≠ 4) (x1 : Vec F S20000x128 .f32) (x2 : Vec F S256x128 .f32) (x3 : Vec F S256x64 .f32) (x4 : Vec F S1x64 .f32) (x5 : Vec F S64x1 .f32) (x6 : Vec F S1x1 .f32) (x7 : Vec F S1x2x10000 .i32) (x8 : Vec F S1x2x2 .i32) (x9 : Vec F S1x2x10000 .f32) (uw : Vec F S256x64 .f32) (mx : F .f32) (d : Vec F S256x1 .f32) (acc : Vec F S256x128 .f32)
    (w : k0_chk1 (lo0 x8) (hi0 x8) (lo1 x8) (hi1 x8)) (E : Set ℕ) (Q : _ → sProp 𝕄) :
    iprop(ow c arg1 x1 ∗ ow c arg2 x2 ∗ ow c arg3 x3 ∗ ow c arg4 x4 ∗ ow c arg5 x5 ∗ ow c arg6 x6 ∗ ow c arg7 x7 ∗ ow c arg8 x8 ∗ ow c arg9 x9 ∗ ow c arg13 (fun _ => mx) ∗ ow c arg14 d ∗ ow c arg15 acc ∗ ow c arg16 uw ∗ (iprop(ow c arg1 x1 ∗ ow c arg2 x2 ∗ ow c arg3 x3 ∗ ow c arg4 x4 ∗ ow c arg5 x5 ∗ ow c arg6 x6 ∗ ow c arg7 x7 ∗ ow c arg8 x8 ∗ ow c arg9 (stepOf x1 x3 x5 x6 x7 x8 uw mx d acc).s ∗ ow c arg13 (fun _ => (stepOf x1 x3 x5 x6 x7 x8 uw mx d acc).mx) ∗ ow c arg14 (stepOf x1 x3 x5 x6 x7 x8 uw mx d acc).d ∗ ow c arg15 (stepOf x1 x3 x5 x6 x7 x8 uw mx d acc).acc ∗ ow c arg16 uw) -∗ Q ⟨⟩))
    ⊢ wp frame (wpE (defs₀ (F := F)) 𝒱₀ (c : Thread nD τ) none) E (cc0__main_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  rw [cc0__main_body_eq_skeleton]
  simp only [cc0__main_body_skel]
  rw [dif_neg (not_last_cond i h4)]
  simp only [wp_bind, wp_pure]
  iintro ⟨H1, H2, H3, H4, H5, H6, H7, H8, H9, H13, H14, H15, H16, Hk⟩
  iapply (part7_rest c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (not_first_cond i (by omega)) x1 x2 x3 x4 x7 x8 (fun _ => mx) d acc uw w)
  isplitl [H1]; · iexact H1
  isplitl [H2]; · iexact H2
  isplitl [H3]; · iexact H3
  isplitl [H4]; · iexact H4
  isplitl [H7]; · iexact H7
  isplitl [H8]; · iexact H8
  isplitl [H13]; · iexact H13
  isplitl [H14]; · iexact H14
  isplitl [H15]; · iexact H15
  isplitl [H16]; · iexact H16
  iintro ⟨H1, H2, H3, H4, H7, H8, H13, H14, H15, H16⟩
  simp only [wp_bind, wp_pure]
  iapply (part8_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ x1 x3 x5 x6 x7 x8 w uw x9 mx d acc)
  isplitl [H3]; · iexact H3
  isplitl [H5]; · iexact H5
  isplitl [H6]; · iexact H6
  isplitl [H9]; · iexact H9
  isplitl [H13]; · iexact H13
  isplitl [H14]; · iexact H14
  isplitl [H15]; · iexact H15
  isplitl [H16]; · iexact H16
  iintro ⟨H3, H5, H6, H9, H13, H14, H15, H16⟩
  repeat imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H13]; · iexact H13
  isplitl [H14]; · iexact H14
  isplitl [H15]; · iexact H15
  iexact H16
include harg1 harg2 harg3 harg4 harg5 harg6 harg7 harg8 harg9 harg10 harg11 harg12 harg13 harg14 harg15 harg16 in
/-- The last step. -/
theorem body_last (h4 : (i 0).val = 4) (x1 : Vec F S20000x128 .f32) (x2 : Vec F S256x128 .f32) (x3 : Vec F S256x64 .f32) (x4 : Vec F S1x64 .f32) (x5 : Vec F S64x1 .f32) (x6 : Vec F S1x1 .f32) (x7 : Vec F S1x2x10000 .i32) (x8 : Vec F S1x2x2 .i32) (x9 : Vec F S1x2x10000 .f32) (x10 : Vec F S1x256 .f32) (x11 : Vec F S256x1 .f32) (x12 : Vec F S256x128 .f32) (uw : Vec F S256x64 .f32) (mx : F .f32) (d : Vec F S256x1 .f32) (acc : Vec F S256x128 .f32)
    (w : k0_chk1 (lo0 x8) (hi0 x8) (lo1 x8) (hi1 x8)) (E : Set ℕ) (Q : _ → sProp 𝕄) :
    iprop(ow c arg1 x1 ∗ ow c arg2 x2 ∗ ow c arg3 x3 ∗ ow c arg4 x4 ∗ ow c arg5 x5 ∗ ow c arg6 x6 ∗ ow c arg7 x7 ∗ ow c arg8 x8 ∗ ow c arg9 x9 ∗ ow c arg10 x10 ∗ ow c arg11 x11 ∗ ow c arg12 x12 ∗ ow c arg13 (fun _ => mx) ∗ ow c arg14 d ∗ ow c arg15 acc ∗ ow c arg16 uw ∗ (iprop(ow c arg1 x1 ∗ ow c arg2 x2 ∗ ow c arg3 x3 ∗ ow c arg4 x4 ∗ ow c arg5 x5 ∗ ow c arg6 x6 ∗ ow c arg7 x7 ∗ ow c arg8 x8 ∗ ow c arg9 (stepOf x1 x3 x5 x6 x7 x8 uw mx d acc).s ∗ ow c arg10 (k0_pay1 (stepOf x1 x3 x5 x6 x7 x8 uw mx d acc).mx) ∗ ow c arg11 (View.ld (stepOf x1 x3 x5 x6 x7 x8 uw mx d acc).d (Rect.unit (s := S256x1) ![0, 0] S256x1.size inb_S256x1_S256x1_0_0)) ∗ ow c arg12 (pooledOf (stepOf x1 x3 x5 x6 x7 x8 uw mx d acc).d (stepOf x1 x3 x5 x6 x7 x8 uw mx d acc).acc) ∗ ow c arg13 (fun _ => (stepOf x1 x3 x5 x6 x7 x8 uw mx d acc).mx) ∗ ow c arg14 (stepOf x1 x3 x5 x6 x7 x8 uw mx d acc).d ∗ ow c arg15 (stepOf x1 x3 x5 x6 x7 x8 uw mx d acc).acc ∗ ow c arg16 uw) -∗ Q ⟨⟩))
    ⊢ wp frame (wpE (defs₀ (F := F)) 𝒱₀ (c : Thread nD τ) none) E (cc0__main_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  rw [cc0__main_body_eq_skeleton]
  simp only [cc0__main_body_skel]
  rw [dif_pos (last_cond i h4)]
  simp only [wp_bind, wp_pure]
  iintro ⟨H1, H2, H3, H4, H5, H6, H7, H8, H9, H10, H11, H12, H13, H14, H15, H16, Hk⟩
  iapply (part7_rest c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (not_first_cond i (by omega)) x1 x2 x3 x4 x7 x8 (fun _ => mx) d acc uw w)
  isplitl [H1]; · iexact H1
  isplitl [H2]; · iexact H2
  isplitl [H3]; · iexact H3
  isplitl [H4]; · iexact H4
  isplitl [H7]; · iexact H7
  isplitl [H8]; · iexact H8
  isplitl [H13]; · iexact H13
  isplitl [H14]; · iexact H14
  isplitl [H15]; · iexact H15
  isplitl [H16]; · iexact H16
  iintro ⟨H1, H2, H3, H4, H7, H8, H13, H14, H15, H16⟩
  simp only [wp_bind, wp_pure]
  iapply (part8_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 _ x1 x3 x5 x6 x7 x8 w uw x9 mx d acc)
  isplitl [H3]; · iexact H3
  isplitl [H5]; · iexact H5
  isplitl [H6]; · iexact H6
  isplitl [H9]; · iexact H9
  isplitl [H13]; · iexact H13
  isplitl [H14]; · iexact H14
  isplitl [H15]; · iexact H15
  isplitl [H16]; · iexact H16
  iintro ⟨H3, H5, H6, H9, H13, H14, H15, H16⟩
  simp only [← wp_bind]
  iapply (tail_last c arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x10 x11 x12 _ _ _)
  isplitl [H10]; · iexact H10
  isplitl [H11]; · iexact H11
  isplitl [H12]; · iexact H12
  isplitl [H13]; · iexact H13
  isplitl [H14]; · iexact H14
  isplitl [H15]; · iexact H15
  iintro ⟨H10, H11, H12, H13, H14, H15⟩
  repeat imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16
end body
end Cert.Proof.Pool
-- ==== Proof.Region.lean ====
/-
  The TensorCore call as a pipeline: what its windows hold at each step, the state it carries, and its body's obligation.
-/
module

public import proofs.«01_k».proof.Proof.Whole

@[expose] public section

noncomputable section

namespace Cert.Proof.Pool

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

/-- Contents of every buffer the TensorCore names. -/
abbrev Valu (F : FTy → Type) (c : Dev nD) : Type := (b : Ref sig .tc) → Buf (Elt F) ((c : Thread nD τ).loc b)

section data
variable (c : Dev nD) (V : Valu F c)

/-! ## The blocks the windows bring in -/

abbrev b0 (t : Fin cfg0.N) : Vec F S20000x128 .f32 := (win0_0.blk t).view.read (Elt F) (V main_arg0)
abbrev b1 (t : Fin cfg0.N) : Vec F S256x128 .f32 := (win0_1.blk t).view.read (Elt F) (V main_arg1)
abbrev b2 (t : Fin cfg0.N) : Vec F S256x64 .f32 := (win0_2.blk t).view.read (Elt F) (V main_arg2)
abbrev b3 (t : Fin cfg0.N) : Vec F S1x64 .f32 := (win0_3.blk t).view.read (Elt F) (V main_v8)
abbrev b4 (t : Fin cfg0.N) : Vec F S64x1 .f32 := (win0_4.blk t).view.read (Elt F) (V main_arg4)
abbrev b5 (t : Fin cfg0.N) : Vec F S1x1 .f32 := (win0_5.blk t).view.read (Elt F) (V main_v9)
abbrev b6 (t : Fin cfg0.N) : Vec F S1x2x10000 .i32 := (win0_6.blk t).view.read (Elt F) (V main_v0)
abbrev b7 (t : Fin cfg0.N) : Vec F S1x2x2 .i32 := (win0_7.blk t).view.read (Elt F) (V main_v7)

/-- The grid's point of a step's number. -/
abbrev pt (n : ℕ) : Fin cfg0.N := ⟨n % 5, lt_of_lt_of_eq (Nat.mod_lt n (by decide)) N_0.symm⟩

theorem pt_val (t : Fin cfg0.N) : pt t.val = t := Fin.ext (Nat.mod_eq_of_lt (lt_of_lt_of_eq t.isLt N_0))

/-- The node table's part of the scores. -/
def uwAt : Vec F S256x64 .f32 := uwOf (b1 c V (pt 0)) (b2 c V (pt 0)) (b3 c V (pt 0))

/-- What each step leaves. -/
def stp : ℕ → Step F
  | 0 => stepOf (b0 c V (pt 0)) (b2 c V (pt 0)) (b4 c V (pt 0)) (b5 c V (pt 0)) (b6 c V (pt 0)) (b7 c V (pt 0)) (uwAt c V) mx0 (k0_pay39 (F := F)) (k0_pay40 (F := F))
  | n + 1 => stepOf (b0 c V (pt (n + 1))) (b2 c V (pt (n + 1))) (b4 c V (pt (n + 1))) (b5 c V (pt (n + 1))) (b6 c V (pt (n + 1))) (b7 c V (pt (n + 1))) (uwAt c V) (stp n).mx (stp n).d (stp n).acc

/-! ## The state carried from step to step -/

/-- Before the first step, anything; after each step, what it left. -/
def carried : ℕ → sProp 𝕄
  | 0 => Pipeline.scopedRest spec0 c
  | n + 1 => iprop(ow c (Memref.whole cc0_scratch0) (fun _ => (stp c V n).mx) ∗ ow c (Memref.whole cc0_scratch1) (stp c V n).d
      ∗ ow c (Memref.whole cc0_scratch2) (stp c V n).acc ∗ ow c (Memref.whole cc0_scratch3) (uwAt c V))

theorem carried_succ (n : ℕ) : carried c V (n + 1) =
    iprop(ow c (Memref.whole cc0_scratch0) (fun _ => (stp c V n).mx) ∗ ow c (Memref.whole cc0_scratch1) (stp c V n).d
      ∗ ow c (Memref.whole cc0_scratch2) (stp c V n).acc ∗ ow c (Memref.whole cc0_scratch3) (uwAt c V)) := rfl

/-- The proof's data of the call, the core owing `O` throughout. -/
def tcDat (O : CellTallies nD τ sig (HIx 1)) (R : Set (SemLoc sig × HIx 1)) : Pipeline.Dat τ (Elt F) (HIx 1) ℕ UU ℕ cfg0 c where
  A w := V (Pipeline.arrRef spec0 w)
  after w t := match w with
    | 0 => b0 c V t
    | 1 => b1 c V t
    | 2 => b2 c V t
    | 3 => b3 c V t
    | 4 => b4 c V t
    | 5 => b5 c V t
    | 6 => b6 c V t
    | 7 => b7 c V t
    | 8 => (stp c V t.val).s
    | 9 => k0_pay1 (stp c V t.val).mx
    | 10 => View.ld (stp c V t.val).d (Rect.unit (s := S256x1) ![0, 0] S256x1.size inb_S256x1_S256x1_0_0)
    | 11 => pooledOf (stp c V t.val).d (stp c V t.val).acc
    | ⟨_ + 12, h⟩ => absurd h (Nat.not_lt.2 (Nat.le_add_left _ _))
  Φ t := carried c V t.val
  q _ := fullShare
  owed _ := O
  recorded _ := R

variable (O : CellTallies nD τ sig (HIx 1)) (R : Set (SemLoc sig × HIx 1))

theorem before0 (t : Fin cfg0.N) (d) : (tcDat c V O R).before 0 t d = b0 c V t :=
  (tcDat c V O R).before_in_eq_fetched 0 rfl (fun _ => rfl) (fun _ _ _ => rfl) (fun _ => rfl) t d
theorem before1 (t : Fin cfg0.N) (d) : (tcDat c V O R).before 1 t d = b1 c V t :=
  (tcDat c V O R).before_in_eq_fetched 1 rfl (fun _ => rfl) (fun _ _ _ => rfl) (fun _ => rfl) t d
theorem before2 (t : Fin cfg0.N) (d) : (tcDat c V O R).before 2 t d = b2 c V t :=
  (tcDat c V O R).before_in_eq_fetched 2 rfl (fun _ => rfl) (fun _ _ _ => rfl) (fun _ => rfl) t d
theorem before3 (t : Fin cfg0.N) (d) : (tcDat c V O R).before 3 t d = b3 c V t :=
  (tcDat c V O R).before_in_eq_fetched 3 rfl (fun _ => rfl) (fun _ _ _ => rfl) (fun _ => rfl) t d
theorem before4 (t : Fin cfg0.N) (d) : (tcDat c V O R).before 4 t d = b4 c V t :=
  (tcDat c V O R).before_in_eq_fetched 4 rfl (fun _ => rfl) (fun _ _ _ => rfl) (fun _ => rfl) t d
theorem before5 (t : Fin cfg0.N) (d) : (tcDat c V O R).before 5 t d = b5 c V t :=
  (tcDat c V O R).before_in_eq_fetched 5 rfl (fun _ => rfl) (fun _ _ _ => rfl) (fun _ => rfl) t d
theorem before6 (t : Fin cfg0.N) (d) : (tcDat c V O R).before 6 t d = b6 c V t :=
  (tcDat c V O R).before_in_eq_fetched 6 rfl (fun _ => rfl) (fun _ _ _ => rfl) (fun _ => rfl) t d
theorem before7 (t : Fin cfg0.N) (d) : (tcDat c V O R).before 7 t d = b7 c V t :=
  (tcDat c V O R).before_in_eq_fetched 7 rfl (fun _ => rfl) (fun _ _ _ => rfl) (fun _ => rfl) t d

theorem coords_val (t : Fin cfg0.N) : (grid0.coords t 0).val = t.val := by
  rcases fin_N0 t with h | h | h | h | h <;> subst h <;> decide

theorem idle_out (t : Fin cfg0.N) (h : t.val ≠ 4) : (!(k0_cond4 (grid0.coords t) == 1#1)) = true := by
  have := not_last_cond (grid0.coords t) (by rw [coords_val]; exact h)
  simpa using this
theorem live_out (t : Fin cfg0.N) (h : t.val = 4) : (!(k0_cond4 (grid0.coords t) == 1#1)) = false := by
  have := last_cond (grid0.coords t) (by rw [coords_val]; exact h)
  simpa using this

theorem flush_no9 (t : Fin cfg0.N) (h : t.val ≠ 4) : (cfg0.win 9).flush t = false := by
  have h5 : t.val < 5 := lt_of_lt_of_eq t.isLt N_0
  rw [Bool.eq_false_iff]; intro e; have := (flush0_9 t).mp e; omega
theorem flush_no10 (t : Fin cfg0.N) (h : t.val ≠ 4) : (cfg0.win 10).flush t = false := by
  have h5 : t.val < 5 := lt_of_lt_of_eq t.isLt N_0
  rw [Bool.eq_false_iff]; intro e; have := (flush0_10 t).mp e; omega
theorem flush_no11 (t : Fin cfg0.N) (h : t.val ≠ 4) : (cfg0.win 11).flush t = false := by
  have h5 : t.val < 5 := lt_of_lt_of_eq t.isLt N_0
  rw [Bool.eq_false_iff]; intro e; have := (flush0_11 t).mp e; omega

theorem defs₀_row (t : Fin cfg0.N) : defs₀ (F := F) .tc cfg0.body (cfg0.bodyArgs t (cfg0.slots t)) = bodyAt0 t := rfl

theorem idles9 (t : Fin cfg0.N) (h4 : t.val ≠ 4) : (tcDat c V O R).leavesExact 9 t
    = iprop(∃ d, owns (c : Thread nD τ) (st0_9 t) fullShare ((tcDat c V O R).before 9 t d)) :=
  (tcDat c V O R).leavesExact_idle 9 t (idle_out t h4) (flush_no9 t h4)
theorem idles10 (t : Fin cfg0.N) (h4 : t.val ≠ 4) : (tcDat c V O R).leavesExact 10 t
    = iprop(∃ d, owns (c : Thread nD τ) (st0_10 t) fullShare ((tcDat c V O R).before 10 t d)) :=
  (tcDat c V O R).leavesExact_idle 10 t (idle_out t h4) (flush_no10 t h4)
theorem idles11 (t : Fin cfg0.N) (h4 : t.val ≠ 4) : (tcDat c V O R).leavesExact 11 t
    = iprop(∃ d, owns (c : Thread nD τ) (st0_11 t) fullShare ((tcDat c V O R).before 11 t d)) :=
  (tcDat c V O R).leavesExact_idle 11 t (idle_out t h4) (flush_no11 t h4)
theorem leaves8 (t : Fin cfg0.N) (n : ℕ) (h : t.val = n) :
    (tcDat c V O R).leavesExact 8 t = owns (c : Thread nD τ) (st0_8 t) fullShare (stp c V n).s := by subst h; rfl
theorem leaves9 (t : Fin cfg0.N) (n : ℕ) (h : t.val = n) (h4 : t.val = 4) :
    (tcDat c V O R).leavesExact 9 t = owns (c : Thread nD τ) (st0_9 t) fullShare (k0_pay1 (stp c V n).mx) := by
  subst h; unfold Pipeline.Dat.leavesExact; rw [show cfg0.idle 9 (cfg0.grid.coords t) = false from live_out t h4]; rfl
theorem leaves10 (t : Fin cfg0.N) (n : ℕ) (h : t.val = n) (h4 : t.val = 4) :
    (tcDat c V O R).leavesExact 10 t = owns (c : Thread nD τ) (st0_10 t) fullShare
      (View.ld (stp c V n).d (Rect.unit (s := S256x1) ![0, 0] S256x1.size inb_S256x1_S256x1_0_0)) := by
  subst h; unfold Pipeline.Dat.leavesExact; rw [show cfg0.idle 10 (cfg0.grid.coords t) = false from live_out t h4]; rfl
theorem leaves11 (t : Fin cfg0.N) (n : ℕ) (h : t.val = n) (h4 : t.val = 4) :
    (tcDat c V O R).leavesExact 11 t = owns (c : Thread nD τ) (st0_11 t) fullShare (pooledOf (stp c V n).d (stp c V n).acc) := by
  subst h; unfold Pipeline.Dat.leavesExact; rw [show cfg0.idle 11 (cfg0.grid.coords t) = false from live_out t h4]; rfl

/-- The body at the first point, from what the pipeline hands it to what it takes back. -/
theorem body_at_first (t : Fin cfg0.N) (w : k0_chk1 (lo0 (b7 c V t)) (hi0 (b7 c V t)) (lo1 (b7 c V t)) (hi1 (b7 c V t))) (h0 : t.val = 0) :
    iprop((tcDat c V O R).Φ t.castSucc ∗ (tcDat c V O R).owesAt none t.castSucc
        ∗ (∃ d, owns (c : Thread nD τ) (st0_0 t) fullShare ((tcDat c V O R).before 0 t d))
        ∗ (∃ d, owns (c : Thread nD τ) (st0_1 t) fullShare ((tcDat c V O R).before 1 t d))
        ∗ (∃ d, owns (c : Thread nD τ) (st0_2 t) fullShare ((tcDat c V O R).before 2 t d))
        ∗ (∃ d, owns (c : Thread nD τ) (st0_3 t) fullShare ((tcDat c V O R).before 3 t d))
        ∗ (∃ d, owns (c : Thread nD τ) (st0_4 t) fullShare ((tcDat c V O R).before 4 t d))
        ∗ (∃ d, owns (c : Thread nD τ) (st0_5 t) fullShare ((tcDat c V O R).before 5 t d))
        ∗ (∃ d, owns (c : Thread nD τ) (st0_6 t) fullShare ((tcDat c V O R).before 6 t d))
        ∗ (∃ d, owns (c : Thread nD τ) (st0_7 t) fullShare ((tcDat c V O R).before 7 t d))
        ∗ (∃ d, owns (c : Thread nD τ) (st0_8 t) fullShare ((tcDat c V O R).before 8 t d))
        ∗ (∃ d, owns (c : Thread nD τ) (st0_9 t) fullShare ((tcDat c V O R).before 9 t d))
        ∗ (∃ d, owns (c : Thread nD τ) (st0_10 t) fullShare ((tcDat c V O R).before 10 t d))
        ∗ (∃ d, owns (c : Thread nD τ) (st0_11 t) fullShare ((tcDat c V O R).before 11 t d)))
    ⊢ wp frame (wpE (defs₀ (F := F)) 𝒱₀ (c : Thread nD τ) none) Set.univ (bodyAt0 t) fun _ =>
      iprop((tcDat c V O R).Φ t.succ ∗ (tcDat c V O R).owesAt none t.succ
        ∗ (tcDat c V O R).leavesExact 0 t
        ∗ (tcDat c V O R).leavesExact 1 t
        ∗ (tcDat c V O R).leavesExact 2 t
        ∗ (tcDat c V O R).leavesExact 3 t
        ∗ (tcDat c V O R).leavesExact 4 t
        ∗ (tcDat c V O R).leavesExact 5 t
        ∗ (tcDat c V O R).leavesExact 6 t
        ∗ (tcDat c V O R).leavesExact 7 t
        ∗ (tcDat c V O R).leavesExact 8 t
        ∗ (tcDat c V O R).leavesExact 9 t
        ∗ (tcDat c V O R).leavesExact 10 t
        ∗ (tcDat c V O R).leavesExact 11 t) := by
  have hc := coords_val t
  have h4 : t.val ≠ 4 := by omega
  simp only [before0, before1, before2, before3, before4, before5, before6, before7]
  obtain rfl : t = pt 0 := (pt_val t).symm.trans (congrArg pt h0)
  rw [show (tcDat c V O R).Φ (pt 0).castSucc = Pipeline.scopedRest spec0 c from rfl, scopedRest0_eq, show (tcDat c V O R).Φ (pt 0).succ = carried c V 1 from rfl, carried_succ]
  rw [idles9 c V O R _ h4, idles10 c V O R _ h4, idles11 c V O R _ h4, leaves8 c V O R _ _ h0]
  iintro ⟨⟨⟨%x14, H14⟩, ⟨%x15, H15⟩, ⟨%x16, H16⟩, ⟨%x13, H13⟩⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_first c (grid0.coords (pt 0)) (win0_0.stage (cfg0.slots (pt 0) 0)) (hstage0_0 ((cfg0.slots (pt 0) 0).cast nbuf0_0)) (win0_1.stage (cfg0.slots (pt 0) 1)) (hstage0_1 ((cfg0.slots (pt 0) 1).cast nbuf0_1)) (win0_2.stage (cfg0.slots (pt 0) 2)) (hstage0_2 ((cfg0.slots (pt 0) 2).cast nbuf0_2)) (win0_3.stage (cfg0.slots (pt 0) 3)) (hstage0_3 ((cfg0.slots (pt 0) 3).cast nbuf0_3)) (win0_4.stage (cfg0.slots (pt 0) 4)) (hstage0_4 ((cfg0.slots (pt 0) 4).cast nbuf0_4)) (win0_5.stage (cfg0.slots (pt 0) 5)) (hstage0_5 ((cfg0.slots (pt 0) 5).cast nbuf0_5)) (win0_6.stage (cfg0.slots (pt 0) 6)) (hstage0_6 ((cfg0.slots (pt 0) 6).cast nbuf0_6)) (win0_7.stage (cfg0.slots (pt 0) 7)) (hstage0_7 ((cfg0.slots (pt 0) 7).cast nbuf0_7)) (win0_8.stage (cfg0.slots (pt 0) 8)) (hstage0_8 ((cfg0.slots (pt 0) 8).cast nbuf0_8)) (win0_9.stage (cfg0.slots (pt 0) 9)) (hstage0_9 ((cfg0.slots (pt 0) 9).cast nbuf0_9)) (win0_10.stage (cfg0.slots (pt 0) 10)) (hstage0_10 ((cfg0.slots (pt 0) 10).cast nbuf0_10)) (win0_11.stage (cfg0.slots (pt 0) 11)) (hstage0_11 ((cfg0.slots (pt 0) 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (hc.trans h0) (b0 c V (pt 0)) (b1 c V (pt 0)) (b2 c V (pt 0)) (b3 c V (pt 0)) (b4 c V (pt 0)) (b5 c V (pt 0)) (b6 c V (pt 0)) (b7 c V (pt 0)) ((tcDat c V O R).before 8 (pt 0) d8) x13 x14 x15 x16 w)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H13]; · (rw [ow, owns_whole]; iexact H13)
  isplitl [H14]; · (rw [ow, owns_whole]; iexact H14)
  isplitl [H15]; · (rw [ow, owns_whole]; iexact H15)
  isplitl [H16]; · (rw [ow, owns_whole]; iexact H16)
  iintro ⟨H0, H1, H2, H3, H4, H5, H6, H7, H8, H13, H14, H15, H16⟩
  isplitl [H13 H14 H15 H16]
  · isplitl [H13]; · iexact H13
    isplitl [H14]; · iexact H14
    isplitl [H15]; · iexact H15
    iexact H16
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · (iexists d9; iexact H9)
  isplitl [H10]; · (iexists d10; iexact H10)
  (iexists d11; iexact H11)

/-- The body at the last point. -/
theorem body_at_last (t : Fin cfg0.N) (w : k0_chk1 (lo0 (b7 c V t)) (hi0 (b7 c V t)) (lo1 (b7 c V t)) (hi1 (b7 c V t))) (h4 : t.val = 4) :
    iprop((tcDat c V O R).Φ t.castSucc ∗ (tcDat c V O R).owesAt none t.castSucc
        ∗ (∃ d, owns (c : Thread nD τ) (st0_0 t) fullShare ((tcDat c V O R).before 0 t d))
        ∗ (∃ d, owns (c : Thread nD τ) (st0_1 t) fullShare ((tcDat c V O R).before 1 t d))
        ∗ (∃ d, owns (c : Thread nD τ) (st0_2 t) fullShare ((tcDat c V O R).before 2 t d))
        ∗ (∃ d, owns (c : Thread nD τ) (st0_3 t) fullShare ((tcDat c V O R).before 3 t d))
        ∗ (∃ d, owns (c : Thread nD τ) (st0_4 t) fullShare ((tcDat c V O R).before 4 t d))
        ∗ (∃ d, owns (c : Thread nD τ) (st0_5 t) fullShare ((tcDat c V O R).before 5 t d))
        ∗ (∃ d, owns (c : Thread nD τ) (st0_6 t) fullShare ((tcDat c V O R).before 6 t d))
        ∗ (∃ d, owns (c : Thread nD τ) (st0_7 t) fullShare ((tcDat c V O R).before 7 t d))
        ∗ (∃ d, owns (c : Thread nD τ) (st0_8 t) fullShare ((tcDat c V O R).before 8 t d))
        ∗ (∃ d, owns (c : Thread nD τ) (st0_9 t) fullShare ((tcDat c V O R).before 9 t d))
        ∗ (∃ d, owns (c : Thread nD τ) (st0_10 t) fullShare ((tcDat c V O R).before 10 t d))
        ∗ (∃ d, owns (c : Thread nD τ) (st0_11 t) fullShare ((tcDat c V O R).before 11 t d)))
    ⊢ wp frame (wpE (defs₀ (F := F)) 𝒱₀ (c : Thread nD τ) none) Set.univ (bodyAt0 t) fun _ =>
      iprop((tcDat c V O R).Φ t.succ ∗ (tcDat c V O R).owesAt none t.succ
        ∗ (tcDat c V O R).leavesExact 0 t
        ∗ (tcDat c V O R).leavesExact 1 t
        ∗ (tcDat c V O R).leavesExact 2 t
        ∗ (tcDat c V O R).leavesExact 3 t
        ∗ (tcDat c V O R).leavesExact 4 t
        ∗ (tcDat c V O R).leavesExact 5 t
        ∗ (tcDat c V O R).leavesExact 6 t
        ∗ (tcDat c V O R).leavesExact 7 t
        ∗ (tcDat c V O R).leavesExact 8 t
        ∗ (tcDat c V O R).leavesExact 9 t
        ∗ (tcDat c V O R).leavesExact 10 t
        ∗ (tcDat c V O R).leavesExact 11 t) := by
  have hc := coords_val t
  simp only [before0, before1, before2, before3, before4, before5, before6, before7]
  obtain ⟨n, hn⟩ : ∃ n, t.val = n + 1 := ⟨t.val - 1, by omega⟩
  obtain rfl : t = pt (n + 1) := (pt_val t).symm.trans (congrArg pt hn)
  rw [show (tcDat c V O R).Φ (pt (n + 1)).castSucc = carried c V (n + 1) from congrArg (carried c V) hn, show (tcDat c V O R).Φ (pt (n + 1)).succ = carried c V (n + 2) from congrArg (fun k => carried c V (k + 1)) hn, carried_succ, carried_succ]
  rw [leaves9 c V O R _ _ hn h4, leaves10 c V O R _ _ hn h4, leaves11 c V O R _ _ hn h4, leaves8 c V O R _ _ hn]
  iintro ⟨⟨H13, H14, H15, H16⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_last c (grid0.coords (pt (n + 1))) (win0_0.stage (cfg0.slots (pt (n + 1)) 0)) (hstage0_0 ((cfg0.slots (pt (n + 1)) 0).cast nbuf0_0)) (win0_1.stage (cfg0.slots (pt (n + 1)) 1)) (hstage0_1 ((cfg0.slots (pt (n + 1)) 1).cast nbuf0_1)) (win0_2.stage (cfg0.slots (pt (n + 1)) 2)) (hstage0_2 ((cfg0.slots (pt (n + 1)) 2).cast nbuf0_2)) (win0_3.stage (cfg0.slots (pt (n + 1)) 3)) (hstage0_3 ((cfg0.slots (pt (n + 1)) 3).cast nbuf0_3)) (win0_4.stage (cfg0.slots (pt (n + 1)) 4)) (hstage0_4 ((cfg0.slots (pt (n + 1)) 4).cast nbuf0_4)) (win0_5.stage (cfg0.slots (pt (n + 1)) 5)) (hstage0_5 ((cfg0.slots (pt (n + 1)) 5).cast nbuf0_5)) (win0_6.stage (cfg0.slots (pt (n + 1)) 6)) (hstage0_6 ((cfg0.slots (pt (n + 1)) 6).cast nbuf0_6)) (win0_7.stage (cfg0.slots (pt (n + 1)) 7)) (hstage0_7 ((cfg0.slots (pt (n + 1)) 7).cast nbuf0_7)) (win0_8.stage (cfg0.slots (pt (n + 1)) 8)) (hstage0_8 ((cfg0.slots (pt (n + 1)) 8).cast nbuf0_8)) (win0_9.stage (cfg0.slots (pt (n + 1)) 9)) (hstage0_9 ((cfg0.slots (pt (n + 1)) 9).cast nbuf0_9)) (win0_10.stage (cfg0.slots (pt (n + 1)) 10)) (hstage0_10 ((cfg0.slots (pt (n + 1)) 10).cast nbuf0_10)) (win0_11.stage (cfg0.slots (pt (n + 1)) 11)) (hstage0_11 ((cfg0.slots (pt (n + 1)) 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (hc.trans h4) (b0 c V (pt (n + 1))) (b1 c V (pt (n + 1))) (b2 c V (pt (n + 1))) (b3 c V (pt (n + 1))) (b4 c V (pt (n + 1))) (b5 c V (pt (n + 1))) (b6 c V (pt (n + 1))) (b7 c V (pt (n + 1))) ((tcDat c V O R).before 8 (pt (n + 1)) d8) ((tcDat c V O R).before 9 (pt (n + 1)) d9) ((tcDat c V O R).before 10 (pt (n + 1)) d10) ((tcDat c V O R).before 11 (pt (n + 1)) d11) (uwAt c V) (stp c V n).mx (stp c V n).d (stp c V n).acc w)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]; · iexact H13
  isplitl [H14]; · iexact H14
  isplitl [H15]; · iexact H15
  isplitl [H16]; · iexact H16
  iintro ⟨H0, H1, H2, H3, H4, H5, H6, H7, H8, H9, H10, H11, H13, H14, H15, H16⟩
  isplitl [H13 H14 H15 H16]
  · isplitl [H13]; · iexact H13
    isplitl [H14]; · iexact H14
    isplitl [H15]; · iexact H15
    iexact H16
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body at a point between. -/
theorem body_at_mid (t : Fin cfg0.N) (w : k0_chk1 (lo0 (b7 c V t)) (hi0 (b7 c V t)) (lo1 (b7 c V t)) (hi1 (b7 c V t))) (h0 : t.val ≠ 0) (h4 : t.val ≠ 4) :
    iprop((tcDat c V O R).Φ t.castSucc ∗ (tcDat c V O R).owesAt none t.castSucc
        ∗ (∃ d, owns (c : Thread nD τ) (st0_0 t) fullShare ((tcDat c V O R).before 0 t d))
        ∗ (∃ d, owns (c : Thread nD τ) (st0_1 t) fullShare ((tcDat c V O R).before 1 t d))
        ∗ (∃ d, owns (c : Thread nD τ) (st0_2 t) fullShare ((tcDat c V O R).before 2 t d))
        ∗ (∃ d, owns (c : Thread nD τ) (st0_3 t) fullShare ((tcDat c V O R).before 3 t d))
        ∗ (∃ d, owns (c : Thread nD τ) (st0_4 t) fullShare ((tcDat c V O R).before 4 t d))
        ∗ (∃ d, owns (c : Thread nD τ) (st0_5 t) fullShare ((tcDat c V O R).before 5 t d))
        ∗ (∃ d, owns (c : Thread nD τ) (st0_6 t) fullShare ((tcDat c V O R).before 6 t d))
        ∗ (∃ d, owns (c : Thread nD τ) (st0_7 t) fullShare ((tcDat c V O R).before 7 t d))
        ∗ (∃ d, owns (c : Thread nD τ) (st0_8 t) fullShare ((tcDat c V O R).before 8 t d))
        ∗ (∃ d, owns (c : Thread nD τ) (st0_9 t) fullShare ((tcDat c V O R).before 9 t d))
        ∗ (∃ d, owns (c : Thread nD τ) (st0_10 t) fullShare ((tcDat c V O R).before 10 t d))
        ∗ (∃ d, owns (c : Thread nD τ) (st0_11 t) fullShare ((tcDat c V O R).before 11 t d)))
    ⊢ wp frame (wpE (defs₀ (F := F)) 𝒱₀ (c : Thread nD τ) none) Set.univ (bodyAt0 t) fun _ =>
      iprop((tcDat c V O R).Φ t.succ ∗ (tcDat c V O R).owesAt none t.succ
        ∗ (tcDat c V O R).leavesExact 0 t
        ∗ (tcDat c V O R).leavesExact 1 t
        ∗ (tcDat c V O R).leavesExact 2 t
        ∗ (tcDat c V O R).leavesExact 3 t
        ∗ (tcDat c V O R).leavesExact 4 t
        ∗ (tcDat c V O R).leavesExact 5 t
        ∗ (tcDat c V O R).leavesExact 6 t
        ∗ (tcDat c V O R).leavesExact 7 t
        ∗ (tcDat c V O R).leavesExact 8 t
        ∗ (tcDat c V O R).leavesExact 9 t
        ∗ (tcDat c V O R).leavesExact 10 t
        ∗ (tcDat c V O R).leavesExact 11 t) := by
  have hc := coords_val t
  simp only [before0, before1, before2, before3, before4, before5, before6, before7]
  obtain ⟨n, hn⟩ : ∃ n, t.val = n + 1 := ⟨t.val - 1, by omega⟩
  obtain rfl : t = pt (n + 1) := (pt_val t).symm.trans (congrArg pt hn)
  rw [show (tcDat c V O R).Φ (pt (n + 1)).castSucc = carried c V (n + 1) from congrArg (carried c V) hn, show (tcDat c V O R).Φ (pt (n + 1)).succ = carried c V (n + 2) from congrArg (fun k => carried c V (k + 1)) hn, carried_succ, carried_succ]
  rw [idles9 c V O R _ h4, idles10 c V O R _ h4, idles11 c V O R _ h4, leaves8 c V O R _ _ hn]
  iintro ⟨⟨H13, H14, H15, H16⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_mid c (grid0.coords (pt (n + 1))) (win0_0.stage (cfg0.slots (pt (n + 1)) 0)) (hstage0_0 ((cfg0.slots (pt (n + 1)) 0).cast nbuf0_0)) (win0_1.stage (cfg0.slots (pt (n + 1)) 1)) (hstage0_1 ((cfg0.slots (pt (n + 1)) 1).cast nbuf0_1)) (win0_2.stage (cfg0.slots (pt (n + 1)) 2)) (hstage0_2 ((cfg0.slots (pt (n + 1)) 2).cast nbuf0_2)) (win0_3.stage (cfg0.slots (pt (n + 1)) 3)) (hstage0_3 ((cfg0.slots (pt (n + 1)) 3).cast nbuf0_3)) (win0_4.stage (cfg0.slots (pt (n + 1)) 4)) (hstage0_4 ((cfg0.slots (pt (n + 1)) 4).cast nbuf0_4)) (win0_5.stage (cfg0.slots (pt (n + 1)) 5)) (hstage0_5 ((cfg0.slots (pt (n + 1)) 5).cast nbuf0_5)) (win0_6.stage (cfg0.slots (pt (n + 1)) 6)) (hstage0_6 ((cfg0.slots (pt (n + 1)) 6).cast nbuf0_6)) (win0_7.stage (cfg0.slots (pt (n + 1)) 7)) (hstage0_7 ((cfg0.slots (pt (n + 1)) 7).cast nbuf0_7)) (win0_8.stage (cfg0.slots (pt (n + 1)) 8)) (hstage0_8 ((cfg0.slots (pt (n + 1)) 8).cast nbuf0_8)) (win0_9.stage (cfg0.slots (pt (n + 1)) 9)) (hstage0_9 ((cfg0.slots (pt (n + 1)) 9).cast nbuf0_9)) (win0_10.stage (cfg0.slots (pt (n + 1)) 10)) (hstage0_10 ((cfg0.slots (pt (n + 1)) 10).cast nbuf0_10)) (win0_11.stage (cfg0.slots (pt (n + 1)) 11)) (hstage0_11 ((cfg0.slots (pt (n + 1)) 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (fun e => h0 (hc.symm.trans e)) (fun e => h4 (hc.symm.trans e)) (b0 c V (pt (n + 1))) (b1 c V (pt (n + 1))) (b2 c V (pt (n + 1))) (b3 c V (pt (n + 1))) (b4 c V (pt (n + 1))) (b5 c V (pt (n + 1))) (b6 c V (pt (n + 1))) (b7 c V (pt (n + 1))) ((tcDat c V O R).before 8 (pt (n + 1)) d8) (uwAt c V) (stp c V n).mx (stp c V n).d (stp c V n).acc w)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H13]; · iexact H13
  isplitl [H14]; · iexact H14
  isplitl [H15]; · iexact H15
  isplitl [H16]; · iexact H16
  iintro ⟨H0, H1, H2, H3, H4, H5, H6, H7, H8, H13, H14, H15, H16⟩
  isplitl [H13 H14 H15 H16]
  · isplitl [H13]; · iexact H13
    isplitl [H14]; · iexact H14
    isplitl [H15]; · iexact H15
    iexact H16
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · (iexists d9; iexact H9)
  isplitl [H10]; · (iexists d10; iexact H10)
  (iexists d11; iexact H11)

/-- The body at any point. -/
theorem body_at (t : Fin cfg0.N) (w : k0_chk1 (lo0 (b7 c V t)) (hi0 (b7 c V t)) (lo1 (b7 c V t)) (hi1 (b7 c V t))) :
    iprop((tcDat c V O R).Φ t.castSucc ∗ (tcDat c V O R).owesAt none t.castSucc
        ∗ (∃ d, owns (c : Thread nD τ) (st0_0 t) fullShare ((tcDat c V O R).before 0 t d))
        ∗ (∃ d, owns (c : Thread nD τ) (st0_1 t) fullShare ((tcDat c V O R).before 1 t d))
        ∗ (∃ d, owns (c : Thread nD τ) (st0_2 t) fullShare ((tcDat c V O R).before 2 t d))
        ∗ (∃ d, owns (c : Thread nD τ) (st0_3 t) fullShare ((tcDat c V O R).before 3 t d))
        ∗ (∃ d, owns (c : Thread nD τ) (st0_4 t) fullShare ((tcDat c V O R).before 4 t d))
        ∗ (∃ d, owns (c : Thread nD τ) (st0_5 t) fullShare ((tcDat c V O R).before 5 t d))
        ∗ (∃ d, owns (c : Thread nD τ) (st0_6 t) fullShare ((tcDat c V O R).before 6 t d))
        ∗ (∃ d, owns (c : Thread nD τ) (st0_7 t) fullShare ((tcDat c V O R).before 7 t d))
        ∗ (∃ d, owns (c : Thread nD τ) (st0_8 t) fullShare ((tcDat c V O R).before 8 t d))
        ∗ (∃ d, owns (c : Thread nD τ) (st0_9 t) fullShare ((tcDat c V O R).before 9 t d))
        ∗ (∃ d, owns (c : Thread nD τ) (st0_10 t) fullShare ((tcDat c V O R).before 10 t d))
        ∗ (∃ d, owns (c : Thread nD τ) (st0_11 t) fullShare ((tcDat c V O R).before 11 t d)))
    ⊢ wp frame (wpE (defs₀ (F := F)) 𝒱₀ (c : Thread nD τ) none) Set.univ (bodyAt0 t) fun _ =>
      iprop((tcDat c V O R).Φ t.succ ∗ (tcDat c V O R).owesAt none t.succ
        ∗ (tcDat c V O R).leavesExact 0 t
        ∗ (tcDat c V O R).leavesExact 1 t
        ∗ (tcDat c V O R).leavesExact 2 t
        ∗ (tcDat c V O R).leavesExact 3 t
        ∗ (tcDat c V O R).leavesExact 4 t
        ∗ (tcDat c V O R).leavesExact 5 t
        ∗ (tcDat c V O R).leavesExact 6 t
        ∗ (tcDat c V O R).leavesExact 7 t
        ∗ (tcDat c V O R).leavesExact 8 t
        ∗ (tcDat c V O R).leavesExact 9 t
        ∗ (tcDat c V O R).leavesExact 10 t
        ∗ (tcDat c V O R).leavesExact 11 t) := by
  by_cases h0 : t.val = 0
  · exact body_at_first c V O R t w h0
  by_cases h4 : t.val = 4
  · exact body_at_last c V O R t w h4
  exact body_at_mid c V O R t w h0 h4

/-- The body at every point, as the pipeline asks for it. -/
theorem obligation (w : ∀ t, k0_chk1 (lo0 (b7 c V t)) (hi0 (b7 c V t)) (lo1 (b7 c V t)) (hi1 (b7 c V t))) :
    Pipeline.BodyObligation (tcDat c V O R) (defs₀ (F := F)) 𝒱₀ none Set.univ := by
  intro t
  rw [Gen.bigSep_W0, Gen.bigSep_W0, defs₀_row]
  refine triple_restated (body_at c V O R t (w t)) rfl .rfl fun _ => .rfl

end data
end Cert.Proof.Pool
-- ==== Proof.Call.lean ====
/-
  The TensorCore's call as @main runs it: its proof data over all the unscoped arrays, and the contents they have once
  it has returned.
-/
module

public import proofs.«01_k».proof.Proof.Region
public import Idealize.ShloMosaic.Lib.Pipeline.RegionsLoop

@[expose] public section

noncomputable section

namespace Cert.Proof.Pool

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The pipeline's part of the ghost state. -/
def EP : Emb UK (MT nD τ sig (HIx 1) (Elt F) ℕ UU ℕ) := (Emb.inl : Emb UK (UK × Counters)).trans embR
instance EP_landsIn : (EP : Emb UK 𝕄).LandsIn (upEmb : UEmb _ 𝕄) := by unfold EP embR; infer_instance

abbrev adm : (p : Fin 1) → (pcfgs (F := F) p).Adm := fun p => (cfgs p).toPCfg_adm

/-- The call prefetches no table. -/
theorem no_tables (c : Dev nD) : Pipeline.prefHeld (Ix := HIx 1) (Name := ℕ) (U := UU) (Lvl := ℕ) (Val := Elt F) (pcfgs (F := F) 0).pre c (fun _ => fullShare) (adm (F := F) 0).1
    = (BI.emp : sProp 𝕄) := by
  unfold Pipeline.prefHeld
  have : IsEmpty (Fin (pcfgs (F := F) 0).pre.K) := inferInstanceAs (IsEmpty (Fin 0))
  rw [Finset.univ_eq_empty, BI.bigSep_empty]

section data
variable (V : (c : Dev nD) → Valu F c) (O : Dev nD → CellTallies nD τ sig (HIx 1)) (R : Dev nD → Set (SemLoc sig × HIx 1))

/-- The only call's proof data. -/
def pdats : (p : Fin 1) → (c : Dev nD) → Pipeline.Dat τ (Elt F) (HIx 1) ℕ UU ℕ (Pipeline.pin (pcfgs (F := F)) adm p) c
  | 0, c => tcDat c (V c) (O c) (R c)
  | ⟨_ + 1, h⟩, _ => absurd h (Nat.not_lt.2 (Nat.le_add_left _ _))

/-- The unscoped arrays once the call has returned: the four results as written back, the others as they were. -/
def afterCall (c : Dev nD) : Valu F c :=
  Function.update (Function.update (Function.update (Function.update (V c)
    main_v10_0 ((tcDat c (V c) (O c) (R c)).arrAt 8 cfg0.N)) main_v10_1 ((tcDat c (V c) (O c) (R c)).arrAt 9 cfg0.N))
    main_v10_2 ((tcDat c (V c) (O c) (R c)).arrAt 10 cfg0.N)) main_v10_3 ((tcDat c (V c) (O c) (R c)).arrAt 11 cfg0.N)

theorem afterCall_of_ne (c : Dev nD) (b : Ref sig .tc) (h0 : b ≠ main_v10_0) (h1 : b ≠ main_v10_1) (h2 : b ≠ main_v10_2) (h3 : b ≠ main_v10_3) :
    afterCall V O R c b = V c b := by
  unfold afterCall
  rw [Function.update_of_ne h3, Function.update_of_ne h2, Function.update_of_ne h1, Function.update_of_ne h0]
theorem afterCall_scores (c : Dev nD) : afterCall V O R c main_v10_0 = (tcDat c (V c) (O c) (R c)).arrAt 8 cfg0.N := by
  unfold afterCall
  rw [Function.update_of_ne (by decide), Function.update_of_ne (by decide), Function.update_of_ne (by decide), Function.update_self]
theorem afterCall_max (c : Dev nD) : afterCall V O R c main_v10_1 = (tcDat c (V c) (O c) (R c)).arrAt 9 cfg0.N := by
  unfold afterCall
  rw [Function.update_of_ne (by decide), Function.update_of_ne (by decide), Function.update_self]
theorem afterCall_denom (c : Dev nD) : afterCall V O R c main_v10_2 = (tcDat c (V c) (O c) (R c)).arrAt 10 cfg0.N := by
  unfold afterCall
  rw [Function.update_of_ne (by decide), Function.update_self]
theorem afterCall_pooled (c : Dev nD) : afterCall V O R c main_v10_3 = (tcDat c (V c) (O c) (R c)).arrAt 11 cfg0.N := by
  unfold afterCall
  rw [Function.update_self]

theorem afterCall_arr (c : Dev nD) (w : Fin 12) :
    (tcDat c (V c) (O c) (R c)).arrAt w cfg0.N = afterCall V O R c (Pipeline.arrRef spec0 w) := by
  match w with
  | 0 => exact ((tcDat c (V c) (O c) (R c)).arrAt_in 0 rfl _).trans (afterCall_of_ne V O R c main_arg0 (by decide) (by decide) (by decide) (by decide)).symm
  | 1 => exact ((tcDat c (V c) (O c) (R c)).arrAt_in 1 rfl _).trans (afterCall_of_ne V O R c main_arg1 (by decide) (by decide) (by decide) (by decide)).symm
  | 2 => exact ((tcDat c (V c) (O c) (R c)).arrAt_in 2 rfl _).trans (afterCall_of_ne V O R c main_arg2 (by decide) (by decide) (by decide) (by decide)).symm
  | 3 => exact ((tcDat c (V c) (O c) (R c)).arrAt_in 3 rfl _).trans (afterCall_of_ne V O R c main_v8 (by decide) (by decide) (by decide) (by decide)).symm
  | 4 => exact ((tcDat c (V c) (O c) (R c)).arrAt_in 4 rfl _).trans (afterCall_of_ne V O R c main_arg4 (by decide) (by decide) (by decide) (by decide)).symm
  | 5 => exact ((tcDat c (V c) (O c) (R c)).arrAt_in 5 rfl _).trans (afterCall_of_ne V O R c main_v9 (by decide) (by decide) (by decide) (by decide)).symm
  | 6 => exact ((tcDat c (V c) (O c) (R c)).arrAt_in 6 rfl _).trans (afterCall_of_ne V O R c main_v0 (by decide) (by decide) (by decide) (by decide)).symm
  | 7 => exact ((tcDat c (V c) (O c) (R c)).arrAt_in 7 rfl _).trans (afterCall_of_ne V O R c main_v7 (by decide) (by decide) (by decide) (by decide)).symm
  | 8 => exact (afterCall_scores V O R c).symm
  | 9 => exact (afterCall_max V O R c).symm
  | 10 => exact (afterCall_denom V O R c).symm
  | 11 => exact (afterCall_pooled V O R c).symm
  | ⟨_ + 12, h⟩ => exact absurd h (Nat.not_lt.2 (Nat.le_add_left _ _))

theorem afterCall_rest (c : Dev nD) (b : Ref sig .tc) (h : b ∉ Finset.univ.image (Pipeline.arrRef spec0)) :
    afterCall V O R c b = V c b := by
  have n (w : Fin 12) : b ≠ Pipeline.arrRef spec0 w := fun e => h (Finset.mem_image.mpr ⟨w, Finset.mem_univ _, e.symm⟩)
  exact afterCall_of_ne V O R c b (n 8) (n 9) (n 10) (n 11)

theorem share_full (c : Dev nD) (w : Fin 12) : (tcDat c (V c) (O c) (R c)).share w = fullShare := by
  unfold Pipeline.Dat.share; split <;> rfl

set_option maxRecDepth 8192 in
/-- The call, entered with all the unscoped arrays and left with them. -/
def reg (hO : ∀ c g, O c g none = 0)
    (hw : ∀ c t, k0_chk1 (lo0 (b7 c (V c) t)) (hi0 (b7 c (V c) t)) (lo1 (b7 c (V c) t)) (hi1 (b7 c (V c) t))) :
    Pipeline.RegionSeg (pcfgs (F := F)) adm (pdats V O R) none defs₀ 𝒱₀ (K (F := F)).L (K (F := F)).lev 0 where
  win := winFacts0.to₀
  block_pos := block_pos0
  stage_whole := stage_whole0
  K := PEmpty
  osem k := k.elim
  ho := Pipeline.OwnSemFacts.none _
  hbody c := (obligation c (V c) (O c) (R c) (hw c)).loose
  hwaits c := Pipeline.cellsWaits_intro (Pipeline.pin (pcfgs (F := F)) adm) (pdats V O R) none 0 c fun w s t => (K (F := F)).mayWait_none _ (hO c)
  pre c := iprop(unscopedBufs c (V c) ∗ ∃ W : Waits sig (HIx 1), ⌜(↑W : Set (SemLoc sig × HIx 1)) ⊆ R c⌝ ∗ owes (c : Thread nD τ) (O c) W)
  post c := iprop(unscopedBufs c (afterCall V O R c)
    ∗ ∃ W : Waits sig (HIx 1), ⌜(↑W : Set (SemLoc sig × HIx 1)) ⊆ R c ∪ cfg0.waitPairs none⌝ ∗ owes (c : Thread nD τ) (O c) W)
  X _ := iprop(emp)
  Y _ := iprop(emp)
  Z c := Pipeline.unscopedRest spec0 c (V c)
  hentry c := by
    rw [Pipeline.ownSems0_none, show Pipeline.prefHeld (Ix := HIx 1) (Name := ℕ) (U := UU) (Lvl := ℕ) (Val := Elt F) (pcfgs (F := F) 0).pre c (fun _ => fullShare) (adm (F := F) 0).1 = (BI.emp : sProp 𝕄) from no_tables c]
    have h := Pipeline.arrays_of_unscopedBufs (pcfgs (F := F)) adm (pdats V O R) (p := 0) winFacts0 arr_whole0 c (share_full V O R c) (V c) fun w => rfl
    iintro ⟨⟨Hbufs, %W, %hW, HO⟩, -, -⟩
    ihave H := h $$ Hbufs
    icases H with ⟨Ha, Hr⟩
    imodintro
    isplitl [Ha]; · iexact Ha
    isplitr; · iempintro
    isplitl [HO]
    · unfold Pipeline.Dat.owesAt Pipeline.owesWithin Pipeline.Dat.bound
      iexists W
      isplitr; · ipureintro; exact fun x hx => Or.inl (hW hx)
      iexact HO
    isplitr; · iempintro
    iexact Hr
  hin c := by
    rw [show (pdats V O R 0 c).Φ 0 = Pipeline.scopedRest spec0 c from rfl]
    iintro ⟨-, -, H⟩; iexact H
  hout c := by
    rw [show (pdats V O R 0 c).Φ (Fin.last (Pipeline.pin (pcfgs (F := F)) adm 0).N) = carried c (V c) 5 from congrArg (carried c (V c)) N_0,
      carried_succ, Pipeline.ownSems0_none,
      show Pipeline.scopedRest (Pipeline.pin (pcfgs (F := F)) adm 0).spec c = _ from scopedRest0_eq (Ix := HIx 1) (Name := ℕ) (U := UU) (Lvl := ℕ) (Val := Elt F) c]
    simp only [ow, owns_whole]
    iintro ⟨H13, H14, H15, H16⟩
    isplitr; · iempintro
    isplitr; · iempintro
    isplitl [H14]; · (iexists _; iexact H14)
    isplitl [H15]; · (iexists _; iexact H15)
    isplitl [H16]; · (iexists _; iexact H16)
    iexists _; iexact H13
  hexit c := by
    have h := Pipeline.unscopedBufs_of_arrays (pcfgs (F := F)) adm (p := 0) winFacts0 arr_whole0 c (pdats V O R) (share_full V O R c)
      (V c) (afterCall V O R c) _ (afterCall_arr V O R c) (afterCall_rest V O R c)
    iintro ⟨Ha, HO, -, Hr⟩
    ihave Hb := h $$ [Ha Hr]
    · isplitl [Ha]; · iexact Ha
      iexact Hr
    imodintro
    isplitl [Hb]; · iexact Hb
    iexact HO

end data
end Cert.Proof.Pool
-- ==== Proof.Host.lean ====
/-
  @main as stretches of host operations around the two kernel calls, and the arrays' contents between them.
-/
module

public import proofs.«01_k».proof.Proof.Call

@[expose] public section

noncomputable section

namespace Cert.Proof.Pool

open Cert.KernelIdeal Cert.KernelIdeal.Gen

open Idealize.ShloMosaic
open Idealize.ShloMosaic.TcCoe
open Idealize.ShloMosaic.SparseCore.Cfg (HIx)
open Idealize.SL Idealize.SL.Sem

variable {F : FTy → Type} [FloatOps F]

/-- The host operations before the TensorCore's call: the segment numbers by blocks, each half block's first and last. -/
def ops1 : List (HloOp τ sig (Elt F)) :=
  [StableHlo.reshape main_arg6 main_v0 (rfl : (.i32 : EltTy) = .i32) shapeCasts_S100000_S5x2x10000,
   StableHlo.unary main_v0 main_v1 ((extractStridedSlice S5x2x1 ![0, 0, 0] · slices_S5x2x10000_S5x2x1_0_0_0) : (⟨S5x2x10000, .i32⟩ : BufTy).Contents (Elt F) → (⟨S5x2x1, .i32⟩ : BufTy).Contents (Elt F)),
   StableHlo.reshape main_v1 main_v2 (rfl : (.i32 : EltTy) = .i32) shapeCasts_S5x2x1_S5x2,
   StableHlo.unary main_v0 main_v3 ((extractStridedSlice S5x2x1 ![0, 0, 9999] · slices_S5x2x10000_S5x2x1_0_0_9999) : (⟨S5x2x10000, .i32⟩ : BufTy).Contents (Elt F) → (⟨S5x2x1, .i32⟩ : BufTy).Contents (Elt F)),
   StableHlo.reshape main_v3 main_v4 (rfl : (.i32 : EltTy) = .i32) shapeCasts_S5x2x1_S5x2,
   StableHlo.unary main_v2 main_v5 (broadcastInDim S5x2x1 ![0, 1] bcast_S5x2_S5x2x1_0_1 : (⟨S5x2, .i32⟩ : BufTy).Contents (Elt F) → (⟨S5x2x1, .i32⟩ : BufTy).Contents (Elt F)),
   StableHlo.unary main_v4 main_v6 (broadcastInDim S5x2x1 ![0, 1] bcast_S5x2_S5x2x1_0_1 : (⟨S5x2, .i32⟩ : BufTy).Contents (Elt F) → (⟨S5x2x1, .i32⟩ : BufTy).Contents (Elt F)),
   StableHlo.binary main_v5 main_v6 main_v7 ((fun a b => concatenate S5x2x2 2 [⟨S5x2x1, a⟩, ⟨S5x2x1, b⟩] concatenates_S5x2x1_S5x2x1_S5x2x2_d2) : (⟨S5x2x1, .i32⟩ : BufTy).Contents (Elt F) → (⟨S5x2x1, .i32⟩ : BufTy).Contents (Elt F) → (⟨S5x2x2, .i32⟩ : BufTy).Contents (Elt F)),
   StableHlo.reshape main_arg3 main_v8 (rfl : (.f32 : EltTy) = .f32) shapeCasts_S64_S1x64,
   StableHlo.reshape main_arg5 main_v9 (rfl : (.f32 : EltTy) = .f32) shapeCasts_S1_S1x1]

/-- Those between the two calls: the scores and the segment numbers padded to whole strips. -/
def ops2 : List (HloOp τ sig (Elt F)) :=
  [StableHlo.reshape main_v10_0 main_v11 (rfl : (.f32 : EltTy) = .f32) shapeCasts_S5x2x10000_S100000,
   StableHlo.nullary main_c (constantI S_ 32 0#32),
   StableHlo.unary main_c main_call0_v0 (sitofp .f32 : (⟨S_, .i32⟩ : BufTy).Contents (Elt F) → (⟨S_, .f32⟩ : BufTy).Contents (Elt F)),
   StableHlo.binary main_v11 main_call0_v0 main_v12 ((fun x v => pad S100352 ![0] ![352] ![0] x v pads_S100000_S100352_03520 h_S_) : (⟨S100000, .f32⟩ : BufTy).Contents (Elt F) → (⟨S_, .f32⟩ : BufTy).Contents (Elt F) → (⟨S100352, .f32⟩ : BufTy).Contents (Elt F)),
   StableHlo.nullary main_c_0 (constantI S_ 32 0#32),
   StableHlo.unary main_c_0 main_call1_v0 (id : (⟨S_, .i32⟩ : BufTy).Contents (Elt F) → (⟨S_, .i32⟩ : BufTy).Contents (Elt F)),
   StableHlo.binary main_arg6 main_call1_v0 main_v13 ((fun x v => pad S100352 ![0] ![352] ![0] x v pads_S100000_S100352_03520 h_S_) : (⟨S100000, .i32⟩ : BufTy).Contents (Elt F) → (⟨S_, .i32⟩ : BufTy).Contents (Elt F) → (⟨S100352, .i32⟩ : BufTy).Contents (Elt F)),
   StableHlo.reshape main_v10_1 main_v14 (rfl : (.f32 : EltTy) = .f32) shapeCasts_S1x256_S256,
   StableHlo.reshape main_v10_2 main_v15 (rfl : (.f32 : EltTy) = .f32) shapeCasts_S256x1_S256]

/-- The last: the padding cut off. -/
def ops3 : List (HloOp τ sig (Elt F)) :=
  [StableHlo.unary main_v16 main_v17 ((extractStridedSlice S100000 ![0] · slices_S100352_S100000_0) : (⟨S100352, .f32⟩ : BufTy).Contents (Elt F) → (⟨S100000, .f32⟩ : BufTy).Contents (Elt F))]

set_option maxRecDepth 8192 in
theorem main_eq (d : Dev nD) :
    main (F := F) d = StableHlo.seq ops1 >>= fun _ => Prog.lift (.customCall (SparseCore.inner (Pipeline.entry 0)) ()) >>= fun _ =>
      StableHlo.seq ops2 >>= fun _ => (sc (F := F)).run d 0 >>= fun _ => StableHlo.seq ops3 >>= pure := by
  simp only [main, fn_pad.body, fn_pad_0.body, ops1, ops2, ops3, StableHlo.seq]
  rfl

theorem sub1 : ∀ op ∈ (ops1 : List (HloOp τ sig (Elt F))), op.bufs ⊆ Pipeline.ucRefs τ sig := by
  intro op h; refine Pipeline.sub_ucRefs op ?_
  simp only [ops1, List.mem_cons, List.not_mem_nil, or_false] at h
  rcases h with rfl | rfl | rfl | rfl | rfl | rfl | rfl | rfl | rfl | rfl <;> simp
theorem sub2 : ∀ op ∈ (ops2 : List (HloOp τ sig (Elt F))), op.bufs ⊆ Pipeline.ucRefs τ sig := by
  intro op h; refine Pipeline.sub_ucRefs op ?_
  simp only [ops2, List.mem_cons, List.not_mem_nil, or_false] at h
  rcases h with rfl | rfl | rfl | rfl | rfl | rfl | rfl | rfl | rfl <;> simp
theorem sub3 : ∀ op ∈ (ops3 : List (HloOp τ sig (Elt F))), op.bufs ⊆ Pipeline.ucRefs τ sig := by
  intro op h; refine Pipeline.sub_ucRefs op ?_
  simp only [ops3, List.mem_cons, List.not_mem_nil, or_false] at h
  rcases h with rfl; simp
theorem fresh1 : ∀ op ∈ (ops1 : List (HloOp τ sig (Elt F))), op.fresh = ∅ := by
  intro op h
  simp only [ops1, List.mem_cons, List.not_mem_nil, or_false] at h
  rcases h with rfl | rfl | rfl | rfl | rfl | rfl | rfl | rfl | rfl | rfl <;> rfl
theorem fresh2 : ∀ op ∈ (ops2 : List (HloOp τ sig (Elt F))), op.fresh = ∅ := by
  intro op h
  simp only [ops2, List.mem_cons, List.not_mem_nil, or_false] at h
  rcases h with rfl | rfl | rfl | rfl | rfl | rfl | rfl | rfl | rfl <;> rfl
theorem fresh3 : ∀ op ∈ (ops3 : List (HloOp τ sig (Elt F))), op.fresh = ∅ := by
  intro op h
  simp only [ops3, List.mem_cons, List.not_mem_nil, or_false] at h
  rcases h with rfl; rfl

end Cert.Proof.Pool

end
-- ==== Proof.Tile.lean ====
/-
  One tile of the SparseCores' call. It copies its 3136 scores and segment numbers and the two tables (the maximum,
  splat, and the 256 denominators) into its scratch, turns the denominators into reciprocals sixteen lanes at a time,
  writes exp(score − maximum) · reciprocal[segment] for each of its rows and copies them out.
-/
module

public import proofs.«01_k».proof.Proof.Base

@[expose] public section

noncomputable section

namespace Cert.Proof.Pool

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

local notation "𝕄" => MT nD τ sig (HIx 1) (Elt F) ℕ UU ℕ

local notation "sV" => (Memref.whole main_v12_scv : Memref sig Kind.scVector Space.hbm S100352 EltTy.f32)
local notation "bV" => (Memref.whole main_v13_scv : Memref sig Kind.scVector Space.hbm S100352 EltTy.i32)
local notation "mV" => (Memref.whole main_v14_scv : Memref sig Kind.scVector Space.hbm S256 EltTy.f32)
local notation "dV" => (Memref.whole main_v15_scv : Memref sig Kind.scVector Space.hbm S256 EltTy.f32)
local notation "oV" => (Memref.whole main_v16_scv : Memref sig Kind.scVector Space.hbm S100352 EltTy.f32)
local notation "tS" => (Memref.whole cc1_scratch0 : Memref sig Kind.scVector Space.vmem S3136 EltTy.f32)
local notation "tB" => (Memref.whole cc1_scratch1 : Memref sig Kind.scVector Space.vmem S3136 EltTy.i32)
local notation "tM" => (Memref.whole cc1_scratch2 : Memref sig Kind.scVector Space.vmem S256 EltTy.f32)
local notation "tD" => (Memref.whole cc1_scratch3 : Memref sig Kind.scVector Space.vmem S256 EltTy.f32)
local notation "tA" => (Memref.whole cc1_scratch4 : Memref sig Kind.scVector Space.vmem S3136 EltTy.f32)

/-! ## Where a tile's rows are -/

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl

/-- The tile's number: its subcore times two plus its SparseCore. -/
def wid (L : grid1.Coords) : Fin 32 :=
  ⟨(L 1).val * 2 + (L 0).val, by have h0 : (L 0).val < 2 := (L 0).isLt; have h1 : (L 1).val < 16 := (L 1).isLt; omega⟩

theorem div32 : 32 ∣ S100352.size 0 := ⟨3136, rfl⟩
abbrev strip (w : Fin 32) : Rect S100352 := Rect.part (s := S100352) (a₀ := 0) div32 w
abbrev stripSet (w : Fin 32) : Finset S100352.Idx := (strip w).set
abbrev stripK (L : grid1.Coords) : Rect S100352 := Rect.unit (s := S100352) (k1_off1 L) S3136.size (k1_off1_inb L)

theorem stripK_eq (L : grid1.Coords) : stripK L = strip (wid L) := by
  unfold stripK strip Rect.part Rect.block
  congr 1 <;> funext a
  · rw [k1_off1_eq]
    match a with
    | 0 => simp [Shape.partIx, Shape.partSize, wid]; omega
  · match a with
    | 0 => simp [Shape.partSize]

abbrev sRow (L : grid1.Coords) : Memref sig .scVector .hbm S3136 .f32 := (sV).slice (stripK L) (fun _ => rfl)
abbrev bRow (L : grid1.Coords) : Memref sig .scVector .hbm S3136 .i32 := (bV).slice (stripK L) (fun _ => rfl)
abbrev oRow (L : grid1.Coords) : Memref sig .scVector .hbm S3136 .f32 := (oV).slice (stripK L) (fun _ => rfl)

theorem set_sRow (L : grid1.Coords) : (sRow L).view.set = stripSet (wid L) := by
  show ((View.whole (main_v12_scv : Ref sig .scVector)).slice (stripK L)).set = _
  rw [View.set_slice, stripK_eq]; exact Finset.map_refl
theorem set_bRow (L : grid1.Coords) : (bRow L).view.set = stripSet (wid L) := by
  show ((View.whole (main_v13_scv : Ref sig .scVector)).slice (stripK L)).set = _
  rw [View.set_slice, stripK_eq]; exact Finset.map_refl
theorem set_oRow (L : grid1.Coords) : (oRow L).view.set = stripSet (wid L) := by
  show ((View.whole (main_v16_scv : Ref sig .scVector)).slice (stripK L)).set = _
  rw [View.set_slice, stripK_eq]; exact Finset.map_refl

section Held
variable (d : Dev nD) (L : grid1.Coords)

theorem pts_sRow (f : Buf (Elt F) (sLoc d)) :
    ((sRow L).view.loc (V d (cV L) (jV L)) ↦[(sRow L).view.set]{fullShare} f : sProp 𝕄) = sLoc d ↦[stripSet (wid L)]{fullShare} f := by
  rw [set_sRow]
theorem pts_bRow (f : Buf (Elt F) (bLoc d)) :
    ((bRow L).view.loc (V d (cV L) (jV L)) ↦[(bRow L).view.set]{fullShare} f : sProp 𝕄) = bLoc d ↦[stripSet (wid L)]{fullShare} f := by
  rw [set_bRow]
theorem pts_oRow (f : Buf (Elt F) (oLoc d)) :
    ((oRow L).view.loc (V d (cV L) (jV L)) ↦[(oRow L).view.set]{fullShare} f : sProp 𝕄) = oLoc d ↦[stripSet (wid L)]{fullShare} f := by
  rw [set_oRow]
theorem pts_mV (q : PosShare TreeShare) (f : Buf (Elt F) (mxLoc d)) :
    ((mV).view.loc (V d (cV L) (jV L)) ↦{q} f : sProp 𝕄) = mxLoc d ↦{q} f := rfl
theorem pts_dV (q : PosShare TreeShare) (f : Buf (Elt F) (dnLoc d)) :
    ((dV).view.loc (V d (cV L) (jV L)) ↦{q} f : sProp 𝕄) = dnLoc d ↦{q} f := rfl

abbrev cell0 : GSem nD τ sig := (V d (cV L) (jV L), .dma cc1_scoped0.sem)
abbrev cell1 : GSem nD τ sig := (V d (cV L) (jV L), .dma cc1_scoped1.sem)
abbrev cell2 : GSem nD τ sig := (V d (cV L) (jV L), .dma cc1_scoped2.sem)
abbrev cell3 : GSem nD τ sig := (V d (cV L) (jV L), .dma cc1_scoped3.sem)
abbrev cell4 : GSem nD τ sig := (V d (cV L) (jV L), .dma cc1_scoped4.sem)

/-- A semaphore of the tile's own is one of the cells it holds at zero. -/
theorem own_cell (s : SemLoc sig) (h : s.isScoped .scVector = true) :
    ((V d (cV L) (jV L), s) : GSem nD τ sig) ∈ ownCells (V d (cV L) (jV L)) := mem_ownCells.mpr ⟨rfl, h⟩

theorem cell_ne {a b : SemLoc sig} (h : a ≠ b) : ((V d (cV L) (jV L), a) : GSem nD τ sig) ≠ (V d (cV L) (jV L), b) :=
  fun e => h (Prod.mk.inj e).2

theorem ownSems0_V :
    (ownSems0 (V d (cV L) (jV L)) : sProp 𝕄)
      = iprop(semVal (cell0 d L) 0 ∗ semVal (cell1 d L) 0 ∗ semVal (cell2 d L) 0 ∗ semVal (cell3 d L) 0 ∗ semVal (cell4 d L) 0
          ∗ bigSep ((((((ownCells (V d (cV L) (jV L))).erase (cell0 d L)).erase (cell1 d L)).erase (cell2 d L)).erase (cell3 d L)).erase (cell4 d L))
              fun g => semVal g 0) := by
  have c0 := own_cell d L (.dma cc1_scoped0.sem) (by decide)
  have c1 := own_cell d L (.dma cc1_scoped1.sem) (by decide)
  have c2 := own_cell d L (.dma cc1_scoped2.sem) (by decide)
  have c3 := own_cell d L (.dma cc1_scoped3.sem) (by decide)
  have c4 := own_cell d L (.dma cc1_scoped4.sem) (by decide)
  have e := fun (a b : SemLoc sig) (h : a ≠ b) => cell_ne d L h
  unfold SparseCore.Cfg.ownSems0
  rw [SparseCore.bigSep_erase' c0,
    SparseCore.bigSep_erase' (Finset.mem_erase.mpr ⟨e _ _ (by decide), c1⟩),
    SparseCore.bigSep_erase' (Finset.mem_erase.mpr ⟨e _ _ (by decide), Finset.mem_erase.mpr ⟨e _ _ (by decide), c2⟩⟩),
    SparseCore.bigSep_erase' (Finset.mem_erase.mpr ⟨e _ _ (by decide), Finset.mem_erase.mpr ⟨e _ _ (by decide),
      Finset.mem_erase.mpr ⟨e _ _ (by decide), c3⟩⟩⟩),
    SparseCore.bigSep_erase' (Finset.mem_erase.mpr ⟨e _ _ (by decide), Finset.mem_erase.mpr ⟨e _ _ (by decide),
      Finset.mem_erase.mpr ⟨e _ _ (by decide), Finset.mem_erase.mpr ⟨e _ _ (by decide), c4⟩⟩⟩⟩)]

/-- A scratch buffer of the tile's own, as the launch names it. -/
abbrev own (r : Ref sig .scVector) : DevRef τ sig := (Proc.scVector (cV L) (jV L)).devRef r

theorem own_ne {a b : Ref sig .scVector} (h : a ≠ b) : own L a ≠ own L b := fun e => h (Proc.devRef_injective _ e)

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ (∃ f, (V d (cV L) (jV L)).loc cc1_scratch4 ↦{fullShare} f)
          ∗ bigSep ((((((ownRefs (τ := τ) (.scVector (cV L) (jV L))).erase (own L cc1_scratch0)).erase (own L cc1_scratch1)).erase
              (own L cc1_scratch2)).erase (own L cc1_scratch3)).erase (own L cc1_scratch4))
              fun b => iprop(∃ f, ((d, b) : Loc nD τ sig) ↦{fullShare} f)) := by
  have i0 := SparseCore.Cfg.mem_ownRefs_of_owner (p := Proc.scVector (cV L) (jV L)) (b := own L cc1_scratch0) rfl
  have i1 := SparseCore.Cfg.mem_ownRefs_of_owner (p := Proc.scVector (cV L) (jV L)) (b := own L cc1_scratch1) rfl
  have i2 := SparseCore.Cfg.mem_ownRefs_of_owner (p := Proc.scVector (cV L) (jV L)) (b := own L cc1_scratch2) rfl
  have i3 := SparseCore.Cfg.mem_ownRefs_of_owner (p := Proc.scVector (cV L) (jV L)) (b := own L cc1_scratch3) rfl
  have i4 := SparseCore.Cfg.mem_ownRefs_of_owner (p := Proc.scVector (cV L) (jV L)) (b := own L cc1_scratch4) rfl
  have e := fun (a b : Ref sig .scVector) (h : a ≠ b) => own_ne L h
  unfold SparseCore.Cfg.ownBufs
  refine (SparseCore.bigSep_erase' i0).trans ?_
  rw [SparseCore.bigSep_erase' (Finset.mem_erase.mpr ⟨e cc1_scratch1 _ (by decide), i1⟩),
    SparseCore.bigSep_erase' (Finset.mem_erase.mpr ⟨e cc1_scratch2 _ (by decide), Finset.mem_erase.mpr ⟨e cc1_scratch2 _ (by decide), i2⟩⟩),
    SparseCore.bigSep_erase' (Finset.mem_erase.mpr ⟨e cc1_scratch3 _ (by decide), Finset.mem_erase.mpr ⟨e cc1_scratch3 _ (by decide),
      Finset.mem_erase.mpr ⟨e cc1_scratch3 _ (by decide), i3⟩⟩⟩),
    SparseCore.bigSep_erase' (Finset.mem_erase.mpr ⟨e cc1_scratch4 _ (by decide), Finset.mem_erase.mpr ⟨e cc1_scratch4 _ (by decide),
      Finset.mem_erase.mpr ⟨e cc1_scratch4 _ (by decide), Finset.mem_erase.mpr ⟨e cc1_scratch4 _ (by decide), i4⟩⟩⟩⟩)]

end Held

/-! ## What a tile computes -/

variable [FloatOps F]

/-- A cell of a table of 256. -/
def cell (n : ℕ) : S256.Idx := Shape.ofLane (d := ![256]) ⟨n % 256, Nat.mod_lt _ (by decide)⟩

/-- One over the value. -/
def recip (x : F .f32) : F .f32 := FloatOps.divf (FloatOps.ofBits .f32 0x3F800000#32) x

/-- The attention weight of row `j`: exp(score − maximum) times the reciprocal of its segment's denominator. -/
def attn (s : FVec F S100352 .f32) (b : IVec S100352 32) (mx dn : FVec F S256 .f32) : FVec F S100352 .f32 := fun j =>
  FloatOps.mulf (FloatOps.exp (FloatOps.subf (s j) (mx (cell ((j 0).val % 16))))) (recip (dn (cell (b j).toNat)))

section Tile
variable (d : Dev nD) (L : grid1.Coords)
variable (s : Buf (Elt F) (sLoc d)) (b : Buf (Elt F) (bLoc d)) (mx : Buf (Elt F) (mxLoc d)) (dn : Buf (Elt F) (dnLoc d))

/-- What tile `w` holds of the call's arrays: its strip of the scores, of the segment numbers and of the result, and a
    share of each table. -/
abbrev held (w : Fin 32) (q : PosShare TreeShare) (o : Buf (Elt F) (oLoc d)) : sProp 𝕄 :=
  iprop((sLoc d ↦[stripSet w]{fullShare} s) ∗ (bLoc d ↦[stripSet w]{fullShare} b) ∗ (mxLoc d ↦{q} mx) ∗ (dnLoc d ↦{q} dn)
    ∗ (oLoc d ↦[stripSet w]{fullShare} o))

/-- The tile's rows of the scores and of the segment numbers. -/
def sPart : FVec F S3136 .f32 := fun j => s ((stripK L).emb j)
def bPart : IVec S3136 32 := fun j => b ((stripK L).emb j)
def recips : FVec F S256 .f32 := fun j => recip (dn j)

/-- Between trips of the loop: the rows of the trips done hold their weights. -/
def inv (k : Nat) (_ : PUnit) : sProp 𝕄 :=
  iprop(((tS).view.loc (V d (cV L) (jV L)) ↦{fullShare} (sPart d L s : Buf (Elt F) ((V d (cV L) (jV L)).loc cc1_scratch0)))
    ∗ ((tB).view.loc (V d (cV L) (jV L)) ↦{fullShare} (bPart d L b : Buf (Elt F) ((V d (cV L) (jV L)).loc cc1_scratch1)))
    ∗ ((tD).view.loc (V d (cV L) (jV L)) ↦{fullShare} (recips d dn : Buf (Elt F) ((V d (cV L) (jV L)).loc cc1_scratch3)))
    ∗ ∃ f : FVec F S3136 .f32, ⌜∀ j : S3136.Idx, (j 0).val < 64 * k → f j = attn s b mx dn ((stripK L).emb j)⌝
        ∗ ((tA).view.loc (V d (cV L) (jV L)) ↦{fullShare} (f : Buf (Elt F) ((V d (cV L) (jV L)).loc cc1_scratch4))))

theorem sPart_eq (f0 : Buf (Elt F) ((V d (cV L) (jV L)).loc cc1_scratch0)) (p : S3136.Idx → Elt F .f32) (hp : p = (sRow L).view.read (Elt F) s) :
    View.write (Elt F) (tS).view f0 p Finset.univ = sPart d L s := by
  subst hp
  rw [View.write_whole_univ]
  funext j
  exact (View.read_apply _ _).trans (cast_eq _ _)
theorem bPart_eq (f1 : Buf (Elt F) ((V d (cV L) (jV L)).loc cc1_scratch1)) (p : S3136.Idx → Elt F .i32) (hp : p = (bRow L).view.read (Elt F) b) :
    View.write (Elt F) (tB).view f1 p Finset.univ = bPart d L b := by
  subst hp
  rw [View.write_whole_univ]
  funext j
  exact (View.read_apply _ _).trans (cast_eq _ _)

/-- Sixteen segment numbers of the tile are numbers of segments. -/
theorem segs_ok (hb : ∀ j, (b j).toNat < 256) (off : Fin 1 → Nat) (inb : ∀ a, off a + S16.size a ≤ S3136.size a) :
    ∀ a x, ((![View.readAt (Elt F) (tB).view (Rect.unit (s := S3136) off S16.size inb).toLoadRect (bPart d L b)] : Fin 1 → IVec S16 32) a x).toNat < S256.size a := by
  intro a x
  match a with
  | 0 => exact hb _

/-- Sixteen rows' weights: lane `x` of the group at row `n` of the tile's strip. -/
theorem group_eq (hb : ∀ j, (b j).toNat < 256) (v3 : FVec F S16 .f32) (h3 : ∀ x, v3 x = mx (cell (x 0).val))
    (off : Fin 1 → Nat) (n : ℕ) (inb : ∀ a, off a + S16.size a ≤ S3136.size a) (e : off = ![n]) (h16 : n % 16 = 0)
    (h : ∀ a x, ((![View.readAt (Elt F) (tB).view (Rect.unit (s := S3136) off S16.size inb).toLoadRect (bPart d L b)] : Fin 1 → IVec S16 32) a x).toNat < S256.size a)
    (x : S16.Idx) (j : S3136.Idx) (hj : (j 0).val = n + (x 0).val) :
    mulf (exp (subf (View.readAt (Elt F) (tS).view (Rect.unit (s := S3136) off S16.size inb).toLoadRect (sPart d L s)) v3))
        (loadIdx (View.readAt (Elt F) (tD).view (LoadRect.whole S256) (recips d dn))
          ![View.readAt (Elt F) (tB).view (Rect.unit (s := S3136) off S16.size inb).toLoadRect (bPart d L b)] h) x
      = attn s b mx dn ((stripK L).emb j) := by
  subst e
  have ej : (Rect.unit (s := S3136) ![n] S16.size inb).emb x = j := funext fun a => Fin.ext (by
    match a with
    | 0 => show n + 1 * (x 0).val = (j 0).val; omega)
  have e1 : View.readAt (Elt F) (tS).view (Rect.unit (s := S3136) ![n] S16.size inb).toLoadRect (sPart d L s) x
      = s ((stripK L).emb j) := by rw [← ej]; rfl
  have e2 : View.readAt (Elt F) (tB).view (Rect.unit (s := S3136) ![n] S16.size inb).toLoadRect (bPart d L b) x
      = b ((stripK L).emb j) := by rw [← ej]; rfl
  have hx : (x 0).val < 16 := (x 0).isLt
  have hrow : (((stripK L).emb j) 0).val = 6272 * (L 1).val + 3136 * (L 0).val + (j 0).val := by
    show (k1_off1 L) 0 + 1 * (j 0).val = _
    rw [k1_off1_eq]; simp
  have e3 : View.readAt (Elt F) (tD).view (LoadRect.whole S256) (recips d dn) = recips d dn := Memref.readAt_whole (Elt F) cc1_scratch3 (recips d dn)
  rw [e3]
  show FloatOps.mulf (FloatOps.exp (FloatOps.subf (View.readAt (Elt F) (tS).view (Rect.unit (s := S3136) ![n] S16.size inb).toLoadRect (sPart d L s) x) (v3 x)))
    (recip (dn (idxAt _ h x))) = _
  unfold attn
  rw [e1, h3, hrow, show (6272 * (L 1).val + 3136 * (L 0).val + (j 0).val) % 16 = (x 0).val by omega]
  refine congrArg _ (congrArg (fun i => recip (dn i)) (funext fun a => Fin.ext ?_))
  match a with
  | 0 =>
    show (View.readAt (Elt F) (tB).view (Rect.unit (s := S3136) ![n] S16.size inb).toLoadRect (bPart d L b) x).toNat = (b ((stripK L).emb j)).toNat % 256
    rw [e2]; exact (Nat.mod_eq_of_lt (hb _)).symm

/-- Four groups of sixteen stored one after the other extend what holds of the rows below `n` to the rows below `n + 64`. -/
theorem four_groups {κ : Kind} {sp : Space} (v : View sig κ sp S3136 .f32) (G : FVec F S3136 .f32) (f : v.ty.Contents (Elt F)) (n : ℕ)
    (o0 o1 o2 o3 : Fin 1 → Nat) (i0 : ∀ a, o0 a + S16.size a ≤ S3136.size a) (i1 : ∀ a, o1 a + S16.size a ≤ S3136.size a)
    (i2 : ∀ a, o2 a + S16.size a ≤ S3136.size a) (i3 : ∀ a, o3 a + S16.size a ≤ S3136.size a)
    (e0 : o0 = ![n]) (e1 : o1 = ![n + 16]) (e2 : o2 = ![n + 32]) (e3 : o3 = ![n + 48])
    (w0 w1 w2 w3 : FVec F S16 .f32)
    (h0 : ∀ x (j : S3136.Idx), (j 0).val = n + (x 0).val → w0 x = G j) (h1 : ∀ x (j : S3136.Idx), (j 0).val = n + 16 + (x 0).val → w1 x = G j)
    (h2 : ∀ x (j : S3136.Idx), (j 0).val = n + 32 + (x 0).val → w2 x = G j) (h3 : ∀ x (j : S3136.Idx), (j 0).val = n + 48 + (x 0).val → w3 x = G j)
    (hf : ∀ j : S3136.Idx, (j 0).val < n → v.read (Elt F) f j = G j) (j : S3136.Idx) (hj : (j 0).val < n + 64) :
    v.read (Elt F) (v.writes (Elt F) f [⟨Rect.unit (s := S3136) o3 S16.size i3, w3⟩, ⟨Rect.unit (s := S3136) o2 S16.size i2, w2⟩,
      ⟨Rect.unit (s := S3136) o1 S16.size i1, w1⟩, ⟨Rect.unit (s := S3136) o0 S16.size i0, w0⟩]) j = G j := by
  have lane : ∀ m : ℕ, m ≤ (j 0).val → (j 0).val < m + 16 → ∃ x : S16.Idx, (j 0).val = m + (x 0).val := fun m h h' =>
    ⟨Shape.ofLane (d := ![16]) ⟨(j 0).val - m, by show (j 0).val - m < 16; omega⟩, by show (j 0).val = m + ((j 0).val - m); omega⟩
  have hit : ∀ (m : ℕ) (x : S16.Idx), (j 0).val = m + (x 0).val → ∀ a, (j a).val = (![m] : Fin 1 → ℕ) a + (x a).val := fun m x h a => by
    match a with
    | 0 => exact h
  have miss : ∀ m : ℕ, (j 0).val < m ∨ m + 16 ≤ (j 0).val → (j 0).val < (![m] : Fin 1 → ℕ) 0 ∨ (![m] : Fin 1 → ℕ) 0 + S16.size 0 ≤ (j 0).val :=
    fun m h => h
  by_cases c3 : n + 48 ≤ (j 0).val
  · obtain ⟨x, hx⟩ := lane (n + 48) c3 (by omega)
    rw [View.read_writes_cons_unit_of_mem (Val := Elt F) v _ i3 w3 _ j x e3 (hit _ x hx)]; exact h3 x j hx
  rw [View.read_writes_cons_unit_of_not_mem (Val := Elt F) v _ i3 w3 _ j e3 0 (miss _ (by omega))]
  by_cases c2 : n + 32 ≤ (j 0).val
  · obtain ⟨x, hx⟩ := lane (n + 32) c2 (by omega)
    rw [View.read_writes_cons_unit_of_mem (Val := Elt F) v _ i2 w2 _ j x e2 (hit _ x hx)]; exact h2 x j hx
  rw [View.read_writes_cons_unit_of_not_mem (Val := Elt F) v _ i2 w2 _ j e2 0 (miss _ (by omega))]
  by_cases c1 : n + 16 ≤ (j 0).val
  · obtain ⟨x, hx⟩ := lane (n + 16) c1 (by omega)
    rw [View.read_writes_cons_unit_of_mem (Val := Elt F) v _ i1 w1 _ j x e1 (hit _ x hx)]; exact h1 x j hx
  rw [View.read_writes_cons_unit_of_not_mem (Val := Elt F) v _ i1 w1 _ j e1 0 (miss _ (by omega))]
  by_cases c0 : n ≤ (j 0).val
  · obtain ⟨x, hx⟩ := lane n c0 (by omega)
    rw [View.read_writes_cons_unit_of_mem (Val := Elt F) v _ i0 w0 _ j x e0 (hit _ x hx)]; exact h0 x j hx
  rw [View.read_writes_cons_unit_of_not_mem (Val := Elt F) v _ i0 w0 _ j e0 0 (miss _ (by omega))]
  exact hf j (by omega)

set_option maxHeartbeats 4000000 in
/-- One trip: 64 rows, four groups of sixteen. -/
theorem trip (hb : ∀ j, (b j).toNat < 256) (k : Fin k1_t1_loop.trips) (v3 : FVec F S16 .f32) (h3 : ∀ x, v3 x = mx (cell (x 0).val)) (u : PUnit) :
    inv d L s b mx dn k u
      ⊢ wp frame (wpE (defs₀ (F := F)) 𝒱₀ (V d (cV L) (jV L)) none) Set.univ
          (k1_t1_body L sV (Memref.isWhole_whole _) bV (Memref.isWhole_whole _) mV (Memref.isWhole_whole _) dV (Memref.isWhole_whole _)
            oV (Memref.isWhole_whole _) tS (Memref.isWhole_whole _) tB (Memref.isWhole_whole _) tM (Memref.isWhole_whole _)
            tD (Memref.isWhole_whole _) tA (Memref.isWhole_whole _) cc1_scoped0 cc1_scoped1 cc1_scoped2 cc1_scoped3 cc1_scoped4 v3 k u)
          fun u' => inv d L s b mx dn (k + 1) u' := by
  unfold k1_t1_body; simp only [k1_part1_eq_skeleton]; unfold k1_part1_skel
  simp only [SparseCore.vectorLoadIdx]
  unfold inv
  iintro ⟨H0, H1, H3, %f, %hf, H4⟩
  sl_exec (disch := exact segs_ok d L b hb _ _)
  sl_step
  isplitl [H0]; · iexact H0
  isplitl [H1]; · iexact H1
  isplitl [H3]; · iexact H3
  iexists _; isplitr
  swap; · iexact H4
  ipureintro
  intro j hj
  have q3 : k1_off3 k 0#32 = ![64 * k.val] := k1_off3_eq k 0
  have q3' : k1_off3 k 16#32 = ![64 * k.val + 16] := k1_off3_eq k 1
  have q4 : k1_off4 k 16#32 = ![64 * k.val + 16] := k1_off4_eq k 0
  have q4' : k1_off4 k 32#32 = ![64 * k.val + 32] := k1_off4_eq k 1
  have q5 : k1_off5 k 32#32 = ![64 * k.val + 32] := k1_off5_eq k 0
  have q5' : k1_off5 k 48#32 = ![64 * k.val + 48] := k1_off5_eq k 1
  refine (congrFun (View.read_whole (Val := Elt F) cc1_scratch4 _) j).symm.trans ?_
  refine four_groups (tA).view (fun j => attn s b mx dn ((stripK L).emb j)) f (64 * k.val) _ _ _ _ _ _ _ _ q3 q4 q5 (k1_off6_eq k) _ _ _ _ ?_ ?_ ?_ ?_ hf j (by omega)
  · exact fun x j hj => group_eq d L s b mx dn hb v3 h3 _ _ _ (k1_off2_eq k) (by omega) _ x j hj
  · exact fun x j hj => group_eq d L s b mx dn hb v3 h3 _ _ _ q3' (by omega) _ x j hj
  · exact fun x j hj => group_eq d L s b mx dn hb v3 h3 _ _ _ q4' (by omega) _ x j hj
  · exact fun x j hj => group_eq d L s b mx dn hb v3 h3 _ _ _ q5' (by omega) _ x j hj

/-- What the copy out leaves in the tile's strip. -/
theorem out_eq (f : FVec F S3136 .f32) (hf : ∀ j : S3136.Idx, f j = attn s b mx dn ((stripK L).emb j)) (o : Buf (Elt F) (oLoc d)) :
    ((oRow L).view.loc (V d (cV L) (jV L)) ↦[(oRow L).view.set]{fullShare}
        (oRow L).view.writes (Elt F) o [⟨Rect.whole S3136, (f : S3136.Idx → Elt F .f32)⟩] : sProp 𝕄)
      = oLoc d ↦[stripSet (wid L)]{fullShare} (attn s b mx dn : Buf (Elt F) (oLoc d)) := by
  have e0 : ∀ x, (oRow L).view.read (Elt F) ((oRow L).view.writes (Elt F) o [⟨Rect.whole S3136, (f : S3136.Idx → Elt F .f32)⟩]) x = f x := fun x =>
    (congrArg _ (Rect.emb_whole_apply S3136 x).symm).trans (View.read_writes_cons_emb (oRow L).view o (Rect.whole S3136) (f : S3136.Idx → Elt F .f32) [] x)
  have e1 : ∀ (g : Buf (Elt F) (oLoc d)) x, (oRow L).view.read (Elt F) g x = g ((stripK L).emb x) := fun g x => (View.read_apply _ _).trans (cast_eq _ _)
  refine Eq.trans (pointsTo_congr fun i hi => ?_) (pts_oRow d L _)
  obtain ⟨x, -, hx⟩ := Finset.mem_map.mp hi
  have hx' : i = (stripK L).emb x := hx.symm
  rw [hx']
  exact (e1 _ x).symm.trans ((e0 x).trans (hf x))

/-- The reciprocal of a denominator read from the table copied in. -/
theorem recip_piece (f3 : Buf (Elt F) ((V d (cV L) (jV L)).loc cc1_scratch3)) (p : S256.Idx → Elt F .f32) (hp : p = (dV).view.read (Elt F) dn)
    (off : Fin 1 → Nat) (inb : ∀ a, off a + S16.size a ≤ S256.size a) (x : S16.Idx) :
    recip (View.readAt (Elt F) (tD).view (Rect.unit (s := S256) off S16.size inb).toLoadRect (View.write (Elt F) (tD).view f3 p Finset.univ) x)
      = recips d dn ((Rect.unit (s := S256) off S16.size inb).emb x) := by
  subst hp
  rw [View.write_whole_univ]
  rfl

omit [FloatOps F] in
/-- The rows of a group of sixteen. -/
theorem mem_sixteen (n : ℕ) (inb : ∀ a, (![n] : Fin 1 → ℕ) a + S16.size a ≤ S256.size a) (j : S256.Idx) :
    j ∈ (Rect.unit (s := S256) ![n] S16.size inb).set ↔ n ≤ (j 0).val ∧ (j 0).val < n + 16 := by
  rw [Rect.mem_set_unit]
  exact ⟨fun h => h 0, fun h a => by match a with | 0 => exact h⟩

/-- A group of reciprocals as it is stored: the rows, and what goes there. -/
abbrev recipPiece (f3 : Buf (Elt F) ((V d (cV L) (jV L)).loc cc1_scratch3)) (p : S256.Idx → Elt F .f32) (n : ℕ)
    (inb : ∀ a, (![n] : Fin 1 → ℕ) a + S16.size a ≤ S256.size a) : View.Piece (Elt F) S256 .f32 :=
  ⟨Rect.unit (s := S256) ![n] S16.size inb, fun x =>
    recip (View.readAt (Elt F) (tD).view (Rect.unit (s := S256) ![n] S16.size inb).toLoadRect (View.write (Elt F) (tD).view f3 p Finset.univ) x)⟩

/-- Sixteen groups of reciprocals fill the table. -/
theorem table_eq (f3 : Buf (Elt F) ((V d (cV L) (jV L)).loc cc1_scratch3)) (p : S256.Idx → Elt F .f32) (hp : p = (dV).view.read (Elt F) dn)
    (f : Buf (Elt F) ((V d (cV L) (jV L)).loc cc1_scratch3)) (l : List (View.Piece (Elt F) S256 .f32))
    (hl : l = [recipPiece d L f3 p 240 inb_S256_S16_240,
      recipPiece d L f3 p 224 inb_S256_S16_224,
      recipPiece d L f3 p 208 inb_S256_S16_208,
      recipPiece d L f3 p 192 inb_S256_S16_192,
      recipPiece d L f3 p 176 inb_S256_S16_176,
      recipPiece d L f3 p 160 inb_S256_S16_160,
      recipPiece d L f3 p 144 inb_S256_S16_144,
      recipPiece d L f3 p 128 inb_S256_S16_128,
      recipPiece d L f3 p 112 inb_S256_S16_112,
      recipPiece d L f3 p 96 inb_S256_S16_96,
      recipPiece d L f3 p 80 inb_S256_S16_80,
      recipPiece d L f3 p 64 inb_S256_S16_64,
      recipPiece d L f3 p 48 inb_S256_S16_48,
      recipPiece d L f3 p 32 inb_S256_S16_32,
      recipPiece d L f3 p 16 inb_S256_S16_16,
      recipPiece d L f3 p 0 inb_S256_S16_0]) :
    (tD).view.writes (Elt F) f l = recips d dn := by
  funext j
  have hn : (j 0).val < 256 := (j 0).isLt
  refine (congrFun (View.read_whole (Val := Elt F) cc1_scratch3 ((tD).view.writes (Elt F) f l)) j).symm.trans ?_
  subst hl
  refine View.read_writes_apply_of_pieces (Val := Elt F) (e := .f32) (tD).view _ (recips d dn) _ ?_ j ?_
  · intro q hq x
    simp only [List.mem_cons, List.not_mem_nil, _root_.or_false] at hq
    rcases hq with rfl | rfl | rfl | rfl | rfl | rfl | rfl | rfl | rfl | rfl | rfl | rfl | rfl | rfl | rfl | rfl <;>
      exact recip_piece d L dn f3 p hp _ _ x
  · have hc : ∀ i : S256.Idx, (i 0).val < 256 → ∃ q ∈ [recipPiece d L f3 p 240 inb_S256_S16_240,
      recipPiece d L f3 p 224 inb_S256_S16_224,
      recipPiece d L f3 p 208 inb_S256_S16_208,
      recipPiece d L f3 p 192 inb_S256_S16_192,
      recipPiece d L f3 p 176 inb_S256_S16_176,
      recipPiece d L f3 p 160 inb_S256_S16_160,
      recipPiece d L f3 p 144 inb_S256_S16_144,
      recipPiece d L f3 p 128 inb_S256_S16_128,
      recipPiece d L f3 p 112 inb_S256_S16_112,
      recipPiece d L f3 p 96 inb_S256_S16_96,
      recipPiece d L f3 p 80 inb_S256_S16_80,
      recipPiece d L f3 p 64 inb_S256_S16_64,
      recipPiece d L f3 p 48 inb_S256_S16_48,
      recipPiece d L f3 p 32 inb_S256_S16_32,
      recipPiece d L f3 p 16 inb_S256_S16_16,
      recipPiece d L f3 p 0 inb_S256_S16_0], i ∈ q.1.set := fun i hi => by
      have h : ∀ n inb, n ≤ (i 0).val → (i 0).val < n + 16 → i ∈ (recipPiece d L f3 p n inb).1.set := fun n inb h1 h2 =>
        (mem_sixteen n inb i).mpr ⟨h1, h2⟩
      rcases (by omega : (240 ≤ (i 0).val ∧ (i 0).val < 240 + 16) ∨ (224 ≤ (i 0).val ∧ (i 0).val < 224 + 16) ∨ (208 ≤ (i 0).val ∧ (i 0).val < 208 + 16) ∨ (192 ≤ (i 0).val ∧ (i 0).val < 192 + 16) ∨ (176 ≤ (i 0).val ∧ (i 0).val < 176 + 16) ∨ (160 ≤ (i 0).val ∧ (i 0).val < 160 + 16) ∨ (144 ≤ (i 0).val ∧ (i 0).val < 144 + 16) ∨ (128 ≤ (i 0).val ∧ (i 0).val < 128 + 16) ∨ (112 ≤ (i 0).val ∧ (i 0).val < 112 + 16) ∨ (96 ≤ (i 0).val ∧ (i 0).val < 96 + 16) ∨ (80 ≤ (i 0).val ∧ (i 0).val < 80 + 16) ∨ (64 ≤ (i 0).val ∧ (i 0).val < 64 + 16) ∨ (48 ≤ (i 0).val ∧ (i 0).val < 48 + 16) ∨ (32 ≤ (i 0).val ∧ (i 0).val < 32 + 16) ∨ (16 ≤ (i 0).val ∧ (i 0).val < 16 + 16) ∨ (0 ≤ (i 0).val ∧ (i 0).val < 0 + 16)) with e | e | e | e | e | e | e | e | e | e | e | e | e | e | e | e
      · exact ⟨_, .head _, h 240 inb_S256_S16_240 e.1 e.2⟩
      · exact ⟨_, .tail _ (.head _), h 224 inb_S256_S16_224 e.1 e.2⟩
      · exact ⟨_, .tail _ (.tail _ (.head _)), h 208 inb_S256_S16_208 e.1 e.2⟩
      · exact ⟨_, .tail _ (.tail _ (.tail _ (.head _))), h 192 inb_S256_S16_192 e.1 e.2⟩
      · exact ⟨_, .tail _ (.tail _ (.tail _ (.tail _ (.head _)))), h 176 inb_S256_S16_176 e.1 e.2⟩
      · exact ⟨_, .tail _ (.tail _ (.tail _ (.tail _ (.tail _ (.head _))))), h 160 inb_S256_S16_160 e.1 e.2⟩
      · exact ⟨_, .tail _ (.tail _ (.tail _ (.tail _ (.tail _ (.tail _ (.head _)))))), h 144 inb_S256_S16_144 e.1 e.2⟩
      · exact ⟨_, .tail _ (.tail _ (.tail _ (.tail _ (.tail _ (.tail _ (.tail _ (.head _))))))), h 128 inb_S256_S16_128 e.1 e.2⟩
      · exact ⟨_, .tail _ (.tail _ (.tail _ (.tail _ (.tail _ (.tail _ (.tail _ (.tail _ (.head _)))))))), h 112 inb_S256_S16_112 e.1 e.2⟩
      · exact ⟨_, .tail _ (.tail _ (.tail _ (.tail _ (.tail _ (.tail _ (.tail _ (.tail _ (.tail _ (.head _))))))))), h 96 inb_S256_S16_96 e.1 e.2⟩
      · exact ⟨_, .tail _ (.tail _ (.tail _ (.tail _ (.tail _ (.tail _ (.tail _ (.tail _ (.tail _ (.tail _ (.head _)))))))))), h 80 inb_S256_S16_80 e.1 e.2⟩
      · exact ⟨_, .tail _ (.tail _ (.tail _ (.tail _ (.tail _ (.tail _ (.tail _ (.tail _ (.tail _ (.tail _ (.tail _ (.head _))))))))))), h 64 inb_S256_S16_64 e.1 e.2⟩
      · exact ⟨_, .tail _ (.tail _ (.tail _ (.tail _ (.tail _ (.tail _ (.tail _ (.tail _ (.tail _ (.tail _ (.tail _ (.tail _ (.head _)))))))))))), h 48 inb_S256_S16_48 e.1 e.2⟩
      · exact ⟨_, .tail _ (.tail _ (.tail _ (.tail _ (.tail _ (.tail _ (.tail _ (.tail _ (.tail _ (.tail _ (.tail _ (.tail _ (.tail _ (.head _))))))))))))), h 32 inb_S256_S16_32 e.1 e.2⟩
      · exact ⟨_, .tail _ (.tail _ (.tail _ (.tail _ (.tail _ (.tail _ (.tail _ (.tail _ (.tail _ (.tail _ (.tail _ (.tail _ (.tail _ (.tail _ (.head _)))))))))))))), h 16 inb_S256_S16_16 e.1 e.2⟩
      · exact ⟨_, .tail _ (.tail _ (.tail _ (.tail _ (.tail _ (.tail _ (.tail _ (.tail _ (.tail _ (.tail _ (.tail _ (.tail _ (.tail _ (.tail _ (.tail _ (.head _))))))))))))))), h 0 inb_S256_S16_0 e.1 e.2⟩
    exact hc j hn

/-- The running maximum read from the first group of the table copied in. -/
theorem max_piece (f2 : Buf (Elt F) ((V d (cV L) (jV L)).loc cc1_scratch2)) (p : S256.Idx → Elt F .f32) (hp : p = (mV).view.read (Elt F) mx) (x : S16.Idx) :
    View.readAt (Elt F) (tM).view (Rect.unit (s := S256) ![0] S16.size inb_S256_S16_0).toLoadRect (View.write (Elt F) (tM).view f2 p Finset.univ) x
      = mx (cell (x 0).val) := by
  subst hp
  rw [View.write_whole_univ]
  have hx : (x 0).val < 16 := (x 0).isLt
  refine congrArg mx (funext fun a => Fin.ext ?_)
  match a with
  | 0 => show 0 + 1 * (x 0).val = (x 0).val % 256; omega

set_option maxHeartbeats 4000000 in
theorem tile_body (hF : (K (F := F)).Facts) (hb : ∀ j, (b j).toNat < 256) (q : PosShare TreeShare) (o : Buf (Elt F) (oLoc d))
    (O : CellTallies nD τ sig (HIx 1)) (W : Waits sig (HIx 1)) (hO : ∀ g, O g none = 0) :
    iprop(levAts (K (F := F)).L (K (F := F)).lev ∗ emp
        ∗ held d s b mx dn (wid L) q o
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_sc_attn L sV (Memref.isWhole_whole _) bV (Memref.isWhole_whole _) mV (Memref.isWhole_whole _) dV (Memref.isWhole_whole _)
            oV (Memref.isWhole_whole _) tS (Memref.isWhole_whole _) tB (Memref.isWhole_whole _) tM (Memref.isWhole_whole _)
            tD (Memref.isWhole_whole _) tA (Memref.isWhole_whole _) cc1_scoped0 cc1_scoped1 cc1_scoped2 cc1_scoped3 cc1_scoped4)
          fun _ => iprop(held d s b mx dn (wid L) q (attn s b mx dn)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_sc_attn_eq_skeleton]; unfold cc1_sc_attn_skel
  simp only [k1_part2_eq_skeleton, k1_part3_eq_skeleton]; unfold k1_part2_skel k1_part3_skel
  rw [(K (F := F)).scopedBufs_V hF d (cV L) (jV L), SparseCore.Cfg.scopedSems0_V (Val := Elt F) d (cV L) (jV L), ownSems0_V, ownBufs_V]
  iintro ⟨#Hlv, -, ⟨Hs, Hb, Hm, Hd, Ho⟩, ⟨⟨%f0, H0⟩, ⟨%f1, H1⟩, ⟨%f2, H2⟩, ⟨%f3, H3⟩, ⟨%f4, H4⟩, Hbufs⟩, ⟨G0, G1, G2, G3, G4, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hs' := (Entails.of_eq (pts_sRow (F := F) d L _).symm) $$ Hs
  ihave Hb' := (Entails.of_eq (pts_bRow (F := F) d L _).symm) $$ Hb
  ihave Ho' := (Entails.of_eq (pts_oRow (F := F) d L _).symm) $$ Ho
  ihave Hm' := (Entails.of_eq (pts_mV (F := F) d L _ _).symm) $$ Hm
  ihave Hd' := (Entails.of_eq (pts_dV (F := F) d L _ _).symm) $$ Hd
  ihave H0' := (Entails.of_eq (show ((V d (cV L) (jV L)).loc cc1_scratch0 ↦{fullShare} f0 : sProp 𝕄) = (tS).view.loc (V d (cV L) (jV L)) ↦{fullShare} f0 from rfl)) $$ H0
  ihave H1' := (Entails.of_eq (show ((V d (cV L) (jV L)).loc cc1_scratch1 ↦{fullShare} f1 : sProp 𝕄) = (tB).view.loc (V d (cV L) (jV L)) ↦{fullShare} f1 from rfl)) $$ H1
  ihave H2' := (Entails.of_eq (show ((V d (cV L) (jV L)).loc cc1_scratch2 ↦{fullShare} f2 : sProp 𝕄) = (tM).view.loc (V d (cV L) (jV L)) ↦{fullShare} f2 from rfl)) $$ H2
  ihave H3' := (Entails.of_eq (show ((V d (cV L) (jV L)).loc cc1_scratch3 ↦{fullShare} f3 : sProp 𝕄) = (tD).view.loc (V d (cV L) (jV L)) ↦{fullShare} f3 from rfl)) $$ H3
  ihave H4' := (Entails.of_eq (show ((V d (cV L) (jV L)).loc cc1_scratch4 ↦{fullShare} f4 : sProp 𝕄) = (tA).view.loc (V d (cV L) (jV L)) ↦{fullShare} f4 from rfl)) $$ H4
  sl_exec
  ihave H0 := (Entails.of_eq (congrArg (fun x => ((tS).view.loc (V d (cV L) (jV L)) ↦{fullShare} x : sProp 𝕄)) (sPart_eq d L s f0 (tile_body.sl.dma0 d L s) rfl))) $$ H0'
  ihave H1 := (Entails.of_eq (congrArg (fun x => ((tB).view.loc (V d (cV L) (jV L)) ↦{fullShare} x : sProp 𝕄)) (bPart_eq d L b f1 (tile_body.sl.dma0_1 d L b) rfl))) $$ H1'
  have hD : (tD).view.writes (Elt F) (tD).view.junk (tile_body.sl.H3'_16 d L mx dn f2 f3) = recips d dn :=
    table_eq d L dn f3 (tile_body.sl.dma0_3 d dn) rfl _ _ rfl
  ihave H3 := (Entails.of_eq (congrArg (fun x => ((tD).view.loc (V d (cV L) (jV L)) ↦{fullShare} x : sProp 𝕄)) hD)) $$ H3'
  sl_for (inv d L s b mx dn) $$ [H0 H1 H3 H4']
  case region =>
    intro k _
    exact trip d L s b mx dn hb k _ (max_piece d L mx f2 (tile_body.sl.dma0_2 d mx) rfl) _
  · unfold inv
    isplitl [H0]; · iexact H0
    isplitl [H1]; · iexact H1
    isplitl [H3]; · iexact H3
    iexists _; isplitr
    swap; · iexact H4'
    ipureintro; intro j hj; exact absurd hj (by omega)
  iintro %_ HI
  unfold inv
  icases HI with ⟨H0, H1, H3, %f, %hf, H4⟩
  sl_exec
  sl_step
  have hf' : ∀ j : S3136.Idx, f j = attn s b mx dn ((stripK L).emb j) := fun j => hf j (by
    have h : (j 0).val < 3136 := (j 0).isLt
    have e : Scf.trips k1_t1_loop.lb k1_t1_loop.ub k1_t1_loop.st = 49 := by decide
    rw [e]; omega)
  ihave Ho := (Entails.of_eq (show ((oRow L).view.loc (V d (cV L) (jV L)) ↦[(oRow L).view.set]{fullShare}
      (oRow L).view.writes (Elt F) o [⟨Rect.whole S3136, tile_body.sl.dma0_4 f⟩] : sProp 𝕄) = _ from out_eq d L s b mx dn f hf' o)) $$ Ho'
  isplitl [Hs' Hb' Hm' Hd' Ho]
  · isplitl [Hs']; · iapply (Entails.of_eq (pts_sRow (F := F) d L _)); iexact Hs'
    isplitl [Hb']; · iapply (Entails.of_eq (pts_bRow (F := F) d L _)); iexact Hb'
    isplitl [Hm']; · iexact Hm'
    isplitl [Hd']; · iexact Hd'
    iexact Ho
  isplitl [H0 H1 H2' H3 H4 Hbufs]
  · isplitl [H0]; · iexists _; iexact H0
    isplitl [H1]; · iexists _; iexact H1
    isplitl [H2']; · iexists _; iexact H2'
    isplitl [H3]; · iexists _; iexact H3
    isplitl [H4]; · iexists _; iexact H4
    iexact Hbufs
  isplitl [G0 G1 G2 G3 G4 Hsems]
  · isplitl [G0]; · iexact G0
    isplitl [G1]; · iexact G1
    isplitl [G2]; · iexact G2
    isplitl [G3]; · iexact G3
    isplitl [G4]; · iexact G4
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Tile

end Cert.Proof.Pool

end
-- ==== Proof.Launch.lean ====
/-
  The launch: the contents of @main's arrays from stretch to stretch, the strips dealt to the tiles and collected
  again, and the whole run.
-/
module

public import proofs.«01_k».proof.Proof.Host
public import proofs.«01_k».proof.Proof.Tile

@[expose] public section

noncomputable section

namespace Cert.Proof.Pool

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type} [FloatOps F]

local notation "𝕄" => MT nD τ sig (HIx 1) (Elt F) ℕ UU ℕ

/-! ## What the tiles are handed -/

section Deal
variable (X : Dev nD → Valuation τ sig (Elt F))

def coordsV (c : Fin (grid1.bound 0)) (s : Fin (grid1.bound 1)) : grid1.Coords :=
  fun | 0 => c | 1 => s | ⟨_ + 2, h⟩ => absurd h (Nat.not_lt.2 (Nat.le_add_left _ _))

/-- The weights the tiles compute of the arrays at `X`. -/
def weights (d : Dev nD) : Buf (Elt F) (oLoc d) :=
  attn (X d (Proc.devRef .tc main_v12)) (X d (Proc.devRef .tc main_v13)) (X d (Proc.devRef .tc main_v14)) (X d (Proc.devRef .tc main_v15))

/-- Tile `w`'s part of the arrays. -/
def part (o : (d : Dev nD) → Buf (Elt F) (oLoc d)) (d : Dev nD) (w : Fin 32) : sProp 𝕄 :=
  held d (X d (Proc.devRef .tc main_v12)) (X d (Proc.devRef .tc main_v13)) (X d (Proc.devRef .tc main_v14)) (X d (Proc.devRef .tc main_v15)) w
    (leaf 5 fullShare w) (o d)

def before (d : Dev nD) : Buf (Elt F) (oLoc d) := X d (Proc.devRef .tc main_v16)

def tileNo (c : Fin ((K (F := F)).nCore 0)) (i : Fin ((K (F := F)).nSub 0)) : Fin 32 := wid (coordsV ⟨c.val, c.isLt⟩ ⟨i.val, i.isLt⟩)

def P : (K (F := F)).Pay (N := 1) (nD := nD) (Val := Elt F) (Name := ℕ) (U := UU) where
  st q d c := match q with
    | 0 => bigSep Finset.univ fun i => part X (before X) d (tileNo (F := F) c i)
  dn q d c := match q with
    | 0 => bigSep Finset.univ fun i => part X (weights X) d (tileNo (F := F) c i)
  go q d c i := match q with
    | 0 => part X (before X) d (tileNo (F := F) c i)
  td q d c i := match q with
    | 0 => part X (weights X) d (tileNo (F := F) c i)
  x := fun _ _ => iprop(emp)

instance part_storable (o d w) : BI.Storable (upEmb : UEmb _ 𝕄) (part X o d w) := by unfold part; infer_instance
instance P_storable : (P X).IsStorable where
  st q d c := match q with
    | 0 => (inferInstance : BI.Storable (upEmb : UEmb _ 𝕄) (bigSep Finset.univ fun i => part X (before X) d (tileNo (F := F) c i)))
  dn q d c := match q with
    | 0 => (inferInstance : BI.Storable (upEmb : UEmb _ 𝕄) (bigSep Finset.univ fun i => part X (weights X) d (tileNo (F := F) c i)))
  go q d c i := match q with
    | 0 => (inferInstance : BI.Storable (upEmb : UEmb _ 𝕄) (part X (before X) d (tileNo (F := F) c i)))
  td q d c i := match q with
    | 0 => (inferInstance : BI.Storable (upEmb : UEmb _ 𝕄) (part X (weights X) d (tileNo (F := F) c i)))

theorem vecSplit : (K (F := F)).VecSplit' (P X) 0 := by
  intro d c
  show (bigSep Finset.univ fun i => part X (before X) d (tileNo (F := F) c i)) ⊢ |={Set.univ}=> iprop(
    (bigSep Finset.univ fun i => part X (before X) d (tileNo (F := F) c i))
    ∗ ((bigSep Finset.univ fun i => part X (weights X) d (tileNo (F := F) c i)) -∗ bigSep Finset.univ fun i => part X (weights X) d (tileNo (F := F) c i)))
  iintro H; imodintro
  isplitl [H]; · iexact H
  iintro H; iexact H

/-! ## A tile's obligation -/

theorem defs₀_vector (c : Fin τ.nSC) (s : Fin τ.nSub) :
    defs₀ (F := F) (.scVector c s) 1 ()
      = SparseCore.onTile hcore1 hsub1 (fun c s => cc1_sc_attn (coordsV c s)
          (Memref.whole main_v12_scv) (Memref.isWhole_whole _) (Memref.whole main_v13_scv) (Memref.isWhole_whole _)
          (Memref.whole main_v14_scv) (Memref.isWhole_whole _) (Memref.whole main_v15_scv) (Memref.isWhole_whole _)
          (Memref.whole main_v16_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          (Memref.whole cc1_scratch4) (Memref.isWhole_whole _)
          cc1_scoped0 cc1_scoped1 cc1_scoped2 cc1_scoped3 cc1_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hb : ∀ d (j : S100352.Idx), (X d (Proc.devRef .tc main_v13) j : BitVec 32).toNat < 256) :
    (K (F := F)).TileObl (D (F := F)) 𝒱 (P X) v₀ 0 := by
  intro d c i O W hO _ _
  simp only [show (P X).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (X d (Proc.devRef .tc main_v12)) (X d (Proc.devRef .tc main_v13))
    (X d (Proc.devRef .tc main_v14)) (X d (Proc.devRef .tc main_v15)) hF (hb d) _ _ O W hO).trans (wp_mono frame _ _ fun _ => obl_post)

/-! ## The strips are the whole arrays -/

def tileEquiv : Fin ((K (F := F)).nCore 0) × Fin ((K (F := F)).nSub 0) ≃ Fin 32 where
  toFun p := tileNo (F := F) p.1 p.2
  invFun w := (⟨w.val % 2, Nat.mod_lt _ (by decide)⟩, ⟨w.val / 2, show w.val / 2 < 16 by have := w.isLt; omega⟩)
  left_inv p := by
    have h : p.1.val < 2 := p.1.isLt
    refine Prod.ext (Fin.ext ?_) (Fin.ext ?_)
    · show (p.2.val * 2 + p.1.val) % 2 = p.1.val; omega
    · show (p.2.val * 2 + p.1.val) / 2 = p.2.val; omega
  right_inv w := Fin.ext (by show w.val / 2 * 2 + w.val % 2 = w.val; omega)

theorem strips_disjoint : ∀ i ∈ (Finset.univ : Finset (Fin 32)), ∀ j ∈ (Finset.univ : Finset (Fin 32)), i ≠ j → Disjoint (stripSet i) (stripSet j) :=
  fun _ _ _ _ h => Rect.part_disjoint div32 h
theorem strips_cover : (Finset.univ : Finset (Fin 32)).biUnion stripSet = Finset.univ := Rect.biUnion_part div32

theorem sPts_strips (d : Dev nD) (f : Buf (Elt F) (sLoc d)) :
    (sLoc d ↦{fullShare} f : sProp 𝕄) = bigSep Finset.univ fun w : Fin 32 => sLoc d ↦[stripSet w]{fullShare} f := by
  rw [← pointsTo_biUnion Finset.univ (ℓ := sLoc d) stripSet strips_disjoint, strips_cover]; try rfl
theorem bPts_strips (d : Dev nD) (f : Buf (Elt F) (bLoc d)) :
    (bLoc d ↦{fullShare} f : sProp 𝕄) = bigSep Finset.univ fun w : Fin 32 => bLoc d ↦[stripSet w]{fullShare} f := by
  rw [← pointsTo_biUnion Finset.univ (ℓ := bLoc d) stripSet strips_disjoint, strips_cover]; try rfl
theorem oPts_strips (d : Dev nD) (f : Buf (Elt F) (oLoc d)) :
    (oLoc d ↦{fullShare} f : sProp 𝕄) = bigSep Finset.univ fun w : Fin 32 => oLoc d ↦[stripSet w]{fullShare} f := by
  rw [← pointsTo_biUnion Finset.univ (ℓ := oLoc d) stripSet strips_disjoint, strips_cover]; try rfl
theorem mxPts_shares (d : Dev nD) (f : Buf (Elt F) (mxLoc d)) :
    (mxLoc d ↦{fullShare} f : sProp 𝕄) = bigSep Finset.univ fun w : Fin 32 => mxLoc d ↦{leaf 5 fullShare w} f :=
  pointsTo_leaves Finset.univ f 5 fullShare
theorem dnPts_shares (d : Dev nD) (f : Buf (Elt F) (dnLoc d)) :
    (dnLoc d ↦{fullShare} f : sProp 𝕄) = bigSep Finset.univ fun w : Fin 32 => dnLoc d ↦{leaf 5 fullShare w} f :=
  pointsTo_leaves Finset.univ f 5 fullShare

theorem deal (o : (d : Dev nD) → Buf (Elt F) (oLoc d)) (d : Dev nD) :
    (bigSep Finset.univ fun c : Fin ((K (F := F)).nCore 0) => bigSep Finset.univ fun i => part X o d (tileNo (F := F) c i))
      = iprop((sLoc d ↦{fullShare} X d (Proc.devRef .tc main_v12)) ∗ (bLoc d ↦{fullShare} X d (Proc.devRef .tc main_v13))
        ∗ (mxLoc d ↦{fullShare} X d (Proc.devRef .tc main_v14)) ∗ (dnLoc d ↦{fullShare} X d (Proc.devRef .tc main_v15))
        ∗ (oLoc d ↦{fullShare} o d)) := by
  rw [sPts_strips, bPts_strips, mxPts_shares, dnPts_shares, oPts_strips, ← bigSep_sep', ← bigSep_sep', ← bigSep_sep', ← bigSep_sep',
    ← bigSep_univ_prod (fun p : Fin ((K (F := F)).nCore 0) × Fin ((K (F := F)).nSub 0) => part X o d (tileNo (F := F) p.1 p.2)),
    bigSep_univ_equiv (tileEquiv (F := F)) (fun w : Fin 32 => iprop((sLoc d ↦[stripSet w]{fullShare} X d (Proc.devRef .tc main_v12)) ∗ (bLoc d ↦[stripSet w]{fullShare} X d (Proc.devRef .tc main_v13))
        ∗ (mxLoc d ↦{leaf 5 fullShare w} X d (Proc.devRef .tc main_v14)) ∗ (dnLoc d ↦{leaf 5 fullShare w} X d (Proc.devRef .tc main_v15))
        ∗ (oLoc d ↦[stripSet w]{fullShare} o d)))]
  rfl

/-- The five arrays out of all the unscoped ones. -/
def five : Finset (DevRef τ sig) :=
  {Proc.devRef .tc main_v12, Proc.devRef .tc main_v13, Proc.devRef .tc main_v14, Proc.devRef .tc main_v15, Proc.devRef .tc main_v16}

theorem five_sub : five ⊆ Pipeline.ucRefs τ sig := by decide

theorem held_five (d : Dev nD) (V : Valuation τ sig (Elt F)) :
    (StableHlo.held (d.tc : Thread nD τ) five V : sProp 𝕄)
      = iprop((sLoc d ↦{fullShare} V (Proc.devRef .tc main_v12)) ∗ (bLoc d ↦{fullShare} V (Proc.devRef .tc main_v13))
        ∗ (mxLoc d ↦{fullShare} V (Proc.devRef .tc main_v14)) ∗ (dnLoc d ↦{fullShare} V (Proc.devRef .tc main_v15))
        ∗ (oLoc d ↦{fullShare} V (Proc.devRef .tc main_v16))) := by
  unfold StableHlo.held five
  rw [SparseCore.bigSep_insert' (by decide), SparseCore.bigSep_insert' (by decide), SparseCore.bigSep_insert' (by decide),
    SparseCore.bigSep_insert' (by decide), bigSep_singleton]

/-- The arrays once the tiles are done. -/
def weighed (d : Dev nD) : Valuation τ sig (Elt F) := Function.update (X d) (Proc.devRef .tc main_v16) (weights X d)

theorem held_before (d : Dev nD) :
    (StableHlo.held (d.tc : Thread nD τ) (Pipeline.ucRefs τ sig) (X d) : sProp 𝕄)
      = iprop((bigSep Finset.univ fun c : Fin ((K (F := F)).nCore 0) => (P X).st 0 d c)
        ∗ StableHlo.held (d.tc : Thread nD τ) (Pipeline.ucRefs τ sig \ five) (X d)) := by
  rw [StableHlo.held_sub_split _ five_sub, held_five]
  exact congrArg (fun Q : sProp 𝕄 => iprop(Q ∗ StableHlo.held (d.tc : Thread nD τ) (Pipeline.ucRefs τ sig \ five) (X d))) (deal X (before X) d).symm

theorem held_after (d : Dev nD) :
    (StableHlo.held (d.tc : Thread nD τ) (Pipeline.ucRefs τ sig) (weighed X d) : sProp 𝕄)
      = iprop((bigSep Finset.univ fun c : Fin ((K (F := F)).nCore 0) => (P X).dn 0 d c)
        ∗ StableHlo.held (d.tc : Thread nD τ) (Pipeline.ucRefs τ sig \ five) (X d)) := by
  have hne : ∀ b : DevRef τ sig, b ≠ Proc.devRef .tc main_v16 → weighed X d b = X d b := fun b h => Function.update_of_ne h _ _
  rw [StableHlo.held_sub_split _ five_sub, held_five, hne _ (by decide), hne _ (by decide), hne _ (by decide), hne _ (by decide),
    show weighed X d (Proc.devRef .tc main_v16) = weights X d from Function.update_self _ _ _,
    StableHlo.held_congr (V := weighed X d) (V' := X d) (S := Pipeline.ucRefs τ sig \ five) _ fun b hb => hne b fun e => (Finset.mem_sdiff.mp hb).2 (by rw [e]; decide)]
  exact congrArg (fun Q : sProp 𝕄 => iprop(Q ∗ StableHlo.held (d.tc : Thread nD τ) (Pipeline.ucRefs τ sig \ five) (X d))) (deal X (weights X) d).symm

end Deal

end Cert.Proof.Pool

end
-- ==== Proof.Run.lean ====
/-
  The whole run: @main on the TensorCore, and what every array holds when all the threads have stopped.
-/
module

public import proofs.«01_k».proof.Proof.Launch

@[expose] public section

noncomputable section

namespace Cert.Proof.Pool

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The contents from stretch to stretch -/

section Contents
variable (m : (ℓ : Loc nD τ sig) → Buf (Elt F) ℓ)

def V0 (d : Dev nD) : Valuation τ sig (Elt F) := fun b => m (d, b)
def V1 (d : Dev nD) : Valuation τ sig (Elt F) := StableHlo.after ops1 (V0 m d)
def Vin (d : Dev nD) : Valu F d := fun b => V1 m d (Proc.devRef .tc b)
def Ow (d : Dev nD) : CellTallies nD τ sig (HIx 1) := (K (F := F)).Otc d 0
def Rw (d : Dev nD) : Set (SemLoc sig × HIx 1) := {p | (K (F := F)).lev (SparseCore.T d, p.1) p.2 ≤ 0}

/-- The arrays once the TensorCore's call has returned. -/
def Vout (d : Dev nD) : Valu F d := afterCall (Vin m) (Ow (F := F)) (Rw (F := F)) d
def V2 (d : Dev nD) : Valuation τ sig (Elt F) :=
  Function.update (Function.update (Function.update (Function.update (V1 m d)
    (Proc.devRef .tc main_v10_0) (Vout m d main_v10_0)) (Proc.devRef .tc main_v10_1) (Vout m d main_v10_1))
    (Proc.devRef .tc main_v10_2) (Vout m d main_v10_2)) (Proc.devRef .tc main_v10_3) (Vout m d main_v10_3)
def V3 (d : Dev nD) : Valuation τ sig (Elt F) := StableHlo.after ops2 (V2 m d)
def V4 (d : Dev nD) : Valuation τ sig (Elt F) := weighed (V3 m) d
def V5 (d : Dev nD) : Valuation τ sig (Elt F) := StableHlo.after ops3 (V4 m d)

theorem V2_eq (d : Dev nD) (b : Ref sig .tc) : V2 m d (Proc.devRef .tc b) = Vout m d b := by
  have inj {r : Ref sig .tc} (h : b ≠ r) : (Proc.devRef .tc b : DevRef τ sig) ≠ Proc.devRef .tc r := fun e => h (Proc.devRef_injective _ e)
  unfold V2
  by_cases h3 : b = main_v10_3
  · subst h3; rw [Function.update_self]
  rw [Function.update_of_ne (inj h3)]
  by_cases h2 : b = main_v10_2
  · subst h2; rw [Function.update_self]
  rw [Function.update_of_ne (inj h2)]
  by_cases h1 : b = main_v10_1
  · subst h1; rw [Function.update_self]
  rw [Function.update_of_ne (inj h1)]
  by_cases h0 : b = main_v10_0
  · subst h0; rw [Function.update_self]
  rw [Function.update_of_ne (inj h0)]
  exact (afterCall_of_ne (Vin m) Ow (Rw (F := F)) d b h0 h1 h2 h3).symm

theorem bufs_in (d : Dev nD) : (unscopedBufs d (Vin m d) : sProp 𝕄) = StableHlo.held (d.tc : Thread nD τ) (Pipeline.ucRefs τ sig) (V1 m d) :=
  Pipeline.unscopedBufs_held d (V1 m d)
theorem bufs_out (d : Dev nD) : (unscopedBufs d (Vout m d) : sProp 𝕄) = StableHlo.held (d.tc : Thread nD τ) (Pipeline.ucRefs τ sig) (V2 m d) := by
  rw [← Pipeline.unscopedBufs_held d (V2 m d)]
  exact congrArg (unscopedBufs d) (funext fun b => (V2_eq m d b).symm)
theorem bufs_launch (d : Dev nD) : (unscopedBufs d (fun b => m ((SparseCore.T d).loc b)) : sProp 𝕄)
    = StableHlo.held (d.tc : Thread nD τ) (Pipeline.ucRefs τ sig) (V0 m d) :=
  Pipeline.unscopedBufs_held d (V0 m d)

end Contents

/-! ## The launch element of the ghost state -/

/-- What the TensorCore is handed of the pipeline's rounds. -/
def G (d : Dev nD) : sProp 𝕄 :=
  iprop(Pipeline.cellsGhost (Pipeline.pin (pcfgs (F := F)) adm) EP 0 d ∗ Pipeline.toksInit (Pipeline.pin (pcfgs (F := F)) adm) EP 0 d)

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem bigSep_emp' {I : Type} (s : Finset I) : (bigSep s fun _ => iprop(emp)) = (iprop(emp) : sProp 𝕄) := bigSep_emp_const s

theorem own_pipe (a : UK) : (BI.own ((embR : Emb (UK × Counters) 𝕄) (a, 1)) : sProp 𝕄) ⊢ iprop(BI.own ((EP : Emb UK 𝕄) a) ∗ emp) := by
  unfold EP
  iintro H
  ihave H := (own_pair_emb (embR : Emb (UK × Counters) 𝕄) a 1) $$ H
  icases H with ⟨H, -⟩
  isplitl [H]; · iexact H
  iempintro

theorem hu₀ (X : Dev nD → Valuation τ sig (Elt F)) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P X).x q thr) := by
  unfold u₀
  rw [show (bigSep Finset.univ fun thr : Thread nD τ => bigSep Finset.univ fun q : Fin 1 => (P X).x q thr) = bigSep Finset.univ fun _ => iprop(emp) from
    bigSep_congr fun _ _ => bigSep_univ_of_subsingleton (0 : Fin 1), bigSep_emp']
  have hG : iprop((bigSep Finset.univ fun c : Dev nD => bigSep Finset.univ fun p : Fin 1 => Pipeline.cellsGhost (Pipeline.pin (pcfgs (F := F)) adm) EP p c)
      ∗ (bigSep Finset.univ fun c : Dev nD => bigSep Finset.univ fun p : Fin 1 => (Pipeline.toksInit (Pipeline.pin (pcfgs (F := F)) adm) EP p c : sProp 𝕄)))
      ⊢ (bigSep Finset.univ fun d : Dev nD => G (F := F) d) := by
    unfold G
    rw [bigSep_sep']
    refine Entails.of_eq ?_
    congr 1 <;> exact bigSep_congr fun _ _ => bigSep_univ_of_subsingleton (0 : Fin 1)
  iintro Hu
  ihave H := (ownU_pair (initOf (K (F := F)).hsCells (K (F := F)).hsToks) _) $$ Hu
  icases H with ⟨HH, HP⟩
  ihave H := (own_pipe _) $$ HP
  icases H with ⟨HP, -⟩
  imod (Pipeline.fund_ghost (Pipeline.pin (pcfgs (F := F)) adm) EP cellOf_inj) $$ HP with HG
  imodintro
  isplitl [HH]; · iexact HH
  isplitl [HG]; · iapply hG; iexact HG
  iempintro

/-! ## @main on the TensorCore -/

section Main
variable (m : (ℓ : Loc nD τ sig) → Buf (Elt F) ℓ) (ρ : Dev nD → PrngReg)

theorem Ow_none (c : Dev nD) (g : GSem nD τ sig) : Ow (F := F) c g none = 0 := by
  by_contra h
  have := SparseCore.Cfg.lev_of_Otc_pos (K := K (F := F)) (d := c) (n := 0) (g := g) (ι := none) (Nat.pos_of_ne_zero h)
  simp at this

/-- The call's holdings before and after it. -/
abbrev preCall (d : Dev nD) : sProp 𝕄 := iprop(unscopedBufs d (Vin m d)
  ∗ ∃ W : Waits sig (HIx 1), ⌜(↑W : Set (SemLoc sig × HIx 1)) ⊆ Rw (F := F) d⌝ ∗ owes (d : Thread nD τ) (Ow (F := F) d) W)
abbrev postCall (d : Dev nD) : sProp 𝕄 := iprop(unscopedBufs d (Vout m d)
  ∗ ∃ W : Waits sig (HIx 1), ⌜(↑W : Set (SemLoc sig × HIx 1)) ⊆ Rw (F := F) d ∪ cfg0.waitPairs none⌝ ∗ owes (d : Thread nD τ) (Ow (F := F) d) W)

/-- The TensorCore's call under the pipeline's body table. -/
theorem call_inner [∀ e, Nonempty (Elt F e)]
    (hw : ∀ c t, k0_chk1 (lo0 (b7 c (Vin m c) t)) (hi0 (b7 c (Vin m c) t)) (lo1 (b7 c (Vin m c) t)) (hi1 (b7 c (Vin m c) t)))
    (d : Dev nD) (Φ : PUnit → sProp 𝕄) :
    iprop((iprop(boundary (d.tc : Thread nD τ) ∗ postCall m d) -∗ wp frame (wpE (D (F := F)) 𝒱 (d.tc : Thread nD τ) none) Set.univ (.ret ⟨⟩) Φ)
        ∗ boundary (d.tc : Thread nD τ) ∗ preCall m d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) fun u => .ret u) Φ :=
  Pipeline.RegionSeg.wp (pcfgs (F := F)) adm (pdats (Vin m) (Ow (F := F)) (Rw (F := F))) none cellOf_inj EP defs₀ 𝒱₀
    (K (F := F)).L (K (F := F)).lev (reg (Vin m) (Ow (F := F)) (Rw (F := F)) Ow_none hw) d none (fun _ h => nomatch h) (fun u => .ret u) Φ

theorem call_lift (d : Dev nD) (Φ : PUnit → sProp 𝕄) :
    wp frame (wpE (D (F := F)) 𝒱 (d.tc : Thread nD τ) none) Set.univ (.op (.customCall (Pipeline.entry 0) ()) fun u => .ret u) Φ
      ⊢ wp frame (wpE ((K (F := F)).defs (D (F := F))) 𝒱 (SparseCore.T d) none) Set.univ
          (Prog.lift (.customCall (SparseCore.inner (Pipeline.entry 0)) ())) Φ :=
  (K (F := F)).wp_liftProg (D (F := F)) 𝒱 (SparseCore.T d) Set.univ none (.op (.customCall (Pipeline.entry 0) ()) fun u => .ret u) Φ

/-- The TensorCore's call under the whole program's body table. -/
theorem call_tc [∀ e, Nonempty (Elt F e)]
    (hw : ∀ c t, k0_chk1 (lo0 (b7 c (Vin m c) t)) (hi0 (b7 c (Vin m c) t)) (lo1 (b7 c (Vin m c) t)) (hi1 (b7 c (Vin m c) t)))
    (d : Dev nD) (Φ : PUnit → sProp 𝕄) :
    iprop((iprop(boundary (d.tc : Thread nD τ) ∗ postCall m d) -∗ Φ ⟨⟩)
        ∗ boundary (d.tc : Thread nD τ) ∗ preCall m d ∗ levAts (K (F := F)).L (K (F := F)).lev ∗ G d)
      ⊢ wp frame (wpE ((K (F := F)).defs (D (F := F))) 𝒱 (SparseCore.T d) none) Set.univ
          (Prog.lift (.customCall (SparseCore.inner (Pipeline.entry 0)) ())) Φ := by
  refine BIBase.Entails.trans ?_ (call_lift d Φ)
  refine BIBase.Entails.trans ?_ (call_inner m hw d Φ)
  unfold G
  iintro ⟨Hk, Hbd, Hpre, Hla, Hg, Ht⟩
  isplitl [Hk]
  · iintro H; rw [wp_ret]; imodintro; iapply Hk; iexact H
  isplitl [Hbd]; · iexact Hbd
  isplitl [Hpre]; · iexact Hpre
  isplitl [Hla]; · iexact Hla
  isplitl [Hg] <;> iassumption

/-- What is left of @main: every unscoped array, at its last contents. -/
abbrev FIN (d : Dev nD) : sProp 𝕄 := StableHlo.held (d.tc : Thread nD τ) (Pipeline.ucRefs τ sig) (V5 m d)

/-- The handshake state before the tiles' call, its debts apart. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))
theorem tcSt_zero (d : Dev nD) : ((K (F := F)).tcSt EH d 0 : sProp 𝕄)
    = iprop((∃ W, ⌜(K (F := F)).WBelow (SparseCore.T d) W 0⌝ ∗ owes (SparseCore.T d) (Ow (F := F) d) W) ∗ tcRest d) := rfl

theorem hmain [∀ e, Nonempty (Elt F e)]
    (hw : ∀ c t, k0_chk1 (lo0 (b7 c (Vin m c) t)) (hi0 (b7 c (Vin m c) t)) (lo1 (b7 c (Vin m c) t)) (hi1 (b7 c (Vin m c) t)))
    (κ : GSem nD τ sig → ℕ) (d : Dev nD) :
    iprop((K (F := F)).ctx EH (P (V3 m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [bufs_launch, main_eq]
  iintro ⟨#Hctx, Hst, ⟨Hb, Hbufs, Hts, -⟩, HG⟩
  iapply (StableHlo.wp_seq _ none Set.univ d (Pipeline.ucRefs τ sig) _ ops1 sub1 fresh1 (V0 m d)) $$ [Hb Hbufs]
  · isplitl [Hb] <;> iassumption
  iintro ⟨Hb, Hbufs⟩
  rw [wp_bind]
  ihave Hst := (Entails.of_eq (tcSt_zero d)) $$ Hst
  icases Hst with ⟨⟨%W, %hW, HO⟩, Hst⟩
  ihave Hla := (SparseCore.Cfg.ctx_levAts (K := K (F := F)) κ) $$ Hctx
  iapply (call_tc m hw d) $$ [Hb Hbufs HO Hla HG Hst Hts]
  isplitr [Hb Hbufs HO Hla HG]
  rotate_left
  · isplitl [Hb]; · iexact Hb
    isplitl [Hbufs HO]
    · isplitl [Hbufs]; · iapply (Entails.of_eq (bufs_in m d).symm); iexact Hbufs
      iexists W; isplitr; · ipureintro; exact fun p hp => hW p hp
      iexact HO
    isplitl [Hla]; · iexact Hla
    iexact HG
  iintro ⟨Hb, Hbufs, %W', %hW', HO⟩
  ihave Hbufs := (Entails.of_eq (bufs_out m d)) $$ Hbufs
  iapply (StableHlo.wp_seq _ none Set.univ d (Pipeline.ucRefs τ sig) _ ops2 sub2 fresh2 (V2 m d)) $$ [Hb Hbufs]
  · isplitl [Hb] <;> iassumption
  rw [show StableHlo.after ops2 (V2 m d) = V3 m d from rfl]
  iintro ⟨Hb, Hbufs⟩
  ihave Hbufs := (Entails.of_eq (held_before (V3 m) d)) $$ Hbufs
  icases Hbufs with ⟨Hfive, Hrest⟩
  rw [wp_bind]
  iapply ((K (F := F)).wp_run (D (F := F)) 𝒱 (EH := EH) (P := P (V3 m)) κ d 0) $$ [Hst HO Hfive Hrest Hb Hts]
  isplitr; · iexact Hctx
  isplitl [Hst HO]
  · iapply (Entails.of_eq (tcSt_zero d).symm)
    isplitl [HO]
    · iexists W'; isplitr
      · ipureintro; intro p hp
        rcases hW' hp with h | ⟨w, s, h⟩
        · exact h
        · rw [h]; exact Nat.zero_le _
      · iexact HO
    iexact Hst
  isplitl [Hfive]; · iexact Hfive
  iintro ⟨Hst, Hdn⟩
  ihave Hbufs := (Entails.of_eq (show _ = (StableHlo.held (d.tc : Thread nD τ) (Pipeline.ucRefs τ sig) (V4 m d) : sProp 𝕄) from (held_after (V3 m) d).symm)) $$ [Hdn Hrest]
  · isplitl [Hdn] <;> iassumption
  iapply (StableHlo.wp_seq _ none Set.univ d (Pipeline.ucRefs τ sig) _ ops3 sub3 fresh3 (V4 m d)) $$ [Hb Hbufs]
  · isplitl [Hb] <;> iassumption
  rw [show StableHlo.after ops3 (V4 m d) = V5 m d from rfl]
  iintro ⟨Hb, Hbufs⟩
  rw [wp_pure]
  imodintro
  isplitl [Hst]; · iexact Hst
  isplitl [Hbufs]; · iexact Hbufs
  isplitl [Hb] <;> iassumption

/-! ## The run -/

def fq (d : Dev nD) (s' : Phys nD τ sig (Elt F)) : Prop := ∀ b ∈ Pipeline.ucRefs τ sig, s'.mem.mem (d, b) = V5 m d b

theorem hfin (d : Dev nD) (s' : Phys nD τ sig (Elt F)) : iprop(FIN m d ∗ SI s') ⊢ (⌜fq m d s'⌝ : sProp 𝕄) := by
  have h (b : DevRef τ sig) (hb : b ∈ Pipeline.ucRefs τ sig) : iprop(FIN m d ∗ SI s') ⊢ (⌜s'.mem.mem (d, b) = V5 m d b⌝ : sProp 𝕄) := by
    unfold FIN StableHlo.held
    iintro ⟨H, HSI⟩
    have he : (bigSep (Pipeline.ucRefs τ sig) fun b : DevRef τ sig => (((d.tc : Thread nD τ).1, b) ↦{fullShare} V5 m d b : sProp 𝕄))
        ⊢ iprop(((d.tc : Thread nD τ).1, b) ↦{fullShare} V5 m d b) := bigSep_elim hb
    ihave Hp := he $$ H
    ihave Hq := (SI_pointsTo_agree (st := s') (ℓ := ((d.tc : Thread nD τ).1, b)) (I := Finset.univ) (q := fullShare) (f := V5 m d b)) $$ [HSI Hp]
    · isplitl [HSI] <;> iassumption
    icases Hq with %e
    ipureintro; exact funext fun i => e i (Finset.mem_univ i)
  exact fun a ha b hb => h b hb a ha

def QC : PUnit × MemSt nD τ sig (Elt F) → Prop := fun r => (∀ d : Dev nD, ∀ b ∈ Pipeline.ucRefs τ sig, r.2.mem (d, b) = V5 m d b) ∧ r.2.sem = fun _ => 0

/-- From any memory whose segment numbers keep the call's checks, every run stops with every array at its last contents. -/
theorem run_main [∀ e, Nonempty (Elt F e)]
    (hw : ∀ c t, k0_chk1 (lo0 (b7 c (Vin m c) t)) (hi0 (b7 c (Vin m c) t)) (lo1 (b7 c (Vin m c) t)) (hi1 (b7 c (Vin m c) t)))
    (hb : ∀ d (j : S100352.Idx), (V3 m d (Proc.devRef .tc main_v13) j : BitVec 32).toNat < 256) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (V3 m)) (A := ∅) facts v₀
    (fun q hq => match q with | 0 => nomatch hq)
    (fun q _ => match q with | 0 => tileObl (V3 m) facts hb)
    (fun q _ => match q with | 0 => SparseCore.Cfg.VecSplit.of_plain (vecSplit (V3 m)))
    m ρ main (fun d => G d) (FIN m) (u₀ (F := F)) (sep_elim_left.trans (hu₀ (V3 m))) (hmain m ρ hw) (fq m) (hfin m) (QC m) (fun _ h hz => ⟨h, hz⟩)

end Main

end Cert.Proof.Pool

end
-- ==== Proof.Words.lean ====
/-
  The segment numbers as words: where a window begins, and what the two preconditions say of the arguments.
-/
module

public import proofs.«01_k».proof.Proof.Run
public import proofs.«01_k».proof.Proof.Gen.Pre_in_range
public import proofs.«01_k».proof.Proof.Gen.Pre_sorted_finite
public import Idealize.ShloMosaic.Lib.ReduceAll
public import Idealize.ShloMosaic.Lib.IdealHost
public import Idealize.ShloMosaic.Lib.Pointwise

@[expose] public section

noncomputable section

namespace Cert.Proof.Pool

open Cert.KernelIdeal Cert.KernelIdeal.Gen

open Idealize.ShloMosaic
open Idealize.ShloMosaic.TcCoe

variable {F : FTy → Type} [FloatOps F]

/-! ## The window of a segment number -/

theorem base_fin : ∀ n : Fin 256, base (BitVec.ofNat 32 n.val) = BitVec.ofNat 32 (min (n.val / 8 * 8) 192) := by decide +kernel

theorem base_toNat (v : BitVec 32) (h : v.toNat < 256) : (base v).toNat = min (v.toNat / 8 * 8) 192 := by
  have e := base_fin ⟨v.toNat, h⟩
  rw [show BitVec.ofNat 32 (⟨v.toNat, h⟩ : Fin 256).val = v from BitVec.eq_of_toNat_eq (by rw [BitVec.toNat_ofNat]; exact Nat.mod_eq_of_lt v.isLt)] at e
  rw [e, BitVec.toNat_ofNat]
  exact Nat.mod_eq_of_lt (by show min (v.toNat / 8 * 8) 192 < _; omega)

theorem off1_eq (v : BitVec 32) : k0_off1 v = ![(base v).toNat, 0] := rfl
theorem off2_eq (v : BitVec 32) : k0_off2 v = ![(base v).toNat, 0] := rfl
theorem off3_eq (v : BitVec 32) : k0_off3 v = ![(base v).toNat, 0] := rfl
theorem off4_eq (v : BitVec 32) : k0_off4 v = ![(base v).toNat, 0] := rfl
theorem off5_eq (v : BitVec 32) : k0_off5 v = ![(base v).toNat, 0] := rfl
theorem off6_eq (v : BitVec 32) : k0_off6 v = ![(base v).toNat, 0] := rfl

/-- Windows of segment numbers in range fit. -/
theorem chk1_of_lt (v9 v10 v11 v12 : BitVec 32) (h9 : v9.toNat < 256) (h11 : v11.toNat < 256) : k0_chk1 v9 v10 v11 v12 := by
  have b9 := base_toNat v9 h9
  have b11 := base_toNat v11 h11
  unfold k0_chk1
  rw [off1_eq, off2_eq, off3_eq, off4_eq, off5_eq, off6_eq]
  refine ⟨fun _ a => ?_, fun _ a => ?_, fun _ a => ?_, fun _ a => ?_, fun _ a => ?_, fun _ a => ?_⟩ <;>
    · fin_cases a
      · show (base _).toNat + 64 ≤ 256; omega
      · show 0 + _ ≤ _; decide

/-! ## The preconditions -/

theorem ofBool_one (p : Bool) : (BitVec.ofBool p = 1#1) ↔ p = true := by cases p <;> decide

theorem range_word (v : BitVec 32) (e : IntOp.andi (IntOp.cmpi .sge v 0#32) (IntOp.cmpi .slt v 256#32) = 1#1) : v.toNat < 256 := by
  obtain ⟨e1, e2⟩ := IntOp.andi_eq_one.1 e
  simp only [IntOp.cmpi, ofBool_one, BitVec.sle_eq_decide, BitVec.slt_eq_decide,
    decide_eq_true_eq, BitVec.toInt_eq_toNat_cond, BitVec.toNat_ofNat, Nat.reducePow, Nat.reduceMod] at e1 e2
  omega

theorem sle_word (v w : BitVec 32) (hv : v.toNat < 256) (hw : w.toNat < 256) (e : IntOp.cmpi .sle v w = 1#1) : v.toNat ≤ w.toNat := by
  simp only [IntOp.cmpi, ofBool_one, BitVec.sle_eq_decide,
    decide_eq_true_eq, BitVec.toInt_eq_toNat_cond] at e
  omega

instance : Subsingleton (⟨0, ![]⟩ : Shape).Idx := ⟨fun a b => funext fun i => i.elim0⟩

theorem in_range_ids (x0 : FVec F S100000x128 .f32) (x1 : FVec F S256x128 .f32) (x2 : FVec F S256x64 .f32) (x3 : FVec F S64 .f32) (x4 : FVec F S64x1 .f32) (x5 : FVec F S1 .f32) (x6 : IVec S100000 32)
    (h : Cert.Pre_in_range.fn (F := F) x0 x1 x2 x3 x4 x5 x6 = fun _ => 1#1) (j : S100000.Idx) : (x6 j).toNat < 256 := by
  have e := congrFun h (fun a => a.elim0)
  simp only [Cert.Pre_in_range.fn] at e
  have e := Host.reduce_andi_all _ _ _ _ _ e j
  simp only [andi, cmpi, broadcastInDim, constantI] at e
  exact range_word _ e

/-! ## What the second precondition says -/

/-- A value the precondition calls finite: its magnitude is under the top. -/
abbrev Fin1 (v : Ideal .f32) : Prop := v ≠ ⊤ ∧ v ≠ ⊥

theorem top_bits : Ideal.ofBits .f32 0x7F800000#32 = ⊤ := by simp [Ideal.ofBits, Ideal.ieee]
theorem bot_bits : Ideal.ofBits .f32 0xFF800000#32 = ⊥ := by simp [Ideal.ofBits, Ideal.ieee]

theorem fin_of_cmp (v : Ideal .f32) (e : FloatOps.cmpf .olt (FloatOps.hostAbsf v) (Ideal.ofBits .f32 0x7F800000#32 : Ideal .f32) = 1#1) : Fin1 v := by
  rw [Ideal.cmpf_def, top_bits] at e
  change Ideal.cmp .olt (max v (-v) : EReal) ⊤ = 1#1 at e
  have h : (max v (-v) : EReal) < ⊤ := by
    by_contra hn
    simp [Ideal.cmp, hn] at e
  constructor
  · rintro rfl; simp at h
  · rintro rfl; simp at h

structure Good (x0 : FVec Ideal S100000x128 .f32) (x1 : FVec Ideal S256x128 .f32) (x2 : FVec Ideal S256x64 .f32) (x3 : FVec Ideal S64 .f32) (x4 : FVec Ideal S64x1 .f32) (x5 : FVec Ideal S1 .f32) (x6 : IVec S100000 32) : Prop where
  ids : ∀ j, (x6 j).toNat < 256
  sorted : ∀ (i : ℕ) (h : i < 99999), (x6 (ix1 ⟨i, by omega⟩)).toNat ≤ (x6 (ix1 ⟨i + 1, by omega⟩)).toNat
  f0 : ∀ j, Fin1 (x0 j)
  f1 : ∀ j, Fin1 (x1 j)
  f2 : ∀ j, Fin1 (x2 j)
  f3 : ∀ j, Fin1 (x3 j)
  f4 : ∀ j, Fin1 (x4 j)
  f5 : ∀ j, Fin1 (x5 j)

theorem good_of_pre (x0 : FVec Ideal S100000x128 .f32) (x1 : FVec Ideal S256x128 .f32) (x2 : FVec Ideal S256x64 .f32) (x3 : FVec Ideal S64 .f32) (x4 : FVec Ideal S64x1 .f32) (x5 : FVec Ideal S1 .f32) (x6 : IVec S100000 32)
    (h : Cert.Pre_sorted_finite.fn (F := Ideal) x0 x1 x2 x3 x4 x5 x6 = fun _ => 1#1) : Good x0 x1 x2 x3 x4 x5 x6 := by
  have e := congrFun h (fun a => a.elim0)
  simp only [Cert.Pre_sorted_finite.fn, Cert.Pre_sorted_finite.fn_part1, Cert.Pre_sorted_finite.fn_part2] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e, e1⟩ := IntOp.andi_eq_one.1 e
  obtain ⟨e, e0⟩ := IntOp.andi_eq_one.1 e
  obtain ⟨ei, es⟩ := IntOp.andi_eq_one.1 e
  have hi : ∀ j, (x6 j).toNat < 256 := fun j => by
    have e := Host.reduce_andi_all _ _ _ _ _ ei j
    simp only [andi, cmpi, broadcastInDim, constantI] at e
    exact range_word _ e
  refine ⟨hi, fun i h => ?_, fun j => ?_, fun j => ?_, fun j => ?_, fun j => ?_, fun j => ?_, fun j => ?_⟩
  · have e := Host.reduce_andi_all _ _ _ _ _ es (ix1 ⟨i, h⟩)
    simp only [cmpi] at e
    have q1 : extractStridedSlice Cert.Pre_sorted_finite.S99999 ![0] x6 Cert.Pre_sorted_finite.Gen.slices_S100000_S99999_0 (ix1 ⟨i, h⟩) = x6 (ix1 ⟨i, by omega⟩) := by pointwise
    have q2 : extractStridedSlice Cert.Pre_sorted_finite.S99999 ![1] x6 Cert.Pre_sorted_finite.Gen.slices_S100000_S99999_1 (ix1 ⟨i, h⟩) = x6 (ix1 ⟨1 + i, by omega⟩) := by pointwise
    rw [q1, q2] at e
    simp only [Nat.add_comm i 1]
    exact sle_word _ _ (hi _) (hi _) e
  · exact fin_of_cmp _ (Host.reduce_andi_all _ _ _ _ _ e0 j)
  · exact fin_of_cmp _ (Host.reduce_andi_all _ _ _ _ _ e1 j)
  · exact fin_of_cmp _ (Host.reduce_andi_all _ _ _ _ _ e2 j)
  · exact fin_of_cmp _ (Host.reduce_andi_all _ _ _ _ _ e3 j)
  · exact fin_of_cmp _ (Host.reduce_andi_all _ _ _ _ _ e4 j)
  · exact fin_of_cmp _ (Host.reduce_andi_all _ _ _ _ _ e5 j)

end Cert.Proof.Pool

end
-- ==== Proof.Frames.lean ====
/-
  The frames: the arguments' segment numbers are in range, so the kernel's windows fit and its gathers stay inside; and the
  arguments come back as they were.
-/
module

public import proofs.«01_k».proof.Proof.Words
public import proofs.«01_k».proof.Proof.Gen.ReferenceIdeal.Run
public import Idealize.ShloMosaic.Lib.Tactic.ProgEq
public import Idealize.ShloMosaic.Lib.Pointwise
public import Idealize.ShloMosaic.Lib.Pipeline.ValueKit
public import proofs.«01_k».proof.Defs
public import proofs.«01_k».proof.Proof.Gen.Kernel
@[expose] public section

noncomputable section

namespace Cert.Proof.Pool

open Cert.KernelIdeal Cert.KernelIdeal.Gen

open Idealize.ShloMosaic
open Idealize.ShloMosaic.TcCoe
open Idealize.ShloMosaic.StableHlo
open scoped Idealize.ShloMosaic.ProgEq

variable {F : FTy → Type} [FloatOps F]
variable (m : (ℓ : Loc nD τ sig) → Buf (Elt F) ℓ)

/-- Each half block's first and last segment number. -/
def ends (x : IVec S100000 32) : IVec S5x2x2 32 :=
  concatenate S5x2x2 2
    [⟨S5x2x1, broadcastInDim S5x2x1 ![0, 1] bcast_S5x2_S5x2x1_0_1 (shapeCast S5x2
        (extractStridedSlice S5x2x1 ![0, 0, 0] (shapeCast S5x2x10000 x shapeCasts_S100000_S5x2x10000) slices_S5x2x10000_S5x2x1_0_0_0) shapeCasts_S5x2x1_S5x2)⟩,
     ⟨S5x2x1, broadcastInDim S5x2x1 ![0, 1] bcast_S5x2_S5x2x1_0_1 (shapeCast S5x2
        (extractStridedSlice S5x2x1 ![0, 0, 9999] (shapeCast S5x2x10000 x shapeCasts_S100000_S5x2x10000) slices_S5x2x10000_S5x2x1_0_0_9999) shapeCasts_S5x2x1_S5x2)⟩]
    concatenates_S5x2x1_S5x2x1_S5x2x2_d2

set_option maxRecDepth 200000 in
theorem ends_apply (x : IVec S100000 32) (t : Fin 5) (h : Fin 2) (k : Fin 2) :
    ends x (ix3 t h k) = x (ix1 ⟨t.val * 20000 + h.val * 10000 + k.val * 9999, by omega⟩) := by
  pointwise [ends]
  split
  · exact congrArg x (congrArg ix1 (Fin.ext (by show t.val * 20000 + h.val * 10000 = t.val * 20000 + h.val * 10000 + k.val * 9999; omega)))
  · exact congrArg x (congrArg ix1 (Fin.ext (by show t.val * 20000 + h.val * 10000 + 9999 = t.val * 20000 + h.val * 10000 + k.val * 9999; omega)))

theorem V1_v7 (d : Dev nD) : (V1 m d (Proc.devRef .tc main_v7) : IVec S5x2x2 32) = ends (m (d, Proc.devRef .tc main_arg6) : IVec S100000 32) := by
  unfold V1 ops1
  after_results_simp
  rfl

theorem V1_keep (d : Dev nD) (b : Ref sig .tc) (h : b ∈ [main_arg0, main_arg1, main_arg2, main_arg3, main_arg4, main_arg5, main_arg6]) :
    V1 m d (Proc.devRef .tc b) = m (d, Proc.devRef .tc b) := by
  unfold V1 ops1
  simp only [List.mem_cons, List.not_mem_nil, or_false] at h
  rcases h with rfl | rfl | rfl | rfl | rfl | rfl | rfl <;> (after_results_simp; rfl)

theorem V2_keep (d : Dev nD) (b : Ref sig .tc) (h : b ∈ [main_arg0, main_arg1, main_arg2, main_arg3, main_arg4, main_arg5, main_arg6]) :
    V2 m d (Proc.devRef .tc b) = m (d, Proc.devRef .tc b) := by
  rw [V2_eq, ← V1_keep m d b h]
  simp only [List.mem_cons, List.not_mem_nil, or_false] at h
  unfold Vout
  rw [afterCall_of_ne]
  · rfl
  all_goals rcases h with rfl | rfl | rfl | rfl | rfl | rfl | rfl <;> decide

theorem V5_keep (d : Dev nD) (b : Ref sig .tc) (h : b ∈ [main_arg0, main_arg1, main_arg2, main_arg3, main_arg4, main_arg5, main_arg6]) :
    V5 m d (Proc.devRef .tc b) = m (d, Proc.devRef .tc b) := by
  rw [← V2_keep m d b h]
  have e4 : V4 m d (Proc.devRef .tc b) = V3 m d (Proc.devRef .tc b) := by
    unfold V4 weighed
    refine Function.update_of_ne (fun e => ?_) _ _
    have e := Proc.devRef_injective _ e
    subst e; revert h; decide
  have e5 : V5 m d (Proc.devRef .tc b) = V4 m d (Proc.devRef .tc b) := by
    unfold V5 ops3
    simp only [List.mem_cons, List.not_mem_nil, or_false] at h
    rcases h with rfl | rfl | rfl | rfl | rfl | rfl | rfl <;> (after_results_simp)
  rw [e5, e4]
  unfold V3 ops2
  simp only [List.mem_cons, List.not_mem_nil, or_false] at h
  rcases h with rfl | rfl | rfl | rfl | rfl | rfl | rfl <;> (after_results_simp)

theorem V3_v13 (d : Dev nD) :
    (V3 m d (Proc.devRef .tc main_v13) : IVec S100352 32) = pad S100352 ![0] ![352] ![0] (m (d, Proc.devRef .tc main_arg6) : IVec S100000 32) (constantI S_ 32 0#32) pads_S100000_S100352_03520 h_S_ := by
  unfold V3 ops2
  after_results_simp
  rw [V2_keep m d main_arg6 (by decide)]
  rfl

theorem v13_lt (d : Dev nD) (h : ∀ j, ((m (d, Proc.devRef .tc main_arg6) : IVec S100000 32) j).toNat < 256) (j : S100352.Idx) :
    ((V3 m d (Proc.devRef .tc main_v13) : IVec S100352 32) j).toNat < 256 := by
  rw [V3_v13]
  unfold pad
  split
  · exact h _
  · show (0#32).toNat < 256; decide

theorem idx7 : ∀ t : Fin cfg0.N, win0_7.index t = ![t.val, 0, 0] := by decide +kernel
theorem idx0 : ∀ t : Fin cfg0.N, win0_0.index t = ![t.val, 0] := by decide +kernel

theorem b7_apply (d : Dev nD) (t : Fin cfg0.N) (h k : Fin 2) :
    b7 d (Vin m d) t (ix3 0 h k) = ends (m (d, Proc.devRef .tc main_arg6)) (ix3 (⟨t.val, lt_of_lt_of_eq t.isLt N_0⟩ : Fin 5) h k) := by
  have e : (Vin m d main_v7 : IVec S5x2x2 32) = ends (m (d, Proc.devRef .tc main_arg6) : IVec S100000 32) := V1_v7 m d
  unfold b7
  rw [e]
  blk_ext [idx7]

theorem lo0_apply (X : Vec F S1x2x2 .i32) : lo0 X = X (ix3 0 0 0) := by pointwise [lo0, word]
theorem hi0_apply (X : Vec F S1x2x2 .i32) : hi0 X = X (ix3 0 0 1) := by pointwise [hi0, word]
theorem lo1_apply (X : Vec F S1x2x2 .i32) : lo1 X = X (ix3 0 1 0) := by pointwise [lo1, word]
theorem hi1_apply (X : Vec F S1x2x2 .i32) : hi1 X = X (ix3 0 1 1) := by pointwise [hi1, word]

/-- What the frames ask of the launch memory. -/
def InRange : Prop := ∀ (d : Dev nD) (j : S100000.Idx), ((m (d, Proc.devRef .tc main_arg6) : IVec S100000 32) j).toNat < 256

theorem chk_all (h : InRange m) (c : Dev nD) (t : Fin cfg0.N) :
    k0_chk1 (lo0 (b7 c (Vin m c) t)) (hi0 (b7 c (Vin m c) t)) (lo1 (b7 c (Vin m c) t)) (hi1 (b7 c (Vin m c) t)) := by
  refine chk1_of_lt _ _ _ _ ?_ ?_
  · rw [lo0_apply, b7_apply, ends_apply]; exact h c _
  · rw [lo1_apply, b7_apply, ends_apply]; exact h c _

/-- The run, with the arguments unchanged and the two results named. -/
theorem run_args [∀ e, Nonempty (Elt F e)] (ρ) (h : InRange m) :
    θ_run (Cert.KernelIdeal.defs (F := F)) (Cert.KernelIdeal.threads (F := F)) ⟨m, fun _ => 0, ρ⟩ (fun r =>
      (∀ c : Dev nD, (∀ b ∈ [main_arg0, main_arg1, main_arg2, main_arg3, main_arg4, main_arg5, main_arg6],
          r.2.mem ((c.tc : Thread nD τ).loc b) = m ((c.tc : Thread nD τ).loc b))
        ∧ r.2.mem ((c.tc : Thread nD τ).loc main_v10_3) = V5 m c (Proc.devRef .tc main_v10_3)
        ∧ r.2.mem ((c.tc : Thread nD τ).loc main_v17) = V5 m c (Proc.devRef .tc main_v17))
      ∧ r.2.sem = fun _ => 0) := by
  refine (θ_run Cert.KernelIdeal.defs _ _).mono (fun r hr => ⟨fun c => ⟨fun b hb => ?_, ?_, ?_⟩, hr.2⟩)
    (run_main (F := F) m ρ (chk_all m h) (fun d j => v13_lt m d (h d) j))
  · refine (hr.1 c (Proc.devRef .tc b) ?_).trans (V5_keep m c b hb)
    revert b; decide
  · exact hr.1 c (Proc.devRef .tc main_v10_3) (by decide)
  · exact hr.1 c (Proc.devRef .tc main_v17) (by decide)

/-- The claim of a frame at one reading of the program, from what its precondition asks. -/
def Kept (F : FTy → Type) [FloatOps F] (P : ((ℓ : Loc nD τ sig) → Buf (Elt F) ℓ) → Prop) : Prop :=
  ∀ (m : (ℓ : Loc nD τ sig) → Buf (Elt F) ℓ) (g : Dev nD → PrngReg), P m →
    θ_run (Cert.KernelIdeal.defs (F := F)) (Cert.KernelIdeal.threads (F := F)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

theorem kept [∀ e, Nonempty (Elt F e)] (P : ((ℓ : Loc nD τ sig) → Buf (Elt F) ℓ) → Prop) (hP : ∀ m, P m → InRange m) : Kept F P := fun m ρ hpre =>
  (θ_run Cert.KernelIdeal.defs _ _).mono (fun r h => ⟨fun c =>
      ⟨(h.1 c).1 main_arg0 (by decide), (h.1 c).1 main_arg1 (by decide), (h.1 c).1 main_arg2 (by decide), (h.1 c).1 main_arg3 (by decide),
        (h.1 c).1 main_arg4 (by decide), (h.1 c).1 main_arg5 (by decide), (h.1 c).1 main_arg6 (by decide)⟩, h.2⟩)
    (run_args (F := F) m ρ (hP m hpre))

/-- The ids asked in range, of a memory at one reading. -/
def Asked (F : FTy → Type) [FloatOps F] (m : (ℓ : Loc nD τ sig) → Buf (Elt F) ℓ) : Prop := ∀ c : Dev nD,
  Cert.Pre_in_range.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) = fun _ => 1#1

theorem inRange_of_asked (h : Asked F m) : InRange m := fun d j => in_range_ids _ _ _ _ _ _ _ (h d) j

theorem frame_ideal : Cert.quiescent_KernelIdeal := kept (F := Ideal) (Asked Ideal) fun _ h => inRange_of_asked _ h

theorem frame_ideal_sorted : Cert.quiescent_KernelIdeal_pre_sorted_finite :=
  kept (F := Ideal) _ fun _ h d j => (good_of_pre _ _ _ _ _ _ _ (h d)).ids j

/-- The kernel's program is one text at both readings, so its frame is the frame proved of the other name. -/
theorem kernel_text : Kept Bits (Asked Bits) = Cert.quiescent_Kernel := by sl_kernel_rfl

theorem frame_kernel : Cert.quiescent_Kernel :=
  kernel_text.mp (kept (F := Bits) (Asked Bits) fun _ h => inRange_of_asked _ h)

/-! ## The reference's frame -/

theorem frame_reference : Cert.quiescent_ReferenceIdeal := fun m ρ _ =>
  (θ_run Cert.ReferenceIdeal.defs _ _).mono (fun r h => ⟨fun c => (h c).2.2, sem_eq_zero_of_no_sems (by decide) r.2⟩) (Cert.ReferenceIdeal.Value.run (F := Ideal) m ρ)

theorem frame_reference_sorted : Cert.quiescent_ReferenceIdeal_pre_sorted_finite := fun m ρ _ => frame_reference m ρ trivial

end Cert.Proof.Pool

end
-- ==== Proof.Score.lean ====
/-
  The numbers one grid step computes, read at an index: the scores of a half block, and what a mask of segment numbers selects.
-/
module

public import proofs.«01_k».proof.Proof.Frames

@[expose] public section

noncomputable section

namespace Cert.Proof.Pool

open Cert.KernelIdeal Cert.KernelIdeal.Gen

open Idealize.ShloMosaic
open Idealize.ShloMosaic.TcCoe
open Idealize.ShloMosaic.VecWindow (window put)

/-! ## Masks -/

theorem eq_shift (w : ℕ) (id v : BitVec 32) (hw : v.toNat + w < 2 ^ 32) : (BitVec.ofNat 32 w = id - v) ↔ id.toNat = v.toNat + w := by
  rw [show (BitVec.ofNat 32 w = id - v ↔ BitVec.ofNat 32 w + v = id) from ⟨fun e => by rw [e, BitVec.sub_add_cancel], fun e => by rw [← e, BitVec.add_sub_cancel]⟩, ← BitVec.toNat_inj]
  rw [BitVec.toNat_add, BitVec.toNat_ofNat, Nat.mod_eq_of_lt (a := w) (by omega), Nat.mod_eq_of_lt (by omega)]
  omega

theorem cmpi_eq_one {w : ℕ} (a b : BitVec w) : IntOp.cmpi CmpIPredicate.eq a b = if a = b then 1#1 else 0#1 := by
  unfold IntOp.cmpi
  by_cases h : a = b
  · subst h; simp
  · rw [if_neg h]; show BitVec.ofBool (a == b) = _; rw [beq_false_of_ne h]; rfl

/-- A mask bit as a number: one where the row's segment number is the mask row's. -/
theorem hot_shift (w : ℕ) (id v : BitVec 32) (hw : v.toNat + w < 2 ^ 32) :
    (FloatOps.sitofp FTy.f32 (BitVec.setWidth 32 (IntOp.cmpi CmpIPredicate.eq (BitVec.ofNat 32 w) (IntOp.subi id v))) : Ideal .f32)
      = if id.toNat = v.toNat + w then 1 else 0 := by
  rw [cmpi_eq_one]
  show (FloatOps.sitofp FTy.f32 (BitVec.setWidth 32 (if BitVec.ofNat 32 w = id - v then 1#1 else 0#1)) : Ideal .f32) = _
  simp only [eq_shift w id v hw]
  split
  · show (((BitVec.setWidth 32 1#1).toInt : ℝ) : EReal) = 1
    simp
  · show (((BitVec.setWidth 32 0#1).toInt : ℝ) : EReal) = 0
    simp

theorem pick_shift (w : ℕ) (id v : BitVec 32) (hw : v.toNat + w < 2 ^ 32) (a b : EReal) :
    Scalar.select (IntOp.cmpi CmpIPredicate.eq (BitVec.ofNat 32 w) (IntOp.subi id v)) a b = if id.toNat = v.toNat + w then a else b := by
  rw [cmpi_eq_one]
  show Scalar.select (if BitVec.ofNat 32 w = id - v then 1#1 else 0#1) a b = _
  simp only [eq_shift w id v hw]
  split <;> rfl

/-- A sum over one row of a one-hot mask is the entry it picks. -/
theorem sum_hot {n : ℕ} (c : Fin n → EReal) (a : ℕ) (o : ℕ) (h : a < n) : ∑ x : Fin n, c x * (if o + a = o + x.val then 1 else 0) = c ⟨a, h⟩ := by
  rw [Finset.sum_eq_single (⟨a, h⟩ : Fin n)]
  · simp
  · intro x _ hx
    have : a ≠ x.val := fun e => hx (Fin.ext e.symm)
    rw [if_neg (by omega), mul_zero]
  · simp

/-! ## The score of a row -/

/-- The score of a row, from its features, its segment's part of the hidden layer, and the tables. -/
def scoreOf (W : Fin 128 → Fin 64 → EReal) (W2 : Fin 64 → EReal) (b2 : EReal) (x : Fin 128 → EReal) (u : Fin 64 → EReal) : EReal :=
  ∑ h, W2 h * max (∑ f, W f h * x f + u h) 0 + b2

section pay
variable (X : Vec Ideal S10000x128 .f32) (ids : IVec S1x10000 32) (v : BitVec 32) (W : Vec Ideal S128x64 .f32)
  (uw : Vec Ideal S64x64 .f32) (uW : Vec Ideal S256x64 .f32) (W2 : Vec Ideal S64x1 .f32) (b2 : Vec Ideal S1x1 .f32)

set_option maxRecDepth 200000 in
theorem pay4_apply (hv : v.toNat + 64 ≤ 256) (i : Fin 10000) (h : v.toNat ≤ (ids (ix2 0 i)).toNat ∧ (ids (ix2 0 i)).toNat < v.toNat + 64) :
    k0_pay4 X ids v W uw W2 b2 (ix2 0 i)
      = scoreOf (fun f h => W (ix2 f h)) (fun h => W2 (ix2 h 0)) (b2 (ix2 0 0)) (fun f => X (ix2 i f))
          (fun k => uw (ix2 ⟨(ids (ix2 0 i)).toNat - v.toNat, by omega⟩ k)) := by
  pointwise [k0_pay4, k0_pay3]
  unfold scoreOf
  obtain ⟨a, ha⟩ : ∃ a, (ids (ix2 0 i)).toNat = v.toNat + a := ⟨_, (Nat.add_sub_of_le h.1).symm⟩
  refine congrArg (· + _) (Finset.sum_congr rfl fun k _ => congrArg (fun z => W2 (ix2 k 0) * max ((∑ f, W (ix2 f k) * X (ix2 i f)) + z) 0) ?_)
  refine (Finset.sum_congr rfl fun x _ => ?_).trans ((sum_hot (fun x : Fin 64 => uw (ix2 x k)) a v.toNat (by omega)).trans ?_)
  · rw [hot_shift _ _ _ (by have := x.isLt; omega), ha]
  · refine congrArg uw (congrArg (fun z => ix2 z k) (Fin.ext ?_))
    show a = _ - _
    omega

theorem pay67_eq : k0_pay7 (k0_pay6 X ids v W uw W2) b2 = k0_pay4 X ids v W uw W2 b2 := rfl

set_option maxRecDepth 200000 in
theorem pay22_apply (i : Fin 10000) (h : (ids (ix2 0 i)).toNat < 256) :
    k0_pay22 X ids W uW W2 b2 (ix2 0 i)
      = scoreOf (fun f h => W (ix2 f h)) (fun h => W2 (ix2 h 0)) (b2 (ix2 0 0)) (fun f => X (ix2 i f))
          (fun k => uW (ix2 ⟨(ids (ix2 0 i)).toNat, h⟩ k)) := by
  pointwise [k0_pay22, k0_pay21]
  unfold scoreOf
  refine congrArg (· + _) (Finset.sum_congr rfl fun k _ => congrArg (fun z => W2 (ix2 k 0) * max ((∑ f, W (ix2 f k) * X (ix2 i f)) + z) 0) ?_)
  refine (Finset.sum_congr rfl fun x _ => ?_).trans (sum_hot (fun x : Fin 256 => uW (ix2 x k)) (ids (ix2 0 i)).toNat 0 h)
  rw [hot_shift _ _ _ (by have := x.isLt; simp; omega)]
  simp

theorem pay2425_eq : k0_pay25 (k0_pay24 X ids W uW W2) b2 = k0_pay22 X ids W uW W2 b2 := rfl
end pay

/-- The largest of a half's scores, from minus infinity. -/
def topOf (s : Fin 10000 → EReal) : EReal := Finset.univ.fold max ⊥ fun x : Fin 1 × Fin 10000 => s x.2

theorem bot_word : Ideal.ofBits FTy.f32 4286578688#32 = ⊥ := by
  simp [Ideal.ofBits, Ideal.ieee]

set_option maxRecDepth 200000 in
theorem pay10_apply (a b : FVec Ideal S1x10000 .f32) (b2 : Vec Ideal S1x1 .f32) (mx : Ideal .f32) :
    k0_pay10 a b b2 mx = max (max mx (topOf fun i => a (ix2 0 i))) (topOf fun i => k0_pay7 b b2 (ix2 0 i)) := by
  pointwise [k0_pay10, k0_pay7]
  unfold topOf
  rw [bot_word]

theorem pay28_eq : @k0_pay28 Ideal _ = @k0_pay10 Ideal _ := rfl

end Cert.Proof.Pool

end
-- ==== Proof.StepValue.lean ====
/-
  One grid step as sums: whichever branch it takes, it leaves the scores of its rows, a new maximum, and the running
  denominators and sums rescaled to it with the rows of each segment added.
-/
module

public import proofs.«01_k».proof.Proof.Score

@[expose] public section

noncomputable section

namespace Cert.Proof.Pool

open Cert.KernelIdeal Cert.KernelIdeal.Gen

open Idealize.ShloMosaic
open Idealize.ShloMosaic.TcCoe
open Idealize.ShloMosaic.VecWindow (window put window_eq_ld)

/-! ## Reading the blocks of a step -/

set_option maxRecDepth 200000 in
theorem half0_apply (X : Vec Ideal S20000x128 .f32) (i : Fin 10000) (f : Fin 128) : half0 X (ix2 i f) = X (ix2 ⟨i.val, by omega⟩ f) := by
  pointwise [half0]
set_option maxRecDepth 200000 in
theorem half1_apply (X : Vec Ideal S20000x128 .f32) (i : Fin 10000) (f : Fin 128) : half1 X (ix2 i f) = X (ix2 ⟨10000 + i.val, by omega⟩ f) := by
  pointwise [half1]
set_option maxRecDepth 200000 in
theorem ids0_apply (X : Vec Ideal S1x2x10000 .i32) (i : Fin 10000) : ids0 (F := Ideal) X (ix2 0 i) = X (ix3 0 0 i) := by
  pointwise [ids0, k0_pay42]
set_option maxRecDepth 200000 in
theorem ids1_apply (X : Vec Ideal S1x2x10000 .i32) (i : Fin 10000) : ids1 (F := Ideal) X (ix2 0 i) = X (ix3 0 1 i) := by
  pointwise [ids1, k0_pay43]
set_option maxRecDepth 200000 in
theorem w1a_apply (X : Vec Ideal S256x64 .f32) (f : Fin 128) (h : Fin 64) : w1a X (ix2 f h) = X (ix2 ⟨f.val, by omega⟩ h) := by
  pointwise [w1a]
set_option maxRecDepth 200000 in
theorem pair_apply (a b : FVec Ideal S1x10000 .f32) (h : Fin 2) (i : Fin 10000) :
    pair a b (ix3 0 h i) = if h.val = 0 then a (ix2 0 i) else b (ix2 0 i) := by
  unfold pair
  pointwise [k0_pay8]

theorem zero2 : (![0, 0] : Fin 2 → ℕ) = fun _ => 0 := by decide
theorem ldW (x : Vec Ideal S64x1 .f32) : View.ld x (Rect.unit (s := S64x1) ![0, 0] S64x1.size inb_S64x1_S64x1_0_0) = x := View.ld_unit_zero zero2 _ _
theorem ldB (x : Vec Ideal S1x1 .f32) : View.ld x (Rect.unit (s := S1x1) ![0, 0] S1x1.size inb_S1x1_S1x1_0_0) = x := View.ld_unit_zero zero2 _ _
theorem ldU (x : Vec Ideal S256x64 .f32) : View.ld x (Rect.unit (s := S256x64) ![0, 0] S256x64.size inb_S256x64_S256x64_0_0) = x := View.ld_unit_zero zero2 _ _
theorem ldD (x : Vec Ideal S256x1 .f32) : View.ld x (Rect.unit (s := S256x1) ![0, 0] S256x1.size inb_S256x1_S256x1_0_0) = x := View.ld_unit_zero zero2 _ _
theorem ldA (x : Vec Ideal S256x128 .f32) : View.ld x (Rect.unit (s := S256x128) ![0, 0] S256x128.size inb_S256x128_S256x128_0_0) = x := View.ld_unit_zero zero2 _ _

set_option maxRecDepth 200000 in
theorem ldWin (x : Vec Ideal S256x64 .f32) (v : BitVec 32) (off : Fin 2 → ℕ) (hoff : off = ![v.toNat, 0]) (inb : ∀ a, off a + S64x64.size a ≤ S256x64.size a) (hv : v.toNat + 64 ≤ 256) (a : Fin 64) (k : Fin 64) :
    View.ld x (Rect.unit (s := S256x64) off S64x64.size inb) (ix2 a k) = x (ix2 ⟨v.toNat + a.val, by omega⟩ k) := by
  subst hoff
  pointwise [View.ld]

/-- A row's feature, by its half. -/
abbrev rowOf (x1 : Vec Ideal S20000x128 .f32) (h : Fin 2) (i : Fin 10000) (f : Fin 128) : EReal := x1 (ix2 ⟨h.val * 10000 + i.val, by omega⟩ f)

/-! ## Adding a half's rows to the running tables -/

section add
variable (X : Vec Ideal S10000x128 .f32) (ids : IVec S1x10000 32) (s : FVec Ideal S1x10000 .f32) (M : Ideal .f32)

set_option maxRecDepth 200000 in
theorem pay34_apply (x : Vec Ideal S256x1 .f32) (g : Fin 256) :
    k0_pay34 (k0_pay44 (F := Ideal)) (k0_pay21 ids) s M x (ix2 g 0)
      = x (ix2 g 0) + ∑ i : Fin 10000, if (ids (ix2 0 i)).toNat = g.val then Ideal.exp (s (ix2 0 i) - M) else 0 := by
  pointwise [k0_pay34, k0_pay44, k0_pay33, k0_pay21]
  refine congrArg (fun z => x (ix2 g 0) + z) (Finset.sum_congr rfl fun i _ => ?_)
  rw [pick_shift _ _ _ (by have := g.isLt; simp; omega)]
  simp

set_option maxRecDepth 200000 in
theorem pay35_apply (x : Vec Ideal S256x128 .f32) (g : Fin 256) (k : Fin 128) :
    k0_pay35 X (k0_pay21 ids) s M x (ix2 g k)
      = x (ix2 g k) + ∑ i : Fin 10000, if (ids (ix2 0 i)).toNat = g.val then Ideal.exp (s (ix2 0 i) - M) * X (ix2 i k) else 0 := by
  pointwise [k0_pay35, k0_pay33, k0_pay21]
  refine congrArg (fun z => x (ix2 g k) + z) (Finset.sum_congr rfl fun i _ => ?_)
  rw [pick_shift _ _ _ (by have := g.isLt; simp; omega)]
  simp

variable (v : BitVec 32) (hv : v.toNat + 64 ≤ 256)
  (hin : ∀ i : Fin 10000, v.toNat ≤ (ids (ix2 0 i)).toNat ∧ (ids (ix2 0 i)).toNat < v.toNat + 64)
include hv hin

set_option maxRecDepth 200000 in
theorem put_d (x : Vec Ideal S256x1 .f32) (off : Fin 2 → ℕ) (hoff : off = ![v.toNat, 0]) (inb : ∀ a, off a + S64x1.size a ≤ S256x1.size a) (g : Fin 256) :
    put x off S64x1.size (k0_pay16 (k0_pay44 (F := Ideal)) (k0_pay3 ids v) s M (window x off S64x1.size inb)) (ix2 g 0)
      = x (ix2 g 0) + ∑ i : Fin 10000, if (ids (ix2 0 i)).toNat = g.val then Ideal.exp (s (ix2 0 i) - M) else 0 := by
  subst hoff
  rw [window_eq_ld]
  unfold put
  split
  next h =>
    have h0 : v.toNat ≤ g.val ∧ g.val < v.toNat + 64 := h 0
    have e : (Rect.unitLocal (s := S256x1) (off := ![v.toNat, 0]) (size := S64x1.size) (ix2 g 0) h : S64x1.Idx) = ix2 (⟨g.val - v.toNat, by omega⟩ : Fin 64) (0 : Fin 1) := by
      funext a
      fin_cases a
      · rfl
      · rfl
    rw [e]
    pointwise [k0_pay16, k0_pay44, k0_pay15, k0_pay3]
    refine congrArg₂ (· + ·) (congrArg (fun z => x (ix2 z 0)) (Fin.ext ?_)) (Finset.sum_congr rfl fun i _ => ?_)
    · show v.toNat + (g.val - v.toNat) = g.val
      omega
    · rw [pick_shift _ _ _ (by show v.toNat + (g.val - v.toNat) < _; have := g.isLt; omega)]
      refine if_congr ?_ rfl rfl
      show _ = v.toNat + (g.val - v.toNat) ↔ _
      rw [Nat.add_sub_of_le h0.1]
  next h =>
    have h0 : ¬ (v.toNat ≤ g.val ∧ g.val < v.toNat + 64) := fun h0 => h fun a => by
      fin_cases a
      · exact h0
      · exact ⟨Nat.le_refl _, (by decide : (0:ℕ) < 0 + 1)⟩
    rw [Finset.sum_eq_zero, add_zero]
    intro i _
    rw [if_neg]
    intro e
    have := hin i
    omega

set_option maxRecDepth 200000 in
theorem put_a (x : Vec Ideal S256x128 .f32) (off : Fin 2 → ℕ) (hoff : off = ![v.toNat, 0]) (inb : ∀ a, off a + S64x128.size a ≤ S256x128.size a) (g : Fin 256) (k : Fin 128) :
    put x off S64x128.size (k0_pay17 X (k0_pay3 ids v) s M (window x off S64x128.size inb)) (ix2 g k)
      = x (ix2 g k) + ∑ i : Fin 10000, if (ids (ix2 0 i)).toNat = g.val then Ideal.exp (s (ix2 0 i) - M) * X (ix2 i k) else 0 := by
  subst hoff
  rw [window_eq_ld]
  unfold put
  split
  next h =>
    have h0 : v.toNat ≤ g.val ∧ g.val < v.toNat + 64 := h 0
    have e : (Rect.unitLocal (s := S256x128) (off := ![v.toNat, 0]) (size := S64x128.size) (ix2 g k) h : S64x128.Idx) = ix2 (⟨g.val - v.toNat, by omega⟩ : Fin 64) k := by
      funext a
      fin_cases a
      · rfl
      · rfl
    rw [e]
    pointwise [k0_pay17, k0_pay15, k0_pay3]
    refine congrArg₂ (· + ·) (congrArg (fun z => x z) ?_) (Finset.sum_congr rfl fun i _ => ?_)
    · refine congrArg₂ ix2 (Fin.ext ?_) (Fin.ext ?_)
      · show v.toNat + (g.val - v.toNat) = g.val
        omega
      · first | rfl | exact Nat.zero_add _
    · rw [pick_shift _ _ _ (by show v.toNat + (g.val - v.toNat) < _; have := g.isLt; omega)]
      refine if_congr ?_ rfl rfl
      show _ = v.toNat + (g.val - v.toNat) ↔ _
      rw [Nat.add_sub_of_le h0.1]
  next h =>
    have h0 : ¬ (v.toNat ≤ g.val ∧ g.val < v.toNat + 64) := fun h0 => h fun a => by
      fin_cases a
      · exact h0
      · exact ⟨Nat.zero_le _, by have := k.isLt; show k.val < 0 + 128; omega⟩
    rw [Finset.sum_eq_zero, add_zero]
    intro i _
    rw [if_neg]
    intro e
    have := hin i
    omega

end add

/-! ## Rescaling -/

section scale
variable (a b : FVec Ideal S1x10000 .f32) (b2 : Vec Ideal S1x1 .f32) (mx : Ideal .f32)

set_option maxRecDepth 200000 in
theorem pay12_apply (d : Vec Ideal S256x1 .f32) (g : Fin 256) :
    k0_pay12 a b b2 mx d (ix2 g 0) = d (ix2 g 0) * Ideal.exp (mx - k0_pay10 a b b2 mx) := by
  pointwise [k0_pay12, k0_pay11]
  rfl

set_option maxRecDepth 200000 in
theorem pay14_apply (d : Vec Ideal S256x128 .f32) (g : Fin 256) (k : Fin 128) :
    k0_pay14 (k0_pay13 a b b2 mx d) (ix2 g k) = d (ix2 g k) * Ideal.exp (mx - k0_pay10 a b b2 mx) := by
  pointwise [k0_pay14, k0_pay13, k0_pay11]
  rfl
end scale

/-! ## The step -/

/-- A step's outcome from the state before it. -/
structure Stepped (xs : Fin 2 → Fin 10000 → Fin 128 → EReal) (sc : Fin 2 → Fin 10000 → EReal) (seg : Fin 2 → Fin 10000 → ℕ)
    (m0 : Ideal .f32) (d : Vec Ideal S256x1 .f32) (acc : Vec Ideal S256x128 .f32) (st : Step Ideal) : Prop where
  s : ∀ h i, st.s (ix3 0 h i) = sc h i
  mx : st.mx = max (max m0 (topOf (sc 0))) (topOf (sc 1))
  d : ∀ g : Fin 256, st.d (ix2 g 0) = d (ix2 g 0) * Ideal.exp (m0 - st.mx)
    + (∑ i, if seg 0 i = g.val then Ideal.exp (sc 0 i - st.mx) else 0) + ∑ i, if seg 1 i = g.val then Ideal.exp (sc 1 i - st.mx) else 0
  acc : ∀ (g : Fin 256) (k : Fin 128), st.acc (ix2 g k) = acc (ix2 g k) * Ideal.exp (m0 - st.mx)
    + (∑ i, if seg 0 i = g.val then Ideal.exp (sc 0 i - st.mx) * xs 0 i k else 0) + ∑ i, if seg 1 i = g.val then Ideal.exp (sc 1 i - st.mx) * xs 1 i k else 0

/-- The score of a step's row, its segment's part of the hidden layer read from the table. -/
def rowScore (x1 : Vec Ideal S20000x128 .f32) (x3 : Vec Ideal S256x64 .f32) (x5 : Vec Ideal S64x1 .f32) (x6 : Vec Ideal S1x1 .f32)
    (x7 : Vec Ideal S1x2x10000 .i32) (uw : Vec Ideal S256x64 .f32) (hr : ∀ h i, (x7 (ix3 0 h i)).toNat < 256) (h : Fin 2) (i : Fin 10000) : EReal :=
  scoreOf (fun f k => x3 (ix2 ⟨f.val, by omega⟩ k)) (fun k => x5 (ix2 k 0)) (x6 (ix2 0 0)) (rowOf x1 h i) (fun k => uw (ix2 ⟨(x7 (ix3 0 h i)).toNat, hr h i⟩ k))

section step
variable (x1 : Vec Ideal S20000x128 .f32) (x3 : Vec Ideal S256x64 .f32) (x5 : Vec Ideal S64x1 .f32) (x6 : Vec Ideal S1x1 .f32)
  (x7 : Vec Ideal S1x2x10000 .i32) (uw : Vec Ideal S256x64 .f32) (hr : ∀ h i, (x7 (ix3 0 h i)).toNat < 256)
  (m0 : Ideal .f32) (d : Vec Ideal S256x1 .f32) (acc : Vec Ideal S256x128 .f32)

theorem row0 (i : Fin 10000) (k : Fin 128) : half0 x1 (ix2 i k) = rowOf x1 0 i k := by
  rw [half0_apply]
  exact congrArg (fun z => x1 (ix2 z k)) (Fin.ext (by show i.val = 0 * 10000 + i.val; omega))

theorem row1 (i : Fin 10000) (k : Fin 128) : half1 x1 (ix2 i k) = rowOf x1 1 i k := by
  rw [half1_apply]
  exact congrArg (fun z => x1 (ix2 z k)) (Fin.ext (by show 10000 + i.val = 1 * 10000 + i.val; omega))

theorem row0_fun (i : Fin 10000) : (fun k => half0 x1 (ix2 i k)) = rowOf x1 0 i := funext (row0 x1 i)
theorem row1_fun (i : Fin 10000) : (fun k => half1 x1 (ix2 i k)) = rowOf x1 1 i := funext (row1 x1 i)
theorem w1a_fun : (fun (f : Fin 128) (h : Fin 64) => w1a x3 (ix2 f h)) = fun f h => x3 (ix2 ⟨f.val, by omega⟩ h) := funext fun f => funext fun h => w1a_apply x3 f h

set_option maxRecDepth 200000 in
/-- A step from its scores: what remains once the two halves' scores are known. -/
theorem stepped_of (s0 s1 : FVec Ideal S1x10000 .f32) (b2 : Vec Ideal S1x1 .f32) (pre1 : FVec Ideal S1x10000 .f32) (e1 : s1 = k0_pay7 pre1 b2)
    (sc : Fin 2 → Fin 10000 → EReal) (h0 : ∀ i, s0 (ix2 0 i) = sc 0 i) (h1 : ∀ i, s1 (ix2 0 i) = sc 1 i)
    (M : Ideal .f32) (hM : M = k0_pay10 s0 pre1 b2 m0) (d3 : Vec Ideal S256x1 .f32) (a3 : Vec Ideal S256x128 .f32)
    (hd : ∀ g : Fin 256, d3 (ix2 g 0) = k0_pay12 s0 pre1 b2 m0 d (ix2 g 0)
      + (∑ i : Fin 10000, if (ids0 x7 (ix2 0 i)).toNat = g.val then Ideal.exp (s0 (ix2 0 i) - M) else 0)
      + ∑ i : Fin 10000, if (ids1 x7 (ix2 0 i)).toNat = g.val then Ideal.exp (s1 (ix2 0 i) - M) else 0)
    (ha : ∀ (g : Fin 256) (k : Fin 128), a3 (ix2 g k) = k0_pay14 (k0_pay13 s0 pre1 b2 m0 acc) (ix2 g k)
      + (∑ i : Fin 10000, if (ids0 x7 (ix2 0 i)).toNat = g.val then Ideal.exp (s0 (ix2 0 i) - M) * half0 x1 (ix2 i k) else 0)
      + ∑ i : Fin 10000, if (ids1 x7 (ix2 0 i)).toNat = g.val then Ideal.exp (s1 (ix2 0 i) - M) * half1 x1 (ix2 i k) else 0) :
    Stepped (rowOf x1) sc (fun h i => (x7 (ix3 0 h i)).toNat) m0 d acc ⟨pair s0 s1, M, d3, a3⟩ := by
  subst e1
  refine ⟨fun h i => ?_, ?_, fun g => ?_, fun g k => ?_⟩
  · show pair s0 (k0_pay7 pre1 b2) (ix3 0 h i) = _
    rw [pair_apply]
    fin_cases h
    · exact h0 i
    · exact h1 i
  · show M = _
    rw [hM, pay10_apply]
    simp only [h0, h1]
  · show d3 (ix2 g 0) = _
    rw [hd, pay12_apply, ← hM]
    simp only [ids0_apply, ids1_apply, h0, h1]
  · show a3 (ix2 g k) = _
    rw [ha, pay14_apply, ← hM]
    simp only [ids0_apply, ids1_apply, h0, h1]
    refine congrArg₂ (· + ·) (congrArg (fun z => _ + z) (Finset.sum_congr rfl fun i _ => ?_)) (Finset.sum_congr rfl fun i _ => ?_)
    · rw [row0]
    · rw [row1]

set_option maxRecDepth 200000 in
theorem wide_stepped : Stepped (rowOf x1) (rowScore x1 x3 x5 x6 x7 uw hr) (fun h i => (x7 (ix3 0 h i)).toNat) m0 d acc (wide x1 x3 x5 x6 x7 uw m0 d acc) := by
  unfold wide
  rw [ldW, ldB, ldU, ldD, ldA]
  refine stepped_of x1 x7 m0 d acc _ _ _ _ rfl _ (fun i => ?_) (fun i => ?_) _ rfl _ _ (fun g => ?_) (fun g k => ?_)
  · rw [pay22_apply _ _ _ _ _ _ i (by rw [ids0_apply]; exact hr 0 i)]
    rw [w1a_fun, row0_fun]
    unfold rowScore
    simp only [ids0_apply]
  · refine (congrFun (pay2425_eq _ _ _ _ _ _) _).trans ?_
    rw [pay22_apply _ _ _ _ _ _ i (by rw [ids1_apply]; exact hr 1 i)]
    rw [w1a_fun, row1_fun]
    unfold rowScore
    simp only [ids1_apply]
  · refine (pay34_apply (ids1 x7) _ _ _ g).trans ?_
    refine congrArg (fun z => z + _) ?_
    rw [ldD]
    exact pay34_apply (ids0 x7) _ _ _ g
  · refine (pay35_apply (half1 x1) (ids1 x7) _ _ _ g k).trans ?_
    refine congrArg (fun z => z + _) ?_
    rw [ldA]
    exact pay35_apply (half0 x1) (ids0 x7) _ _ _ g k

set_option maxRecDepth 200000 in
theorem narrow_stepped (v9 v10 v11 v12 : BitVec 32) (w : k0_chk1 v9 v10 v11 v12) (h2 : k0_cond2 v9 v10 v11 v12 = 1#1)
    (hv9 : (base v9).toNat + 64 ≤ 256) (hv11 : (base v11).toNat + 64 ≤ 256)
    (in0 : ∀ i, (base v9).toNat ≤ (x7 (ix3 0 0 i)).toNat ∧ (x7 (ix3 0 0 i)).toNat < (base v9).toNat + 64)
    (in1 : ∀ i, (base v11).toNat ≤ (x7 (ix3 0 1 i)).toNat ∧ (x7 (ix3 0 1 i)).toNat < (base v11).toNat + 64) :
    Stepped (rowOf x1) (rowScore x1 x3 x5 x6 x7 uw hr) (fun h i => (x7 (ix3 0 h i)).toNat) m0 d acc (narrow x1 x3 x5 x6 x7 v9 v10 v11 v12 w h2 uw m0 d acc) := by
  have in0' : ∀ i, (base v9).toNat ≤ (ids0 (F := Ideal) x7 (ix2 0 i)).toNat ∧ (ids0 (F := Ideal) x7 (ix2 0 i)).toNat < (base v9).toNat + 64 := fun i => by
    rw [ids0_apply]; exact in0 i
  have in1' : ∀ i, (base v11).toNat ≤ (ids1 (F := Ideal) x7 (ix2 0 i)).toNat ∧ (ids1 (F := Ideal) x7 (ix2 0 i)).toNat < (base v11).toNat + 64 := fun i => by
    rw [ids1_apply]; exact in1 i
  unfold narrow
  rw [ldW, ldB, ldD, ldA]
  refine stepped_of x1 x7 m0 d acc _ _ _ _ rfl _ (fun i => ?_) (fun i => ?_) _ rfl _ _ (fun g => ?_) (fun g k => ?_)
  · rw [pay4_apply _ _ _ _ _ _ _ hv9 i (in0' i)]
    rw [w1a_fun, row0_fun]
    unfold rowScore
    refine congrArg _ (funext fun k => (ldWin uw _ _ (off1_eq v9) _ hv9 _ k).trans (congrArg (fun z => uw (ix2 z k)) (Fin.ext ?_)))
    have := in0' i
    show (base v9).toNat + ((ids0 (F := Ideal) x7 (ix2 0 i)).toNat - (base v9).toNat) = (x7 (ix3 0 0 i)).toNat
    rw [ids0_apply] at this ⊢
    omega
  · refine (congrFun (pay67_eq _ _ _ _ _ _ _) _).trans ?_
    rw [pay4_apply _ _ _ _ _ _ _ hv11 i (in1' i)]
    rw [w1a_fun, row1_fun]
    unfold rowScore
    refine congrArg _ (funext fun k => (ldWin uw _ _ (off2_eq v11) _ hv11 _ k).trans (congrArg (fun z => uw (ix2 z k)) (Fin.ext ?_)))
    have := in1' i
    show (base v11).toNat + ((ids1 (F := Ideal) x7 (ix2 0 i)).toNat - (base v11).toNat) = (x7 (ix3 0 1 i)).toNat
    rw [ids1_apply] at this ⊢
    omega
  · refine (put_d (ids1 x7) _ _ (base v11) hv11 in1' _ _ (off5_eq v11) _ g).trans ?_
    exact congrArg (fun z => z + _) (put_d (ids0 x7) _ _ (base v9) hv9 in0' _ _ (off3_eq v9) _ g)
  · refine (put_a (half1 x1) (ids1 x7) _ _ (base v11) hv11 in1' _ _ (off6_eq v11) _ g k).trans ?_
    exact congrArg (fun z => z + _) (put_a (half0 x1) (ids0 x7) _ _ (base v9) hv9 in0' _ _ (off4_eq v9) _ g k)
end step

end Cert.Proof.Pool

end
-- ==== Proof.Sums.lean ====
/-
  Sums of exponentials over the rows of a segment: they grow by blocks of rows, they rescale with the maximum subtracted, and
  the weights they give do not depend on it.
-/
module

public import Idealize.ShloMosaic.PureOps.Ideal

@[expose] public section

noncomputable section

namespace Cert.Proof.Pool

open Idealize.ShloMosaic

/-! ## Finite values -/

/-- The value is a real. -/
def IsR (v : EReal) : Prop := ∃ r : ℝ, v = (r : EReal)

theorem IsR.of_ne {v : EReal} (h : v ≠ ⊤ ∧ v ≠ ⊥) : IsR v := ⟨v.toReal, (EReal.coe_toReal h.1 h.2).symm⟩
theorem IsR.coe (r : ℝ) : IsR (r : EReal) := ⟨r, rfl⟩
theorem IsR.zero : IsR 0 := ⟨0, rfl⟩
theorem IsR.add {a b : EReal} (ha : IsR a) (hb : IsR b) : IsR (a + b) := by
  obtain ⟨x, rfl⟩ := ha; obtain ⟨y, rfl⟩ := hb; exact ⟨x + y, rfl⟩
theorem IsR.mul {a b : EReal} (ha : IsR a) (hb : IsR b) : IsR (a * b) := by
  obtain ⟨x, rfl⟩ := ha; obtain ⟨y, rfl⟩ := hb; exact ⟨x * y, rfl⟩
theorem IsR.max {a b : EReal} (ha : IsR a) (hb : IsR b) : IsR (Max.max a b) := by
  rcases le_total a b with h | h
  · rwa [max_eq_right h]
  · rwa [max_eq_left h]
theorem IsR.sum {ι : Type*} (s : Finset ι) (f : ι → EReal) (h : ∀ i, IsR (f i)) : IsR (∑ i ∈ s, f i) := by
  classical
  induction s using Finset.induction_on with
  | empty => simpa using IsR.zero
  | insert a s ha ih => rw [Finset.sum_insert ha]; exact (h a).add ih

/-- A largest value over reals, from minus infinity: minus infinity or a real. -/
theorem fold_max_real {ι : Type*} (s : Finset ι) (f : ι → EReal) (h : ∀ i ∈ s, IsR (f i) ∨ f i = ⊥) :
    IsR (s.fold Max.max ⊥ f) ∨ s.fold Max.max ⊥ f = ⊥ := by
  classical
  induction s using Finset.induction_on with
  | empty => right; simp
  | insert a s ha ih =>
    rw [Finset.fold_insert ha]
    have i2 := ih fun i hi => h i (Finset.mem_insert_of_mem hi)
    rcases h a (Finset.mem_insert_self _ _) with h1 | h1
    · rcases i2 with h2 | h2
      · exact .inl (h1.max h2)
      · left; rw [h2]; simpa using h1
    · rw [h1]; simpa using i2

/-- With one real among them, a real. -/
theorem fold_max_real' {ι : Type*} (s : Finset ι) (f : ι → EReal) (h : ∀ i ∈ s, IsR (f i) ∨ f i = ⊥) (i : ι) (hi : i ∈ s) (hr : IsR (f i)) :
    IsR (s.fold Max.max ⊥ f) := by
  rcases fold_max_real s f h with e | e
  · exact e
  · exfalso
    have : f i ≤ s.fold Max.max ⊥ f := by
      rw [Finset.le_fold_max]; exact .inr ⟨i, hi, le_rfl⟩
    rw [e] at this
    obtain ⟨r, hr⟩ := hr
    rw [hr] at this
    exact EReal.coe_ne_bot r (le_bot_iff.mp this)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem exp_sub (a b : ℝ) : Ideal.exp ((a : EReal) - (b : EReal)) = ((Real.exp (a - b) : ℝ) : EReal) := rfl

theorem coe_ite (p : Prop) [Decidable p] (a : ℝ) : ((if p then a else 0 : ℝ) : EReal) = if p then (a : EReal) else 0 := by
  split <;> rfl

/-! ## Sums over the first rows -/

/-- Over the first `N` rows, those of segment `g`: exp(score − M) times a weight, summed. -/
def psum (s w : ℕ → ℝ) (b : ℕ → ℕ) (g N : ℕ) (M : ℝ) : ℝ := ∑ r ∈ Finset.range N, if b r = g then Real.exp (s r - M) * w r else 0

theorem psum_shift (s w : ℕ → ℝ) (b : ℕ → ℕ) (g N : ℕ) (M M' : ℝ) : psum s w b g N M' = psum s w b g N M * Real.exp (M - M') := by
  unfold psum
  rw [Finset.sum_mul]
  refine Finset.sum_congr rfl fun r _ => ?_
  split
  · rw [mul_right_comm, ← Real.exp_add]
    congr 3
    ring
  · rw [zero_mul]

theorem psum_add (s w : ℕ → ℝ) (b : ℕ → ℕ) (g N n : ℕ) (M : ℝ) :
    psum s w b g (N + n) M = psum s w b g N M + ∑ i : Fin n, if b (N + i.val) = g then Real.exp (s (N + i.val) - M) * w (N + i.val) else 0 := by
  unfold psum
  rw [Finset.sum_range_add]
  refine congrArg _ ?_
  rw [← Fin.sum_univ_eq_sum_range (fun k => if b (N + k) = g then Real.exp (s (N + k) - M) * w (N + k) else 0)]

/-- A half's sum, of real scores and weights. -/
theorem half_sum (s w : ℕ → ℝ) (b : ℕ → ℕ) (g N n : ℕ) (M : ℝ) (sc W : Fin n → EReal) (seg : Fin n → ℕ)
    (hs : ∀ i, sc i = (s (N + i.val) : EReal)) (hw : ∀ i, W i = (w (N + i.val) : EReal)) (hb : ∀ i, seg i = b (N + i.val)) :
    (∑ i, if seg i = g then Ideal.exp (sc i - (M : EReal)) * W i else 0)
      = ((∑ i : Fin n, if b (N + i.val) = g then Real.exp (s (N + i.val) - M) * w (N + i.val) else 0 : ℝ) : EReal) := by
  rw [coe_sum]
  refine Finset.sum_congr rfl fun i _ => ?_
  rw [coe_ite, hb, hs, hw, exp_sub, ← EReal.coe_mul]

/-- A step's table entry, from the entry before it. -/
theorem grow (s w : ℕ → ℝ) (b : ℕ → ℕ) (g N n : ℕ) (M M' : ℝ) (D : EReal) (hD : D = (psum s w b g N M : EReal))
    (sc0 W0 sc1 W1 : Fin n → EReal) (seg0 seg1 : Fin n → ℕ)
    (hs0 : ∀ i, sc0 i = (s (N + i.val) : EReal)) (hw0 : ∀ i, W0 i = (w (N + i.val) : EReal)) (hb0 : ∀ i, seg0 i = b (N + i.val))
    (hs1 : ∀ i, sc1 i = (s (N + n + i.val) : EReal)) (hw1 : ∀ i, W1 i = (w (N + n + i.val) : EReal)) (hb1 : ∀ i, seg1 i = b (N + n + i.val)) :
    D * Ideal.exp ((M : EReal) - (M' : EReal)) + (∑ i, if seg0 i = g then Ideal.exp (sc0 i - (M' : EReal)) * W0 i else 0)
      + (∑ i, if seg1 i = g then Ideal.exp (sc1 i - (M' : EReal)) * W1 i else 0) = (psum s w b g (N + n + n) M' : EReal) := by
  rw [half_sum s w b g N n M' sc0 W0 seg0 hs0 hw0 hb0, half_sum s w b g (N + n) n M' sc1 W1 seg1 hs1 hw1 hb1, hD, exp_sub, ← EReal.coe_mul,
    ← psum_shift, ← EReal.coe_add, ← EReal.coe_add, psum_add s w b g (N + n), psum_add s w b g N]

theorem psum_pos (s : ℕ → ℝ) (b : ℕ → ℕ) (N r : ℕ) (h : r < N) (M : ℝ) : 0 < psum s (fun _ => 1) b (b r) N M := by
  unfold psum
  refine Finset.sum_pos' (fun i _ => ?_) ⟨r, Finset.mem_range.mpr h, ?_⟩
  · split
    · rw [mul_one]; exact (Real.exp_pos _).le
    · exact le_rfl
  · rw [if_pos rfl, mul_one]; exact Real.exp_pos _

theorem psum_none (s w : ℕ → ℝ) (b : ℕ → ℕ) (g N : ℕ) (M : ℝ) (h : ∀ r < N, b r ≠ g) : psum s w b g N M = 0 :=
  Finset.sum_eq_zero fun r hr => if_neg (h r (Finset.mem_range.mp hr))

/-- A row's weight: exp(score − M) over its segment's sum of the same, whatever M is. -/
def weightOf (s : ℕ → ℝ) (b : ℕ → ℕ) (N r : ℕ) : ℝ := Real.exp (s r) / psum s (fun _ => 1) b (b r) N 0

theorem weight_eq (s : ℕ → ℝ) (b : ℕ → ℕ) (N r : ℕ) (M : ℝ) (h : r < N) :
    Real.exp (s r - M) / psum s (fun _ => 1) b (b r) N M = weightOf s b N r := by
  unfold weightOf
  have h0 := psum_pos s b N r h 0
  rw [psum_shift s _ b _ N 0 M, Real.exp_sub, show (0:ℝ) - M = -M from zero_sub M, Real.exp_neg]
  have := Real.exp_pos M
  field_simp

theorem div_pos (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

/-- The weighted sum of a segment's rows, from the two sums. -/
theorem pooled_eq (s x : ℕ → ℝ) (b : ℕ → ℕ) (g N : ℕ) (M : ℝ) :
    (if (0 : EReal) < (psum s (fun _ => 1) b g N M : EReal) then Ideal.div (psum s x b g N M : EReal) (psum s (fun _ => 1) b g N M : EReal) else 0)
      = ((∑ r ∈ Finset.range N, if b r = g then x r * weightOf s b N r else 0 : ℝ) : EReal) := by
  by_cases h : ∃ r < N, b r = g
  · obtain ⟨r, hr, rfl⟩ := h
    have hp := psum_pos s b N r hr M
    rw [if_pos (by exact_mod_cast hp), div_pos _ _ hp.ne']
    refine congrArg _ ?_
    rw [div_eq_mul_inv, psum, Finset.sum_mul]
    refine Finset.sum_congr rfl fun i hi => ?_
    split
    next e =>
      rw [← weight_eq s b N i M (Finset.mem_range.mp hi), e]
      rw [div_eq_mul_inv]
      ring
    · rw [zero_mul]
  · push Not at h
    rw [psum_none s _ b g N M h, if_neg (by simp), Finset.sum_eq_zero]
    · rfl
    · intro r hr
      rw [if_neg (h r (Finset.mem_range.mp hr))]

/-- A row's weight as the tables give it: times one over the sum. -/
theorem attn_eq (s : ℕ → ℝ) (b : ℕ → ℕ) (N r : ℕ) (M : ℝ) (h : r < N) :
    Ideal.exp ((s r : EReal) - (M : EReal)) * Ideal.div 1 (psum s (fun _ => 1) b (b r) N M : EReal) = (weightOf s b N r : EReal) := by
  rw [← EReal.coe_one, div_pos _ _ (psum_pos s b N r h M).ne', exp_sub, ← EReal.coe_mul, ← weight_eq s b N r M h, mul_one_div]

/-- And divided by it. -/
theorem attn_eq' (s : ℕ → ℝ) (b : ℕ → ℕ) (N r : ℕ) (M : ℝ) (h : r < N) :
    Ideal.div (Ideal.exp ((s r : EReal) - (M : EReal))) (psum s (fun _ => 1) b (b r) N M : EReal) = (weightOf s b N r : EReal) := by
  rw [exp_sub, div_pos _ _ (psum_pos s b N r h M).ne', weight_eq s b N r M h]

end Cert.Proof.Pool

end
-- ==== Proof.Blocks.lean ====
/-
  What the TensorCore call's windows bring in at each step, read from the arguments.
-/
module

public import proofs.«01_k».proof.Proof.StepValue
public import proofs.«01_k».proof.Proof.Sums

@[expose] public section

noncomputable section

namespace Cert.Proof.Pool

open Cert.KernelIdeal Cert.KernelIdeal.Gen

open Idealize.ShloMosaic
open Idealize.ShloMosaic.TcCoe
open Idealize.ShloMosaic.StableHlo

variable (m : (ℓ : Loc nD τ sig) → Buf (Elt Ideal) ℓ) (d : Dev nD)

abbrev A0 : Vec Ideal S100000x128 .f32 := m (d, Proc.devRef .tc main_arg0)
abbrev A1 : Vec Ideal S256x128 .f32 := m (d, Proc.devRef .tc main_arg1)
abbrev A2 : Vec Ideal S256x64 .f32 := m (d, Proc.devRef .tc main_arg2)
abbrev A3 : Vec Ideal S64 .f32 := m (d, Proc.devRef .tc main_arg3)
abbrev A4 : Vec Ideal S64x1 .f32 := m (d, Proc.devRef .tc main_arg4)
abbrev A5 : Vec Ideal S1 .f32 := m (d, Proc.devRef .tc main_arg5)
abbrev A6 : IVec S100000 32 := m (d, Proc.devRef .tc main_arg6)

theorem V1_v0 : (V1 m d (Proc.devRef .tc main_v0) : IVec S5x2x10000 32) = shapeCast S5x2x10000 (A6 m d) shapeCasts_S100000_S5x2x10000 := by
  unfold V1 ops1
  after_results_simp
  rfl
theorem V1_v8 : (V1 m d (Proc.devRef .tc main_v8) : FVec Ideal S1x64 .f32) = shapeCast S1x64 (A3 m d) shapeCasts_S64_S1x64 := by
  unfold V1 ops1
  after_results_simp
  rfl
theorem V1_v9 : (V1 m d (Proc.devRef .tc main_v9) : FVec Ideal S1x1 .f32) = shapeCast S1x1 (A5 m d) shapeCasts_S1_S1x1 := by
  unfold V1 ops1
  after_results_simp
  rfl

theorem idx1 : ∀ t : Fin cfg0.N, win0_1.index t = ![0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![t.val, 0, 0] := by decide +kernel

theorem lt5 (t : Fin cfg0.N) : t.val < 5 := lt_of_lt_of_eq t.isLt N_0

set_option maxRecDepth 200000 in
theorem b0_apply (t : Fin cfg0.N) (i : Fin 20000) (f : Fin 128) :
    b0 d (Vin m d) t (ix2 i f) = A0 m d (ix2 ⟨t.val * 20000 + i.val, by have := lt5 t; omega⟩ f) := by
  have e : (Vin m d main_arg0 : Vec Ideal S100000x128 .f32) = A0 m d := V1_keep m d main_arg0 (by decide)
  unfold b0
  rw [e]
  blk_ext [idx0]

set_option maxRecDepth 200000 in
theorem b1_eq (t : Fin cfg0.N) (i : Fin 256) (f : Fin 128) : b1 d (Vin m d) t (ix2 i f) = A1 m d (ix2 i f) := by
  have e : (Vin m d main_arg1 : Vec Ideal S256x128 .f32) = A1 m d := V1_keep m d main_arg1 (by decide)
  unfold b1
  rw [e]
  blk_ext [idx1]

set_option maxRecDepth 200000 in
theorem b2_eq (t : Fin cfg0.N) (i : Fin 256) (f : Fin 64) : b2 d (Vin m d) t (ix2 i f) = A2 m d (ix2 i f) := by
  have e : (Vin m d main_arg2 : Vec Ideal S256x64 .f32) = A2 m d := V1_keep m d main_arg2 (by decide)
  unfold b2
  rw [e]
  blk_ext [idx2]

set_option maxRecDepth 200000 in
theorem b3_eq (t : Fin cfg0.N) (f : Fin 64) : b3 d (Vin m d) t (ix2 0 f) = A3 m d (ix1 f) := by
  have e : (Vin m d main_v8 : FVec Ideal S1x64 .f32) = shapeCast S1x64 (A3 m d) shapeCasts_S64_S1x64 := V1_v8 m d
  have e2 : shapeCast S1x64 (A3 m d) shapeCasts_S64_S1x64 (ix2 0 f) = A3 m d (ix1 f) := by pointwise []
  rw [← e2, ← e]
  unfold b3
  blk_ext [idx3]

set_option maxRecDepth 200000 in
theorem b4_eq (t : Fin cfg0.N) (f : Fin 64) : b4 d (Vin m d) t (ix2 f 0) = A4 m d (ix2 f 0) := by
  have e : (Vin m d main_arg4 : FVec Ideal S64x1 .f32) = A4 m d := V1_keep m d main_arg4 (by decide)
  unfold b4
  rw [e]
  blk_ext [idx4]

set_option maxRecDepth 200000 in
theorem b5_eq (t : Fin cfg0.N) : b5 d (Vin m d) t (ix2 0 0) = A5 m d (ix1 0) := by
  have e : (Vin m d main_v9 : FVec Ideal S1x1 .f32) = shapeCast S1x1 (A5 m d) shapeCasts_S1_S1x1 := V1_v9 m d
  have e2 : shapeCast S1x1 (A5 m d) shapeCasts_S1_S1x1 (ix2 0 0) = A5 m d (ix1 0) := by pointwise []
  rw [← e2, ← e]
  unfold b5
  blk_ext [idx5]

set_option maxRecDepth 200000 in
theorem b6_apply (t : Fin cfg0.N) (h : Fin 2) (i : Fin 10000) :
    b6 d (Vin m d) t (ix3 0 h i) = A6 m d (ix1 ⟨t.val * 20000 + h.val * 10000 + i.val, by have := lt5 t; omega⟩) := by
  have e : (Vin m d main_v0 : IVec S5x2x10000 32) = shapeCast S5x2x10000 (A6 m d) shapeCasts_S100000_S5x2x10000 := V1_v0 m d
  have e2 : shapeCast S5x2x10000 (A6 m d) shapeCasts_S100000_S5x2x10000 (ix3 ⟨t.val, lt5 t⟩ h i) = A6 m d (ix1 ⟨t.val * 20000 + h.val * 10000 + i.val, by have := lt5 t; omega⟩) := by
    pointwise []
  rw [← e2, ← e]
  unfold b6
  blk_ext [idx6]

end Cert.Proof.Pool

end
-- ==== Proof.Model.lean ====
/-
  The problem in the reals: each row's score, segment and features, and the attention and pooled values they give.
-/
module

public import proofs.«01_k».proof.Proof.Score
public import proofs.«01_k».proof.Proof.Sums

@[expose] public section

noncomputable section

namespace Cert.Proof.Pool

open Cert.KernelIdeal Cert.KernelIdeal.Gen

open Idealize.ShloMosaic
open Idealize.ShloMosaic.TcCoe

variable (x0 : FVec Ideal S100000x128 .f32) (x1 : FVec Ideal S256x128 .f32) (x2 : FVec Ideal S256x64 .f32) (x3 : FVec Ideal S64 .f32)
  (x4 : FVec Ideal S64x1 .f32) (x5 : FVec Ideal S1 .f32) (x6 : IVec S100000 32)

/-- A row's segment. -/
def segF (r : Fin 100000) : Fin 256 := ⟨(x6 (ix1 r)).toNat % 256, Nat.mod_lt _ (by decide)⟩

/-- A segment's part of the hidden layer. -/
def hidden (g : Fin 256) (k : Fin 64) : EReal := ∑ f : Fin 128, x1 (ix2 g f) * x2 (ix2 ⟨128 + f.val, by omega⟩ k) + x3 (ix1 k)

/-- A row's score. -/
def bigScore (r : Fin 100000) : EReal :=
  scoreOf (fun f k => x2 (ix2 ⟨f.val, by omega⟩ k)) (fun k => x4 (ix2 k 0)) (x5 (ix1 0)) (fun f => x0 (ix2 r f)) (fun k => hidden x1 x2 x3 (segF x6 r) k)

def scoreR (r : ℕ) : ℝ := if h : r < 100000 then (bigScore x0 x1 x2 x3 x4 x5 x6 ⟨r, h⟩).toReal else 0
def segN (r : ℕ) : ℕ := if h : r < 100000 then (segF x6 ⟨r, h⟩).val else 0
def featR (k : Fin 128) (r : ℕ) : ℝ := if h : r < 100000 then (x0 (ix2 ⟨r, h⟩ k) : EReal).toReal else 0

/-- The attention of a row. -/
abbrev attnR (r : ℕ) : ℝ := weightOf (scoreR x0 x1 x2 x3 x4 x5 x6) (segN x6) 100000 r
/-- The pooled value of a segment and feature. -/
def poolR (g : ℕ) (k : Fin 128) : ℝ := ∑ r ∈ Finset.range 100000, if segN x6 r = g then featR x0 k r * attnR x0 x1 x2 x3 x4 x5 x6 r else 0

section good
variable {x0 x1 x2 x3 x4 x5 x6} (hg : Good x0 x1 x2 x3 x4 x5 x6)
include hg

theorem seg_val (r : ℕ) (h : r < 100000) : (x6 (ix1 ⟨r, h⟩)).toNat = segN x6 r := by
  unfold segN segF
  rw [dif_pos h]
  exact (Nat.mod_eq_of_lt (hg.ids _)).symm

theorem hidden_real (g : Fin 256) (k : Fin 64) : IsR (hidden x1 x2 x3 g k) :=
  (IsR.sum _ _ fun f => (IsR.of_ne (hg.f1 _)).mul (IsR.of_ne (hg.f2 _))).add (IsR.of_ne (hg.f3 _))

theorem bigScore_real (r : Fin 100000) : IsR (bigScore x0 x1 x2 x3 x4 x5 x6 r) :=
  (IsR.sum _ _ fun h => (IsR.of_ne (hg.f4 _)).mul
    (IsR.max ((IsR.sum _ _ fun f => (IsR.of_ne (hg.f2 _)).mul (IsR.of_ne (hg.f0 _))).add (hidden_real hg _ _)) IsR.zero)).add (IsR.of_ne (hg.f5 _))

theorem score_val (r : ℕ) (h : r < 100000) : bigScore x0 x1 x2 x3 x4 x5 x6 ⟨r, h⟩ = (scoreR x0 x1 x2 x3 x4 x5 x6 r : EReal) := by
  unfold scoreR
  rw [dif_pos h]
  obtain ⟨v, hv⟩ := bigScore_real hg ⟨r, h⟩
  rw [hv, EReal.toReal_coe]

theorem feat_val (r : ℕ) (h : r < 100000) (k : Fin 128) : (x0 (ix2 ⟨r, h⟩ k) : EReal) = (featR x0 k r : EReal) := by
  unfold featR
  rw [dif_pos h]
  exact (EReal.coe_toReal (hg.f0 _).1 (hg.f0 _).2).symm

/-- Sorted, whatever the two rows. -/
theorem seg_mono (i j : ℕ) (hij : i ≤ j) (hj : j < 100000) : segN x6 i ≤ segN x6 j := by
  induction j, hij using Nat.le_induction with
  | base => exact le_rfl
  | succ j hij ih =>
    refine (ih (by omega)).trans ?_
    rw [← seg_val hg j (by omega), ← seg_val hg (j + 1) hj]
    exact hg.sorted j (by omega)

theorem seg_lt (r : ℕ) : segN x6 r < 256 := by
  unfold segN
  split
  · exact (segF x6 _).isLt
  · decide
end good

end Cert.Proof.Pool

end
-- ==== Proof.KernelValue.lean ====
/-
  The kernel's two results in the reals: the grid's steps gather the segments' sums, and the strips read them back.
-/
module

public import proofs.«01_k».proof.Proof.Blocks
public import proofs.«01_k».proof.Proof.Model

@[expose] public section

noncomputable section

namespace Cert.Proof.Pool

open Cert.KernelIdeal Cert.KernelIdeal.Gen

open Idealize.ShloMosaic
open Idealize.ShloMosaic.TcCoe
open Idealize.ShloMosaic.StableHlo

/-! ## The narrow branch's window holds the half's segments -/

theorem window_of (lo hi x : BitVec 32) (hlo : lo.toNat ≤ x.toNat) (hhi : x.toNat ≤ hi.toNat) (h : hi.toNat < 256)
    (e : Scalar.cmpi .slt (Scalar.subi hi (base lo)) 64#32 = 1#1) :
    (base lo).toNat ≤ x.toNat ∧ x.toNat < (base lo).toNat + 64 := by
  have eb := base_toNat lo (by omega)
  have es : (hi - base lo).toNat = hi.toNat - (base lo).toNat := by
    rw [BitVec.toNat_sub]; omega
  have e' : IntOp.cmpi .slt (hi - base lo) 64#32 = 1#1 := e
  simp only [IntOp.cmpi, ofBool_one, BitVec.slt_eq_decide,
    decide_eq_true_eq, BitVec.toInt_eq_toNat_cond, es, BitVec.toNat_ofNat, Nat.reducePow, Nat.reduceMod] at e'
  omega

theorem flag_of (v9 v10 v11 v12 : BitVec 32) (h2 : k0_cond2 v9 v10 v11 v12 = 1#1) :
    Scalar.cmpi .slt (Scalar.subi v10 (base v9)) 64#32 = 1#1 ∧ Scalar.cmpi .slt (Scalar.subi v12 (base v11)) 64#32 = 1#1 := by
  rw [cond2_eq] at h2
  have : flag v9 v10 v11 v12 = 1#1 := by
    generalize flag v9 v10 v11 v12 = b at h2 ⊢
    revert b; decide
  exact IntOp.andi_eq_one.1 this

variable (m : (ℓ : Loc nD τ sig) → Buf (Elt Ideal) ℓ) (d : Dev nD)

abbrev GoodAt : Prop := Good (A0 m d) (A1 m d) (A2 m d) (A3 m d) (A4 m d) (A5 m d) (A6 m d)
abbrev sR : ℕ → ℝ := scoreR (A0 m d) (A1 m d) (A2 m d) (A3 m d) (A4 m d) (A5 m d) (A6 m d)
abbrev gN : ℕ → ℕ := segN (A6 m d)
abbrev xR (k : Fin 128) : ℕ → ℝ := featR (A0 m d) k

variable {m d} (hg : GoodAt m d)
include hg

theorem ids_range (t : Fin cfg0.N) (h : Fin 2) (i : Fin 10000) : (b6 d (Vin m d) t (ix3 0 h i)).toNat < 256 := by
  rw [b6_apply]; exact hg.ids _

theorem step_seg (t : Fin cfg0.N) (h : Fin 2) (i : Fin 10000) :
    (b6 d (Vin m d) t (ix3 0 h i)).toNat = gN m d (t.val * 20000 + h.val * 10000 + i.val) := by
  rw [b6_apply]
  exact seg_val hg _ _

theorem end_seg (t : Fin cfg0.N) (h k : Fin 2) :
    (b7 d (Vin m d) t (ix3 0 h k)).toNat = gN m d (t.val * 20000 + h.val * 10000 + k.val * 9999) := by
  rw [b7_apply, ends_apply]
  exact seg_val hg _ _

set_option maxRecDepth 200000 in
omit hg in
theorem uwAt_apply (g : Fin 256) (k : Fin 64) : uwAt d (Vin m d) (ix2 g k) = hidden (A1 m d) (A2 m d) (A3 m d) g k := by
  unfold uwAt hidden
  pointwise [uwOf, k0_pay41, w1b]
  simp only [b1_eq, b2_eq, b3_eq]

theorem step_score (t : Fin cfg0.N) (h : Fin 2) (i : Fin 10000) :
    rowScore (b0 d (Vin m d) t) (b2 d (Vin m d) t) (b4 d (Vin m d) t) (b5 d (Vin m d) t) (b6 d (Vin m d) t) (uwAt d (Vin m d)) (ids_range hg t) h i
      = (sR m d (t.val * 20000 + h.val * 10000 + i.val) : EReal) := by
  have := lt5 t
  refine Eq.trans ?_ (score_val hg (t.val * 20000 + h.val * 10000 + i.val) (by omega))
  unfold rowScore bigScore
  have e1 : (fun (f : Fin 128) (k : Fin 64) => b2 d (Vin m d) t (ix2 ⟨f.val, by omega⟩ k)) = fun f k => A2 m d (ix2 ⟨f.val, by omega⟩ k) :=
    funext fun f => funext fun k => b2_eq m d t _ k
  have e2 : (fun k : Fin 64 => b4 d (Vin m d) t (ix2 k 0)) = fun k => A4 m d (ix2 k 0) := funext fun k => b4_eq m d t k
  have e3 : b5 d (Vin m d) t (ix2 0 0) = A5 m d (ix1 0) := b5_eq m d t
  have e4 : rowOf (b0 d (Vin m d) t) h i = fun f => A0 m d (ix2 ⟨t.val * 20000 + h.val * 10000 + i.val, by omega⟩ f) := funext fun f => by
    show b0 d (Vin m d) t (ix2 _ f) = _
    rw [b0_apply]
    exact congrArg (fun z => A0 m d (ix2 z f)) (Fin.ext (by show t.val * 20000 + (h.val * 10000 + i.val) = t.val * 20000 + h.val * 10000 + i.val; omega))
  have e5 : (fun k : Fin 64 => uwAt d (Vin m d) (ix2 ⟨(b6 d (Vin m d) t (ix3 0 h i)).toNat, ids_range hg t h i⟩ k))
      = fun k => hidden (A1 m d) (A2 m d) (A3 m d) (segF (A6 m d) ⟨t.val * 20000 + h.val * 10000 + i.val, by omega⟩) k := funext fun k => by
    rw [uwAt_apply]
    refine congrArg (fun z => hidden _ _ _ z k) (Fin.ext ?_)
    show (b6 d (Vin m d) t (ix3 0 h i)).toNat = _
    rw [b6_apply]
    exact (Nat.mod_eq_of_lt (hg.ids _)).symm
  rw [e1, e2, e3, e4, e5]

theorem step_feat (t : Fin cfg0.N) (h : Fin 2) (i : Fin 10000) (k : Fin 128) :
    rowOf (b0 d (Vin m d) t) h i k = (xR m d k (t.val * 20000 + h.val * 10000 + i.val) : EReal) := by
  have := lt5 t
  refine Eq.trans ?_ (feat_val hg (t.val * 20000 + h.val * 10000 + i.val) (by omega) k)
  show b0 d (Vin m d) t (ix2 _ k) = _
  rw [b0_apply]
  exact congrArg (fun z => A0 m d (ix2 z k)) (Fin.ext (by show t.val * 20000 + (h.val * 10000 + i.val) = t.val * 20000 + h.val * 10000 + i.val; omega))

/-- Whichever branch a step takes. -/
theorem step_stepped (t : Fin cfg0.N) (mx : Ideal .f32) (dn : Vec Ideal S256x1 .f32) (acc : Vec Ideal S256x128 .f32) :
    Stepped (rowOf (b0 d (Vin m d) t)) (rowScore (b0 d (Vin m d) t) (b2 d (Vin m d) t) (b4 d (Vin m d) t) (b5 d (Vin m d) t) (b6 d (Vin m d) t) (uwAt d (Vin m d)) (ids_range hg t))
      (fun h i => (b6 d (Vin m d) t (ix3 0 h i)).toNat) mx dn acc
      (stepOf (b0 d (Vin m d) t) (b2 d (Vin m d) t) (b4 d (Vin m d) t) (b5 d (Vin m d) t) (b6 d (Vin m d) t) (b7 d (Vin m d) t) (uwAt d (Vin m d)) mx dn acc) := by
  have h5 := lt5 t
  unfold stepOf
  split
  next h =>
    have hf := flag_of _ _ _ _ h.2
    have q (h k : Fin 2) : (b7 d (Vin m d) t (ix3 0 h k)).toNat < 256 := by rw [end_seg hg]; exact seg_lt hg _
    have l0 : (lo0 (b7 d (Vin m d) t)).toNat = gN m d (t.val * 20000 + 0 * 10000 + 0 * 9999) := by rw [lo0_apply]; exact end_seg hg t 0 0
    have l1 : (hi0 (b7 d (Vin m d) t)).toNat = gN m d (t.val * 20000 + 0 * 10000 + 1 * 9999) := by rw [hi0_apply]; exact end_seg hg t 0 1
    have l2 : (lo1 (b7 d (Vin m d) t)).toNat = gN m d (t.val * 20000 + 1 * 10000 + 0 * 9999) := by rw [lo1_apply]; exact end_seg hg t 1 0
    have l3 : (hi1 (b7 d (Vin m d) t)).toNat = gN m d (t.val * 20000 + 1 * 10000 + 1 * 9999) := by rw [hi1_apply]; exact end_seg hg t 1 1
    refine narrow_stepped _ _ _ _ _ _ _ _ _ _ _ _ _ _ _ _ ?_ ?_ (fun i => ?_) (fun i => ?_)
    · rw [base_toNat _ (by rw [l0]; exact seg_lt hg _)]; omega
    · rw [base_toNat _ (by rw [l2]; exact seg_lt hg _)]; omega
    · refine window_of _ _ _ ?_ ?_ ?_ hf.1
      · rw [l0, step_seg hg]; exact seg_mono hg _ _ (by show _ ≤ t.val * 20000 + 0 * 10000 + i.val; omega) (by show t.val * 20000 + 0 * 10000 + i.val < _; omega)
      · rw [l1, step_seg hg]; exact seg_mono hg _ _ (by show t.val * 20000 + 0 * 10000 + i.val ≤ _; omega) (by omega)
      · rw [l1]; exact seg_lt hg _
    · refine window_of _ _ _ ?_ ?_ ?_ hf.2
      · rw [l2, step_seg hg]; exact seg_mono hg _ _ (by show _ ≤ t.val * 20000 + 1 * 10000 + i.val; omega) (by show t.val * 20000 + 1 * 10000 + i.val < _; omega)
      · rw [l3, step_seg hg]; exact seg_mono hg _ _ (by show t.val * 20000 + 1 * 10000 + i.val ≤ _; omega) (by omega)
      · rw [l3]; exact seg_lt hg _
  next h => exact wide_stepped _ _ _ _ _ _ _ _ _ _

omit hg in
variable (m d) in
/-- The tables hold the sums over the first `N` rows, with `M` subtracted. -/
structure Tables (N : ℕ) (M : ℝ) (dn : Vec Ideal S256x1 .f32) (acc : Vec Ideal S256x128 .f32) : Prop where
  dn_eq : ∀ g : Fin 256, dn (ix2 g 0) = (psum (sR m d) (fun _ => 1) (gN m d) g.val N M : EReal)
  acc_eq : ∀ (g : Fin 256) (k : Fin 128), acc (ix2 g k) = (psum (sR m d) (xR m d k) (gN m d) g.val N M : EReal)

theorem step_tables (t : Fin cfg0.N) (M : ℝ) (dn : Vec Ideal S256x1 .f32) (acc : Vec Ideal S256x128 .f32) (hT : Tables m d (t.val * 20000) M dn acc)
    (mx : Ideal .f32) (hmx : mx = (M : EReal)) (st : Step Ideal)
    (hst : st = stepOf (b0 d (Vin m d) t) (b2 d (Vin m d) t) (b4 d (Vin m d) t) (b5 d (Vin m d) t) (b6 d (Vin m d) t) (b7 d (Vin m d) t) (uwAt d (Vin m d)) mx dn acc) :
    (∀ (h : Fin 2) (i : Fin 10000), st.s (ix3 0 h i) = (sR m d (t.val * 20000 + h.val * 10000 + i.val) : EReal))
      ∧ ∃ M' : ℝ, st.mx = (M' : EReal) ∧ Tables m d ((t.val + 1) * 20000) M' st.d st.acc := by
  have S := step_stepped hg t mx dn acc
  rw [← hst] at S
  subst hmx
  have hs := step_score hg t
  have hx := step_feat hg t
  have hb := step_seg hg t
  generalize rowScore (b0 d (Vin m d) t) (b2 d (Vin m d) t) (b4 d (Vin m d) t) (b5 d (Vin m d) t) (b6 d (Vin m d) t) (uwAt d (Vin m d)) (ids_range hg t) = sc at S hs
  generalize rowOf (b0 d (Vin m d) t) = xs at S hx
  refine ⟨fun h i => (S.s h i).trans (hs h i), ?_⟩
  have r0 (i : Fin 10000) : t.val * 20000 + (0 : Fin 2).val * 10000 + i.val = t.val * 20000 + i.val := by show t.val * 20000 + 0 * 10000 + i.val = _; omega
  have r1 (i : Fin 10000) : t.val * 20000 + (1 : Fin 2).val * 10000 + i.val = t.val * 20000 + 10000 + i.val := by show t.val * 20000 + 1 * 10000 + i.val = _; omega
  have hs0 (i : Fin 10000) := (hs 0 i).trans (congrArg (fun n => (sR m d n : EReal)) (r0 i))
  have hs1 (i : Fin 10000) := (hs 1 i).trans (congrArg (fun n => (sR m d n : EReal)) (r1 i))
  have hx0 (i : Fin 10000) (k : Fin 128) := (hx 0 i k).trans (congrArg (fun n => (xR m d k n : EReal)) (r0 i))
  have hx1 (i : Fin 10000) (k : Fin 128) := (hx 1 i k).trans (congrArg (fun n => (xR m d k n : EReal)) (r1 i))
  have hb0 (i : Fin 10000) := (hb 0 i).trans (congrArg (gN m d) (r0 i))
  have hb1 (i : Fin 10000) := (hb 1 i).trans (congrArg (gN m d) (r1 i))
  have top (h : Fin 2) : IsR (topOf (sc h)) := fold_max_real' _ _ (fun x _ => .inl ⟨_, hs h x.2⟩) (0, 0) (Finset.mem_univ _) ⟨_, hs h 0⟩
  obtain ⟨M', hM'⟩ : IsR st.mx := by
    rw [S.mx]
    exact IsR.max (IsR.max (IsR.coe M) (top 0)) (top 1)
  refine ⟨M', hM', fun g => ?_, fun g k => ?_⟩
  · rw [S.d g, hM', hT.dn_eq g]
    have e := grow (sR m d) (fun _ => 1) (gN m d) g.val (t.val * 20000) 10000 M M' _ rfl (sc 0) (fun _ => 1) (sc 1) (fun _ => 1)
      (fun i => (b6 d (Vin m d) t (ix3 0 0 i)).toNat) (fun i => (b6 d (Vin m d) t (ix3 0 1 i)).toNat)
      hs0 (fun _ => rfl) hb0 hs1 (fun _ => rfl) hb1
    simp only [mul_one] at e
    rw [show (t.val + 1) * 20000 = t.val * 20000 + 10000 + 10000 by omega]
    exact e
  · rw [S.acc g k, hM', hT.acc_eq g k]
    rw [show (t.val + 1) * 20000 = t.val * 20000 + 10000 + 10000 by omega]
    exact grow (sR m d) (xR m d k) (gN m d) g.val (t.val * 20000) 10000 M M' _ rfl (sc 0) (fun i => xs 0 i k) (sc 1) (fun i => xs 1 i k)
      (fun i => (b6 d (Vin m d) t (ix3 0 0 i)).toNat) (fun i => (b6 d (Vin m d) t (ix3 0 1 i)).toNat)
      hs0 (fun i => hx0 i k) hb0 hs1 (fun i => hx1 i k) hb1

omit hg in
set_option maxRecDepth 200000 in
theorem tables_zero (M : ℝ) : Tables m d 0 M (k0_pay39 (F := Ideal)) (k0_pay40 (F := Ideal)) := by
  refine ⟨fun g => ?_, fun g k => ?_⟩
  · have e : k0_pay39 (F := Ideal) (ix2 g 0) = (0 : EReal) := by pointwise [k0_pay39]
    rw [e]; rfl
  · have e : k0_pay40 (F := Ideal) (ix2 g k) = (0 : EReal) := by pointwise [k0_pay40]
    rw [e]; rfl

omit hg in
theorem mx0_real : ∃ M : ℝ, (mx0 (F := Ideal)) = (M : EReal) := by
  refine IsR.of_ne ⟨?_, ?_⟩
  · show Ideal.ieee 8 23 0xF149F2CA#32 ≠ ⊤
    simp [Ideal.ieee]
    rw [← EReal.coe_pow, ← EReal.coe_mul]
    exact EReal.coe_ne_bot _
  · show Ideal.ieee 8 23 0xF149F2CA#32 ≠ ⊥
    simp [Ideal.ieee]
    rw [← EReal.coe_pow, ← EReal.coe_mul]
    exact EReal.coe_ne_top _

theorem stp_tables (n : ℕ) (hn : n < 5) :
    (∀ (h : Fin 2) (i : Fin 10000), (stp d (Vin m d) n).s (ix3 0 h i) = (sR m d (n * 20000 + h.val * 10000 + i.val) : EReal))
      ∧ ∃ M : ℝ, (stp d (Vin m d) n).mx = (M : EReal) ∧ Tables m d ((n + 1) * 20000) M (stp d (Vin m d) n).d (stp d (Vin m d) n).acc := by
  induction n with
  | zero =>
    obtain ⟨M, hM⟩ := mx0_real
    exact step_tables hg (pt 0) M _ _ (tables_zero M) _ hM _ rfl
  | succ n ih =>
    obtain ⟨-, M, hM, hT⟩ := ih (by omega)
    have e : (pt (n + 1)).val = n + 1 := Nat.mod_eq_of_lt hn
    have := step_tables hg (pt (n + 1)) M _ _ (by rw [e]; exact hT) _ hM _ rfl
    rw [e] at this
    exact this

/-! ## The arrays the call leaves -/

omit hg
variable (m d)

theorem idx8 : ∀ t : Fin cfg0.N, win0_8.index t = ![t.val, 0, 0] := by decide +kernel
theorem idx9 : ∀ t : Fin cfg0.N, win0_9.index t = ![0, 0] := by decide +kernel
theorem idx10 : ∀ t : Fin cfg0.N, win0_10.index t = ![0, 0] := by decide +kernel
theorem idx11 : ∀ t : Fin cfg0.N, win0_11.index t = ![0, 0] := by decide +kernel

set_option maxRecDepth 200000 in
theorem out_pooled : (V2 m d (Proc.devRef .tc main_v10_3) : Vec Ideal S256x128 .f32) = pooledOf (stp d (Vin m d) 4).d (stp d (Vin m d) 4).acc := by
  rw [V2_eq]
  unfold Vout
  rw [afterCall_pooled]
  refine (tcDat d (Vin m d) _ _).arrAt_eq_of_after_last 11 t0_4 (by decide +kernel) _ fun j => ?_
  blk_simp
  rfl

/-- The score of a block's row, as the array has it. -/
def scoreArr : Vec Ideal S5x2x10000 .f32 := fun y => (stp d (Vin m d) (y 0).val).s (ix3 0 (y 1) (y 2))

set_option maxRecDepth 200000 in
theorem out_scores : (V2 m d (Proc.devRef .tc main_v10_0) : Vec Ideal S5x2x10000 .f32) = scoreArr m d := by
  rw [V2_eq]
  unfold Vout
  rw [afterCall_scores]
  refine (tcDat d (Vin m d) _ _).arrAt_eq_of_covers 8 _ (by decide +kernel) fun t hf y => ?_
  have y0 : (y 0).val < 1 := (y 0).isLt
  have e0 : ((win0_8.blk t).view.emb y 0).val = t.val := by blk_simp [idx8]
  have e1 : ((win0_8.blk t).view.emb y 1).val = (y 1).val := by blk_simp [idx8]
  have e2 : ((win0_8.blk t).view.emb y 2).val = (y 2).val := by blk_simp [idx8]
  show (stp d (Vin m d) t.val).s y = (stp d (Vin m d) ((win0_8.blk t).view.emb y 0).val).s (ix3 0 ((win0_8.blk t).view.emb y 1) ((win0_8.blk t).view.emb y 2))
  rw [e0]
  refine congrArg _ (funext fun a => Fin.ext ?_)
  fin_cases a
  · show (y 0).val = 0
    omega
  · exact e1.symm
  · exact e2.symm

set_option maxRecDepth 200000 in
theorem out_max : (V2 m d (Proc.devRef .tc main_v10_1) : FVec Ideal S1x256 .f32) = k0_pay1 (F := Ideal) (stp d (Vin m d) 4).mx := by
  rw [V2_eq]
  unfold Vout
  rw [afterCall_max]
  refine (tcDat d (Vin m d) _ _).arrAt_eq_of_after_last 9 t0_4 (by decide +kernel) _ fun j => ?_
  blk_simp
  rfl

set_option maxRecDepth 200000 in
theorem out_denom : (V2 m d (Proc.devRef .tc main_v10_2) : Vec Ideal S256x1 .f32) = (stp d (Vin m d) 4).d := by
  rw [V2_eq]
  unfold Vout
  rw [afterCall_denom]
  refine (tcDat d (Vin m d) _ _).arrAt_eq_of_after_last 10 t0_4 (by decide +kernel) _ fun j => ?_
  blk_simp
  exact congrFun (ldD _) j

/-! ## From the call to the results -/

theorem V5_pooled : (V5 m d (Proc.devRef .tc main_v10_3) : Vec Ideal S256x128 .f32) = pooledOf (stp d (Vin m d) 4).d (stp d (Vin m d) 4).acc := by
  rw [← out_pooled]
  have e4 : V4 m d (Proc.devRef .tc main_v10_3) = V3 m d (Proc.devRef .tc main_v10_3) := by
    unfold V4 weighed
    refine Function.update_of_ne (fun e => ?_) _ _
    have e := Proc.devRef_injective _ e
    revert e; decide
  have e5 : V5 m d (Proc.devRef .tc main_v10_3) = V4 m d (Proc.devRef .tc main_v10_3) := by
    unfold V5 ops3
    after_results_simp
  rw [e5, e4]
  unfold V3 ops2
  after_results_simp

theorem V3_v12 : (V3 m d (Proc.devRef .tc main_v12) : FVec Ideal S100352 .f32)
    = pad S100352 ![0] ![352] ![0] (shapeCast S100000 (scoreArr m d) shapeCasts_S5x2x10000_S100000) (sitofp (F := Ideal) .f32 (constantI S_ 32 0#32)) pads_S100000_S100352_03520 h_S_ := by
  rw [← out_scores]
  unfold V3 ops2
  after_results_simp
  rfl

theorem V3_v14 : (V3 m d (Proc.devRef .tc main_v14) : FVec Ideal S256 .f32)
    = shapeCast S256 (k0_pay1 (F := Ideal) (stp d (Vin m d) 4).mx) shapeCasts_S1x256_S256 := by
  rw [← out_max]
  unfold V3 ops2
  after_results_simp
  rfl

theorem V3_v15 : (V3 m d (Proc.devRef .tc main_v15) : FVec Ideal S256 .f32)
    = shapeCast S256 (stp d (Vin m d) 4).d shapeCasts_S256x1_S256 := by
  rw [← out_denom]
  unfold V3 ops2
  after_results_simp
  rfl

theorem V5_v17 : (V5 m d (Proc.devRef .tc main_v17) : FVec Ideal S100000 .f32)
    = extractStridedSlice S100000 ![0] (weights (V3 m) d) slices_S100352_S100000_0 := by
  have e4 : V4 m d (Proc.devRef .tc main_v16) = weights (V3 m) d := by
    unfold V4 weighed
    exact Function.update_self _ _ _
  rw [← e4]
  unfold V5 ops3
  after_results_simp

end Cert.Proof.Pool

end
-- ==== Proof.KernelResult.lean ====
/-
  The kernel's two results at an index, in the reals.
-/
module

public import proofs.«01_k».proof.Proof.KernelValue

@[expose] public section

noncomputable section

namespace Cert.Proof.Pool

open Cert.KernelIdeal Cert.KernelIdeal.Gen

open Idealize.ShloMosaic
open Idealize.ShloMosaic.TcCoe
open Idealize.ShloMosaic.StableHlo

variable (m : (ℓ : Loc nD τ sig) → Buf (Elt Ideal) ℓ) (d : Dev nD)

set_option maxRecDepth 200000 in
theorem pay2_apply (dn : Vec Ideal S256x1 .f32) (acc : Vec Ideal S256x128 .f32) (g : Fin 256) (k : Fin 128) :
    k0_pay2 dn acc (ix2 g k) = (if (0 : EReal) < dn (ix2 g 0) then Ideal.div (acc (ix2 g k)) (dn (ix2 g 0)) else 0 : EReal) := by
  pointwise [k0_pay2]

set_option maxRecDepth 200000 in
theorem v12_at (s : FVec Ideal S5x2x10000 .f32) (z : FVec Ideal S_ .f32) (r : ℕ) (h : r < 100000) :
    pad S100352 ![0] ![352] ![0] (shapeCast S100000 s shapeCasts_S5x2x10000_S100000) z pads_S100000_S100352_03520 h_S_ (ix1 ⟨r, by omega⟩)
      = s (ix3 ⟨r / 20000, by omega⟩ ⟨r / 10000 % 2, by omega⟩ ⟨r % 10000, by omega⟩) := by
  pointwise []
  exact dif_pos h

set_option maxRecDepth 200000 in
theorem v13_at (s : IVec S100000 32) (z : IVec S_ 32) (r : ℕ) (h : r < 100000) :
    pad S100352 ![0] ![352] ![0] s z pads_S100000_S100352_03520 h_S_ (ix1 ⟨r, by omega⟩)
      = s (ix1 ⟨r, h⟩) := by
  pointwise []
  exact dif_pos h

theorem cell_eq (n : ℕ) : cell n = ix1 ⟨n % 256, Nat.mod_lt _ (by decide)⟩ := by
  unfold cell
  funext a
  fin_cases a
  rfl

set_option maxRecDepth 200000 in
theorem v14_at (x : Ideal .f32) (g : Fin 256) : shapeCast S256 (k0_pay1 (F := Ideal) x) shapeCasts_S1x256_S256 (ix1 g) = x := by
  pointwise [k0_pay1]

set_option maxRecDepth 200000 in
theorem v15_at (x : Vec Ideal S256x1 .f32) (g : Fin 256) : shapeCast S256 x shapeCasts_S256x1_S256 (ix1 g) = x (ix2 g 0) := by
  pointwise []

set_option maxRecDepth 200000 in
theorem v17_at (x : FVec Ideal S100352 .f32) (r : ℕ) (h : r < 100000) : extractStridedSlice S100000 ![0] x slices_S100352_S100000_0 (ix1 ⟨r, h⟩) = x (ix1 ⟨r, by omega⟩) := by
  pointwise []

variable {m d} (hg : GoodAt m d)
include hg

theorem pooled_kernel (g : Fin 256) (k : Fin 128) :
    (V5 m d (Proc.devRef .tc main_v10_3) : Vec Ideal S256x128 .f32) (ix2 g k) = (poolR (A0 m d) (A1 m d) (A2 m d) (A3 m d) (A4 m d) (A5 m d) (A6 m d) g.val k : EReal) := by
  obtain ⟨-, M, -, hT⟩ := stp_tables hg 4 (by decide)
  rw [V5_pooled]
  unfold pooledOf
  rw [ldD, ldA, pay2_apply, hT.dn_eq, hT.acc_eq]
  exact pooled_eq _ _ _ _ _ _

theorem attn_kernel (r : ℕ) (h : r < 100000) :
    (V5 m d (Proc.devRef .tc main_v17) : FVec Ideal S100000 .f32) (ix1 ⟨r, h⟩) = (attnR (A0 m d) (A1 m d) (A2 m d) (A3 m d) (A4 m d) (A5 m d) (A6 m d) r : EReal) := by
  obtain ⟨-, M, hM, hT⟩ := stp_tables hg 4 (by decide)
  rw [show (4 + 1) * 20000 = 100000 from rfl] at hT
  rw [V5_v17, v17_at]
  unfold weights
  rw [V3_v12, V3_v13, V3_v14, V3_v15]
  unfold attn
  rw [v12_at _ _ r h, v13_at _ _ r h, cell_eq, cell_eq, v14_at, v15_at, hM, hT.dn_eq]
  have es : scoreArr m d (ix3 ⟨r / 20000, by omega⟩ ⟨r / 10000 % 2, by omega⟩ ⟨r % 10000, by omega⟩) = (sR m d r : EReal) := by
    refine ((stp_tables hg (r / 20000) (by omega)).1 ⟨r / 10000 % 2, by omega⟩ ⟨r % 10000, by omega⟩).trans (congrArg (fun n => (sR m d n : EReal)) ?_)
    show r / 20000 * 20000 + r / 10000 % 2 * 10000 + r % 10000 = r
    omega
  rw [es]
  have eg : (A6 m d (ix1 ⟨r, h⟩)).toNat % 256 = gN m d r := by
    rw [Nat.mod_eq_of_lt (hg.ids _)]
    exact seg_val hg r h
  rw [← attn_eq (sR m d) (gN m d) 100000 r M h, ← eg]
  have one : (FloatOps.ofBits .f32 0x3F800000#32 : Ideal .f32) = (1 : EReal) := Ideal.ofBits_one_f32
  show Ideal.exp _ * Ideal.div (FloatOps.ofBits .f32 0x3F800000#32 : Ideal .f32) _ = _
  rw [one]
  rfl

end Cert.Proof.Pool

end
-- ==== Proof.RefDefs.lean ====
/-
  The reference's two results as a few named steps: wrapping an index, taking the rows of a table, the scores, the largest score of a
  segment, the exponentials, their sums and the attention.
-/
module

public import proofs.«01_k».proof.Proof.Gen.ReferenceIdeal.Run
public import proofs.«01_k».proof.Proof.Model

@[expose] public section

noncomputable section

namespace Cert.Proof.Pool.Ref

open Cert.ReferenceIdeal Cert.ReferenceIdeal.Gen Cert.ReferenceIdeal.Value

open Idealize.ShloMosaic Idealize.ShloMosaic.TcCoe Idealize.SL.Sem

variable (x0 : FVec Ideal S100000x128 .f32) (x1 : FVec Ideal S256x128 .f32) (x2 : FVec Ideal S256x64 .f32) (x3 : FVec Ideal S64 .f32)
  (x4 : FVec Ideal S64x1 .f32) (x5 : FVec Ideal S1 .f32) (x6 : IVec S100000 32)

/-- An index below zero counted from the end. -/
def wrap : IVec S100000 32 :=
  select (cmpi .slt x6 (broadcastInDim S100000 ![] bcast_S_S100000 (constantI S_ 32 0#32)))
    (addi x6 (broadcastInDim S100000 ![] bcast_S_S100000 (constantI S_ 32 256#32))) x6

/-- The same, as a column. -/
def col (b : IVec S100000 32) : IVec S100000x1 32 := broadcastInDim S100000x1 ![0] bcast_S100000_S100000x1_0 b

/-- Whether an index lies in the table. -/
def inb (i : IVec S100000x1 32) : IVec S100000 1 :=
  Host.reduce IntOp.andi (andi (cmpi .sge i (broadcastInDim S100000x1 ![] bcast_S_S100000x1 (constantI S_ 32 0#32)))
    (cmpi .sle i (broadcastInDim S100000x1 ![0, 1] bcast_S1x1_S100000x1_0_1 (broadcastInDim S1x1 ![1] bcast_S1_S1x1_1 (constantI S1 32 255#32)))))
    (constantI S_ 1 1#1) reducesTo_S100000x1_S100000_d1 h_S_

/-- The rows of a table at the indices. -/
def takeRows : FVec Ideal S100000x128 .f32 :=
  select (broadcastInDim S100000x128 ![0] bcast_S100000_S100000x128_0 (inb (col (wrap x6))))
    (Host.gather gather_S256x128_S100000x1_S100000x128_1_0_n_n_0_1_1128 x1 (col (wrap x6)))
    (broadcastInDim S100000x128 ![] bcast_S_S100000x128 (constant S_ .f32 0x7FC00000#32))

/-- The entries of a vector at the indices. -/
def takeOne (y : FVec Ideal S256 .f32) : FVec Ideal S100000 .f32 :=
  select (inb (col (wrap x6))) (Host.gather gather_S256_S100000x1_S100000_n_0_n_n_0_1_1 y (col (wrap x6)))
    (broadcastInDim S100000 ![] bcast_S_S100000 (constant S_ .f32 0x7FC00000#32))

/-- The scores. -/
def scores (t : FVec Ideal S100000x128 .f32) : FVec Ideal S100000 .f32 :=
  shapeCast _ (addf (Host.dotGeneral (F := Ideal) dot_S100000x64_S64x1_S100000x1_1_0_0_1_n_n none
    (maximumf (addf (Host.dotGeneral (F := Ideal) dot_S100000x256_S256x64_S100000x64_1_0_0_1_n_n none
      (concatenate S100000x256 1 [⟨S100000x128, x0⟩, ⟨S100000x128, t⟩] concatenates_S100000x128_S100000x128_S100000x256_d1) x2)
      (broadcastInDim S100000x64 ![0, 1] bcast_S1x64_S100000x64_0_1 (broadcastInDim S1x64 ![1] bcast_S64_S1x64_1 x3)))
      (broadcastInDim S100000x64 ![] bcast_S_S100000x64 (constant S_ .f32 0x00000000#32))) x4)
    (broadcastInDim S100000x1 ![0, 1] bcast_S1x1_S100000x1_0_1 (broadcastInDim S1x1 ![1] bcast_S1_S1x1_1 x5))) shapeCasts_S100000x1_S100000

/-- Each segment's largest score. -/
def segMax (s : FVec Ideal S100000 .f32) : FVec Ideal S256 .f32 :=
  Host.reduce FloatOps.maximumf (select (cmpi .eq (broadcastInDim S100000x256 ![0, 1] bcast_S100000x1_S100000x256_0_1 (col x6))
    (broadcastInDim S100000x256 ![0, 1] bcast_S1x256_S100000x256_0_1 (broadcastInDim S1x256 ![1] bcast_S256_S1x256_1 (iotaInDim S256 32 0))))
    (broadcastInDim S100000x256 ![0, 1] bcast_S100000x1_S100000x256_0_1 (broadcastInDim S100000x1 ![0] bcast_S100000_S100000x1_0 s))
    (broadcastInDim S100000x256 ![] bcast_S_S100000x256 (id (constant S_ .f32 0xFF800000#32))))
    (constant S_ .f32 0xFF800000#32) reducesTo_S100000x256_S256_d0 h_S_

/-- The exponentials. -/
def exps (s : FVec Ideal S100000 .f32) : FVec Ideal S100000 .f32 := Host.exp (subf s (takeOne x6 (segMax x6 s)))

/-- Each segment's sum of them. -/
def sums (e : FVec Ideal S100000 .f32) : FVec Ideal S256 .f32 :=
  Host.scatterAdd scatter_S256_S100000x1_S100000_n_0_0_1 (broadcastInDim S256 ![] bcast_S_S256 (constant S_ .f32 0x00000000#32)) (col x6) e

/-- The attention. -/
def attn (s : FVec Ideal S100000 .f32) : FVec Ideal S100000 .f32 := Host.divf (exps x6 s) (takeOne x6 (sums x6 (exps x6 s)))

/-- The pooled features. -/
def pooled (a : FVec Ideal S100000 .f32) : FVec Ideal S256x128 .f32 :=
  Host.scatterAdd scatter_S256x128_S100000x1_S100000x128_1_0_0_1 (broadcastInDim S256x128 ![] bcast_S_S256x128 (constant S_ .f32 0x00000000#32)) (col x6)
    (mulf x0 (broadcastInDim S100000x128 ![0, 1] bcast_S100000x1_S100000x128_0_1 (broadcastInDim S100000x1 ![0] bcast_S100000_S100000x1_0 a)))

/-- The scores of the arguments. -/
def theScores : FVec Ideal S100000 .f32 := scores x0 x2 x3 x4 x5 (takeRows x1 x6)

variable (m : (ℓ : Loc nD τ sig) → Buf (Elt Ideal) ℓ) (c : Dev nD)

theorem res28 : res_main_v28 m c = attn (m ((c.tc : Thread nD τ).loc main_arg6)) (theScores (m ((c.tc : Thread nD τ).loc main_arg0))
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))) := by
  sl_kernel_rfl

theorem res34 : res_main_v34 m c = pooled (m ((c.tc : Thread nD τ).loc main_arg0)) (m ((c.tc : Thread nD τ).loc main_arg6)) (res_main_v28 m c) := by
  sl_kernel_rfl

end Cert.Proof.Pool.Ref
-- ==== Proof.RefValue.lean ====
/-
  The reference's steps read at an index: the takes, the scores, the scatters, and from them the two results in the reals.
-/
module

public import proofs.«01_k».proof.Proof.RefDefs
public import Idealize.ShloMosaic.Lib.ReduceAll
public import Idealize.ShloMosaic.Lib.ValueIdxRank1
public import Idealize.ShloMosaic.Lib.Routing.OpsPair
public import Idealize.ShloMosaic.Lib.Routing.OpsSet

@[expose] public section

noncomputable section

namespace Cert.Proof.Pool.Ref

open Cert.ReferenceIdeal Cert.ReferenceIdeal.Gen
open Idealize.ShloMosaic Idealize.ShloMosaic.TcCoe

variable {x0 : FVec Ideal S100000x128 .f32} {x1 : FVec Ideal S256x128 .f32} {x2 : FVec Ideal S256x64 .f32} {x3 : FVec Ideal S64 .f32}
  {x4 : FVec Ideal S64x1 .f32} {x5 : FVec Ideal S1 .f32} {x6 : IVec S100000 32}

/-! ## Taking at the indices -/

theorem col_apply (b : IVec S100000 32) (r : Fin 100000) (z : Fin 1) : col b (ix2 r z) = b (ix1 r) := by
  pointwise [col]

theorem sge_zero (v : BitVec 32) (h : v.toNat < 256) : IntOp.cmpi .sge v 0#32 = 1#1 := by
  simp only [IntOp.cmpi, ofBool_one, BitVec.sle_eq_decide, decide_eq_true_eq, BitVec.toInt_eq_toNat_cond, BitVec.toNat_ofNat, Nat.reducePow, Nat.reduceMod]
  omega

theorem sle_top (v : BitVec 32) (h : v.toNat < 256) : IntOp.cmpi .sle v 255#32 = 1#1 := by
  simp only [IntOp.cmpi, ofBool_one, BitVec.sle_eq_decide, decide_eq_true_eq, BitVec.toInt_eq_toNat_cond, BitVec.toNat_ofNat, Nat.reducePow, Nat.reduceMod]
  omega

theorem toInt_small (v : BitVec 32) (h : v.toNat < 256) : v.toInt = (v.toNat : Int) := by
  rw [BitVec.toInt_eq_toNat_cond]
  omega

theorem word_nat (v : BitVec 32) : v = BitVec.ofNat 32 v.toNat := by
  apply BitVec.eq_of_toNat_eq
  rw [BitVec.toNat_ofNat, Nat.mod_eq_of_lt v.isLt]

section ids
variable (h6 : ∀ i, (x6 i).toNat < 256)
include h6

theorem wrap_eq : wrap x6 = x6 := by
  funext i
  exact Routing.wrap_of_lt _ _ (lt_trans (h6 i) (by decide))

theorem inb_one (r : Fin 100000) : inb (col (wrap x6)) (ix1 r) = 1#1 := by
  rw [wrap_eq h6]
  unfold inb
  refine Host.reduce_andi_one _ _ _ _ _ rfl fun i => ?_
  idx_vars i
  have e : ∀ z, col x6 (ix2 i0 z) = x6 (ix1 i0) := col_apply x6 i0
  show IntOp.andi (IntOp.cmpi .sge (col x6 (ix2 i0 i1)) 0#32) (IntOp.cmpi .sle (col x6 (ix2 i0 i1)) 255#32) = 1#1
  rw [e, sge_zero _ (h6 _), sle_top _ (h6 _)]
  rfl

set_option maxRecDepth 200000 in
theorem takeOne_apply (y : FVec Ideal S256 .f32) (r : Fin 100000) : takeOne x6 y (ix1 r) = y (ix1 ⟨(x6 (ix1 r)).toNat, h6 _⟩) := by
  pointwise [takeOne]
  rw [inb_one h6]
  refine (if_pos rfl).trans (Routing.gather_take1 _ rfl rfl rfl rfl _ _ _ _ ?_ (by decide))
  rw [wrap_eq h6]
  exact (col_apply x6 r 0).trans (word_nat _)

set_option maxRecDepth 200000 in
theorem takeRows_apply (r : Fin 100000) (k : Fin 128) : takeRows x1 x6 (ix2 r k) = x1 (ix2 ⟨(x6 (ix1 r)).toNat, h6 _⟩ k) := by
  pointwise [takeRows]
  rw [inb_one h6]
  refine (if_pos rfl).trans (Routing.gather_row _ rfl rfl rfl rfl rfl _ _ _ _ _ ?_ (by decide))
  rw [wrap_eq h6]
  exact (col_apply x6 r 0).trans (word_nat _)
end ids

/-! ## Scattering at the indices -/

theorem scatterAdd_at {s si su : Shape} {w : ℕ} (d : ScatterDims s si su) (x : FVec Ideal s .f32) (idx : IVec si w) (u : FVec Ideal su .f32) (i : s.Idx) :
    (Host.scatterAdd d x idx u : FVec Ideal s .f32) i = x i + ∑ j, if d.resultIdx? j idx = some i then u j else 0 := by
  show Ideal.hostScatterAdd d x idx u i = _
  unfold Ideal.hostScatterAdd
  rw [Finset.sum_filter]

theorem zero1 (i : S256.Idx) : (broadcastInDim S256 ![] bcast_S_S256 (constant S_ .f32 0x00000000#32) : FVec Ideal S256 .f32) i = 0 :=
  Ideal.ofBits_zero_f32

theorem zero2 (i : S256x128.Idx) : (broadcastInDim S256x128 ![] bcast_S_S256x128 (constant S_ .f32 0x00000000#32) : FVec Ideal S256x128 .f32) i = 0 :=
  Ideal.ofBits_zero_f32

theorem lands1 (idx : IVec S100000x1 32) (r : Fin 100000) (g : Fin 256) :
    scatter_S256_S100000x1_S100000_n_0_0_1.resultIdx? (ix1 r) idx = some (ix1 g) ↔ (idx (ix2 r 0)).toInt = (g.val : Int) := by
  refine (Routing.resultIdx?_ix1 _ _ _ _).trans ?_
  rw [show scatter_S256_S100000x1_S100000_n_0_0_1.window (ix1 r) 0 = 0 from rfl,
    show scatter_S256_S100000x1_S100000_n_0_0_1.start (ix1 r) idx 0 = (idx (ix2 r 0)).toInt from
      congrArg (fun i => (idx i).toInt) (funext fun a => Fin.ext (by fin_cases a <;> rfl))]
  simp

theorem lands2 (idx : IVec S100000x1 32) (r : Fin 100000) (f : Fin 128) (g : Fin 256) (k : Fin 128) :
    scatter_S256x128_S100000x1_S100000x128_1_0_0_1.resultIdx? (ix2 r f) idx = some (ix2 g k) ↔ (idx (ix2 r 0)).toInt = (g.val : Int) ∧ f = k := by
  refine (Routing.resultIdx?_ix2 _ _ _ _ _).trans ?_
  rw [show scatter_S256x128_S100000x1_S100000x128_1_0_0_1.window (ix2 r f) 0 = 0 from rfl,
    show scatter_S256x128_S100000x1_S100000x128_1_0_0_1.window (ix2 r f) 1 = f.val from rfl,
    show scatter_S256x128_S100000x1_S100000x128_1_0_0_1.start (ix2 r f) idx 1 = 0 from rfl,
    show scatter_S256x128_S100000x1_S100000x128_1_0_0_1.start (ix2 r f) idx 0 = (idx (ix2 r 0)).toInt from
      congrArg (fun i => (idx i).toInt) (funext fun a => Fin.ext (by fin_cases a <;> rfl))]
  simp [Fin.ext_iff]

section ids
variable (h6 : ∀ i, (x6 i).toNat < 256)
include h6

theorem lands1' (r : Fin 100000) (g : Fin 256) :
    scatter_S256_S100000x1_S100000_n_0_0_1.resultIdx? (ix1 r) (col x6) = some (ix1 g) ↔ (x6 (ix1 r)).toNat = g.val := by
  rw [lands1, col_apply, toInt_small _ (h6 _)]
  exact Int.natCast_inj

omit h6 in
theorem sum_one (f : S100000.Idx → EReal) : ∑ j, f j = ∑ r : Fin 100000, f (ix1 r) :=
  (Equiv.sum_comp (ValueIdx.idxEquiv1 (n := 100000)).symm f).symm

theorem sums_apply (e : FVec Ideal S100000 .f32) (g : Fin 256) :
    sums x6 e (ix1 g) = ∑ r : Fin 100000, if (x6 (ix1 r)).toNat = g.val then e (ix1 r) else 0 := by
  refine (scatterAdd_at _ _ _ _ _).trans ?_
  rw [zero1, zero_add]
  exact (sum_one _).trans (Finset.sum_congr rfl fun r _ => if_congr (lands1' h6 r g) rfl rfl)

theorem scatter2_apply (u : FVec Ideal S100000x128 .f32) (g : Fin 256) (k : Fin 128) :
    (Host.scatterAdd scatter_S256x128_S100000x1_S100000x128_1_0_0_1 (broadcastInDim S256x128 ![] bcast_S_S256x128 (constant S_ .f32 0x00000000#32)) (col x6) u
      : FVec Ideal S256x128 .f32) (ix2 g k) = ∑ r : Fin 100000, if (x6 (ix1 r)).toNat = g.val then u (ix2 r k) else 0 := by
  refine (scatterAdd_at _ _ _ _ _).trans ?_
  rw [zero2, zero_add]
  refine (ValueIdx.sum_idx2 (n0 := 100000) (n1 := 128) _).trans (Finset.sum_congr rfl fun r _ => ?_)
  have e : ∀ f : Fin 128, scatter_S256x128_S100000x1_S100000x128_1_0_0_1.resultIdx? (ix2 r f) (col x6) = some (ix2 g k)
      ↔ (x6 (ix1 r)).toNat = g.val ∧ f = k := fun f => by
    rw [lands2, col_apply, toInt_small _ (h6 _), Int.natCast_inj]
  refine (Finset.sum_congr rfl fun f _ => if_congr (e f) rfl rfl).trans ?_
  by_cases h : (x6 (ix1 r)).toNat = g.val
  · simp only [h, true_and, Finset.sum_ite_eq', Finset.mem_univ, if_true]
    rfl
  · simp [h]

set_option maxRecDepth 200000 in
theorem pooled_apply (a : FVec Ideal S100000 .f32) (g : Fin 256) (k : Fin 128) :
    pooled x0 x6 a (ix2 g k) = ∑ r : Fin 100000, if (x6 (ix1 r)).toNat = g.val then x0 (ix2 r k) * a (ix1 r) else 0 := by
  refine (scatter2_apply h6 _ g k).trans (Finset.sum_congr rfl fun r _ => if_congr Iff.rfl ?_ rfl)
  pointwise []
end ids

/-! ## The scores -/

set_option maxRecDepth 200000 in
/-- A segment's largest score, from minus infinity. -/
theorem segMax_apply (s : FVec Ideal S100000 .f32) (g : Fin 256) :
    segMax x6 s (ix1 g) = Finset.univ.fold Max.max ⊥ fun i : Fin 100000 => if (x6 (ix1 i)).toNat = g.val then s (ix1 i) else ⊥ := by
  pointwise [segMax, col]
  rw [bot_word]
  refine congrArg (fun f => Finset.fold max ⊥ f Finset.univ) (funext fun i => ?_)
  rw [cmpi_eq_one]
  have e : (x6 (ix1 i) = BitVec.ofNat 32 g.val) ↔ (x6 (ix1 i)).toNat = g.val := by
    rw [← BitVec.toNat_inj, BitVec.toNat_ofNat, Nat.mod_eq_of_lt (by have := g.isLt; omega)]
  by_cases c : (x6 (ix1 i)).toNat = g.val
  · rw [if_pos (e.2 c), if_pos c]
    exact if_pos rfl
  · rw [if_neg (fun q => c (e.1 q)), if_neg c]
    exact (if_neg (by decide)).trans bot_word

section good
variable (hg : Good x0 x1 x2 x3 x4 x5 x6)
include hg

set_option maxRecDepth 200000 in
theorem scores_apply (r : ℕ) (h : r < 100000) : theScores x0 x1 x2 x3 x4 x5 x6 (ix1 ⟨r, h⟩) = (scoreR x0 x1 x2 x3 x4 x5 x6 r : EReal) := by
  rw [← score_val hg r h]
  unfold theScores
  pointwise [scores]
  unfold bigScore scoreOf hidden
  refine congrArg (· + _) (Finset.sum_congr rfl fun k _ => ?_)
  rw [mul_comm, add_assoc]
  refine congrArg (fun z => _ * max z _) ?_
  refine congrArg₂ (· + ·) (Finset.sum_congr rfl fun f _ => mul_comm _ _) (congrArg (· + _) (Finset.sum_congr rfl fun f _ => ?_))
  rw [takeRows_apply hg.ids]
  refine congrArg (fun i => x1 (ix2 i f) * _) (Fin.ext ?_)
  exact (Nat.mod_eq_of_lt (hg.ids _)).symm

/-- The largest score of a row's segment is a real. -/
theorem segMax_real (r : ℕ) (h : r < 100000) :
    ∃ M : ℝ, segMax x6 (theScores x0 x1 x2 x3 x4 x5 x6) (ix1 ⟨segN x6 r, seg_lt hg r⟩) = (M : EReal) := by
  generalize hS : theScores x0 x1 x2 x3 x4 x5 x6 = S
  have hs : ∀ i : Fin 100000, IsR (S (ix1 i)) := fun i => by
    rw [← hS]
    exact ⟨_, scores_apply hg i.val i.isLt⟩
  have e := segMax_apply (x6 := x6) S ⟨segN x6 r, seg_lt hg r⟩
  have hr := fold_max_real' Finset.univ (fun i : Fin 100000 => if (x6 (ix1 i)).toNat = segN x6 r then S (ix1 i) else ⊥)
    (fun i _ => by
      by_cases c : (x6 (ix1 i)).toNat = segN x6 r
      · exact Or.inl (by rw [if_pos c]; exact hs i)
      · exact Or.inr (if_neg c)) ⟨r, h⟩ (Finset.mem_univ _) (by rw [if_pos (seg_val hg r h)]; exact hs _)
  obtain ⟨M, hM⟩ := hr
  exact ⟨M, e.trans hM⟩

theorem exps_apply (r : ℕ) (h : r < 100000) :
    exps x6 (theScores x0 x1 x2 x3 x4 x5 x6) (ix1 ⟨r, h⟩)
      = Ideal.exp ((scoreR x0 x1 x2 x3 x4 x5 x6 r : EReal) - segMax x6 (theScores x0 x1 x2 x3 x4 x5 x6) (ix1 ⟨segN x6 r, seg_lt hg r⟩)) := by
  show Ideal.exp (theScores x0 x1 x2 x3 x4 x5 x6 (ix1 ⟨r, h⟩) - takeOne x6 (segMax x6 (theScores x0 x1 x2 x3 x4 x5 x6)) (ix1 ⟨r, h⟩)) = _
  rw [scores_apply hg r h, takeOne_apply hg.ids]
  exact congrArg (fun i => Ideal.exp (_ - segMax x6 (theScores x0 x1 x2 x3 x4 x5 x6) (ix1 i))) (Fin.ext (seg_val hg r h))

theorem sums_real (r : ℕ) (M : ℝ)
    (hM : segMax x6 (theScores x0 x1 x2 x3 x4 x5 x6) (ix1 ⟨segN x6 r, seg_lt hg r⟩) = (M : EReal)) :
    sums x6 (exps x6 (theScores x0 x1 x2 x3 x4 x5 x6)) (ix1 ⟨segN x6 r, seg_lt hg r⟩)
      = (psum (scoreR x0 x1 x2 x3 x4 x5 x6) (fun _ => 1) (segN x6) (segN x6 r) 100000 M : EReal) := by
  rw [sums_apply hg.ids]
  unfold psum
  rw [Finset.sum_range, coe_sum]
  refine Finset.sum_congr rfl fun i _ => ?_
  rw [coe_ite]
  have e := seg_val hg i.val i.isLt
  by_cases c : segN x6 i.val = segN x6 r
  · rw [if_pos (e.trans c), if_pos c, mul_one, ← exp_sub]
    refine (exps_apply hg i.val i.isLt).trans (congrArg (fun z => Ideal.exp (_ - z)) ?_)
    rw [← hM]
    exact congrArg (fun j => segMax x6 (theScores x0 x1 x2 x3 x4 x5 x6) (ix1 j)) (Fin.ext c)
  · rw [if_neg (fun q => c (e.symm.trans q)), if_neg c]

omit hg in
theorem divf_at {s : Shape} (a b : FVec Ideal s .f32) (i : s.Idx) : (Host.divf a b : FVec Ideal s .f32) i = Ideal.div (a i) (b i) := rfl

/-- The reference's attention. -/
theorem attn_ref (r : ℕ) (h : r < 100000) :
    attn x6 (theScores x0 x1 x2 x3 x4 x5 x6) (ix1 ⟨r, h⟩) = (attnR x0 x1 x2 x3 x4 x5 x6 r : EReal) := by
  obtain ⟨M, hM⟩ := segMax_real hg r h
  unfold attn
  refine (divf_at _ _ _).trans ?_
  rw [exps_apply hg r h, hM, takeOne_apply hg.ids]
  have e := sums_real hg r M hM
  refine (congrArg (Ideal.div _) ((congrArg (fun j => sums x6 (exps x6 (theScores x0 x1 x2 x3 x4 x5 x6)) (ix1 j)) (Fin.ext (seg_val hg r h))).trans e)).trans ?_
  exact attn_eq' _ _ _ _ _ h

/-- The reference's pooled features. -/
theorem pooled_ref (g : Fin 256) (k : Fin 128) :
    pooled x0 x6 (attn x6 (theScores x0 x1 x2 x3 x4 x5 x6)) (ix2 g k) = (poolR x0 x1 x2 x3 x4 x5 x6 g.val k : EReal) := by
  rw [pooled_apply hg.ids]
  unfold poolR
  rw [Finset.sum_range, coe_sum]
  refine Finset.sum_congr rfl fun i _ => ?_
  rw [coe_ite]
  have e := seg_val hg i.val i.isLt
  have v : x0 (ix2 i k) * attn x6 (theScores x0 x1 x2 x3 x4 x5 x6) (ix1 i) = ((featR x0 k i.val * attnR x0 x1 x2 x3 x4 x5 x6 i.val : ℝ) : EReal) := by
    rw [EReal.coe_mul]
    exact congrArg₂ (· * ·) (feat_val hg i.val i.isLt k) (attn_ref hg i.val i.isLt)
  by_cases c : segN x6 i.val = g.val
  · exact (if_pos (e.trans c)).trans (v.trans (if_pos c).symm)
  · exact (if_neg (fun q => c (e.symm.trans q))).trans (if_neg c).symm

end good
end Cert.Proof.Pool.Ref
-- ==== Proof.Equal.lean ====
/-
  The kernel's two results and the reference's are equal, index by index.
-/
module

public import proofs.«01_k».proof.Proof.KernelResult
public import proofs.«01_k».proof.Proof.RefValue

@[expose] public section

noncomputable section

namespace Cert.Proof.Pool

open Idealize.ShloMosaic Idealize.ShloMosaic.TcCoe Idealize.SL.Sem
open Cert.KernelIdeal Cert.KernelIdeal.Gen

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The arguments on a device are the same in the two launches. -/
def Agree (c : Dev nD) : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)
  ∧ m' ((c.tc : Thread Cert.ReferenceIdeal.nD Cert.ReferenceIdeal.τ).loc Cert.ReferenceIdeal.main_arg5) = m ((c.tc : Thread nD τ).loc main_arg5)
  ∧ m' ((c.tc : Thread Cert.ReferenceIdeal.nD Cert.ReferenceIdeal.τ).loc Cert.ReferenceIdeal.main_arg6) = m ((c.tc : Thread nD τ).loc main_arg6)

variable {m m'} {c : Dev nD} (hg : GoodAt m c) (h : Agree m m' c)
include hg h

theorem ref28 : Cert.ReferenceIdeal.Value.res_main_v28 m' c
    = Ref.attn (A6 m c) (Ref.theScores (A0 m c) (A1 m c) (A2 m c) (A3 m c) (A4 m c) (A5 m c) (A6 m c)) := by
  obtain ⟨e0, e1, e2, e3, e4, e5, e6⟩ := h
  rw [Ref.res28, e0, e1, e2, e3, e4, e5, e6]

theorem attn_same : (Cert.ReferenceIdeal.Value.res_main_v28 m' c : FVec Ideal S100000 .f32) = V5 m c (Proc.devRef .tc main_v17) := by
  refine (ref28 hg h).trans (funext fun i => ?_)
  have e := ValueIdx.eq_ix1 (n := 100000) i
  rw [e]
  exact (Ref.attn_ref hg (i 0).val (i 0).isLt).trans (attn_kernel hg (i 0).val (i 0).isLt).symm

theorem pooled_same : (Cert.ReferenceIdeal.Value.res_main_v34 m' c : FVec Ideal S256x128 .f32) = V5 m c (Proc.devRef .tc main_v10_3) := by
  rw [Ref.res34, ref28 hg h]
  obtain ⟨e0, e1, e2, e3, e4, e5, e6⟩ := h
  rw [e0, e6]
  refine funext fun i => ?_
  have e := ValueIdx.eq_ix2 (n0 := 256) (n1 := 128) i
  rw [e]
  exact (Ref.pooled_ref hg (i 0) (i 1)).trans (pooled_kernel hg (i 0) (i 1)).symm

omit hg h in
theorem algebraic : Cert.algebraic_KernelIdeal_ReferenceIdeal_pre_sorted_finite := by
  intro m g m' g' hp ha
  have hg : ∀ c, GoodAt m c := fun c => good_of_pre _ _ _ _ _ _ _ (hp c)
  refine ⟨fun c => V5 m c (Proc.devRef .tc main_v10_3), fun c => V5 m c (Proc.devRef .tc main_v17), ?_, ?_⟩
  · refine (θ_run Cert.KernelIdeal.defs _ _).mono (fun r hr c => ?_) (run_args (F := Ideal) m g fun c j => (hg c).ids j)
    obtain ⟨hk, h0, h1⟩ := hr.1 c
    exact ⟨h0, h1, hk _ (by decide), hk _ (by decide), hk _ (by decide), hk _ (by decide), hk _ (by decide), hk _ (by decide), hk _ (by decide)⟩
  · refine (θ_run Cert.ReferenceIdeal.defs _ _).mono (fun r hr c => ?_) (Cert.ReferenceIdeal.Value.run (F := Ideal) m' g')
    obtain ⟨h0, h1, hk⟩ := hr c
    exact ⟨h0.trans (pooled_same (hg c) (ha c)), h1.trans (attn_same (hg c) (ha c)), hk⟩

end Cert.Proof.Pool

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_sorted_finite
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts, Cert.Pre_sorted_finite.Gen.facts, Pool.frame_kernel, Pool.frame_ideal, Pool.frame_ideal_sorted, Pool.frame_reference, Pool.frame_reference_sorted, trivial, Pool.algebraic⟩

end Cert.Proof

end
